-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)) (v6 : (c : Dev Cert.KernelIdeal.nD) → Buf (Elt Ideal) ((c.tc : Thread Cert.KernelIdeal.nD Cert.KernelIdeal.τ).loc Cert.KernelIdeal.main_v1_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_v1_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_v1_5) = v5 c
          ∧ r.2.mem ((c.tc : Thread Cert.ReferenceIdeal.nD Cert.ReferenceIdeal.τ).loc Cert.ReferenceIdeal.main_v1_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x1x7168 : Shape := ⟨3, ![3, 1, 7168]⟩
abbrev S5x7168x7168 : Shape := ⟨3, ![5, 7168, 7168]⟩
abbrev S5x7168 : Shape := ⟨2, ![5, 7168]⟩
abbrev S32000x7168 : Shape := ⟨2, ![32000, 7168]⟩
abbrev S32000 : Shape := ⟨1, ![32000]⟩
abbrev S3x1x6x8 : Shape := ⟨4, ![3, 1, 6, 8]⟩
abbrev S250x128 : Shape := ⟨2, ![250, 128]⟩
abbrev S3x1x6 : Shape := ⟨3, ![3, 1, 6]⟩
abbrev S3x1 : Shape := ⟨2, ![3, 1]⟩
abbrev S3x1x5x7168 : Shape := ⟨4, ![3, 1, 5, 7168]⟩
abbrev S3x1x5 : Shape := ⟨3, ![3, 1, 5]⟩
abbrev S6x7168x512 : Shape := ⟨3, ![6, 7168, 512]⟩
abbrev S3x1280x7168 : Shape := ⟨3, ![3, 1280, 7168]⟩
abbrev S6 : Shape := ⟨1, ![6]⟩
abbrev S3 : Shape := ⟨1, ![3]⟩
abbrev S24x7168 : Shape := ⟨2, ![24, 7168]⟩
abbrev S32x7168 : Shape := ⟨2, ![32, 7168]⟩
abbrev S9x24x128 : Shape := ⟨3, ![9, 24, 128]⟩
abbrev S8x24x128 : Shape := ⟨3, ![8, 24, 128]⟩
abbrev S1 : Shape := ⟨1, ![1]⟩
abbrev S_ : Shape := ⟨0, ![]⟩
abbrev S1x7168x512 : Shape := ⟨3, ![1, 7168, 512]⟩
abbrev S7168x512 : Shape := ⟨2, ![7168, 512]⟩
abbrev S24x1 : Shape := ⟨2, ![24, 1]⟩
abbrev S24x512 : Shape := ⟨2, ![24, 512]⟩
abbrev S1x1x512 : Shape := ⟨3, ![1, 1, 512]⟩
abbrev S1x512 : Shape := ⟨2, ![1, 512]⟩
abbrev S24x128 : Shape := ⟨2, ![24, 128]⟩
abbrev S24 : Shape := ⟨1, ![24]⟩
abbrev S24x256 : Shape := ⟨2, ![24, 256]⟩
abbrev S8x512 : Shape := ⟨2, ![8, 512]⟩
abbrev S32x512 : Shape := ⟨2, ![32, 512]⟩
abbrev S1x1280x7168 : Shape := ⟨3, ![1, 1280, 7168]⟩
abbrev S1280x7168 : Shape := ⟨2, ![1280, 7168]⟩
abbrev S1x1x6x8 : Shape := ⟨4, ![1, 1, 6, 8]⟩
abbrev S6x8 : Shape := ⟨2, ![6, 8]⟩
abbrev S1x6x8 : Shape := ⟨3, ![1, 6, 8]⟩
abbrev S1x24x128 : Shape := ⟨3, ![1, 24, 128]⟩
abbrev S1x256x7168 : Shape := ⟨3, ![1, 256, 7168]⟩
abbrev S256x7168 : Shape := ⟨2, ![256, 7168]⟩
abbrev S32x256 : Shape := ⟨2, ![32, 256]⟩
abbrev S1x128 : Shape := ⟨2, ![1, 128]⟩
abbrev S128 : Shape := ⟨1, ![128]⟩
abbrev S1x6 : Shape := ⟨2, ![1, 6]⟩
abbrev S1x1x6 : Shape := ⟨3, ![1, 1, 6]⟩
abbrev S1x1 : Shape := ⟨2, ![1, 1]⟩
abbrev S1x5 : Shape := ⟨2, ![1, 5]⟩
abbrev S1x1x5 : Shape := ⟨3, ![1, 1, 5]⟩
abbrev S5x512 : Shape := ⟨2, ![5, 512]⟩
abbrev S1x1x5x512 : Shape := ⟨4, ![1, 1, 5, 512]⟩

abbrev nBuf : Space → Nat
  | .hbm => 15
  | .vmem => 18
  | .smem => 0
  | _ => 0

abbrev bufTy : (tb : Table) → Fin (tcTables nBuf tb) → BufTy
  | .hbm, ⟨0, _⟩ => ⟨S3x1x7168, .bf16⟩
  | .hbm, ⟨1, _⟩ => ⟨S5x7168x7168, .fp8e4m3⟩
  | .hbm, ⟨2, _⟩ => ⟨S5x7168, .f32⟩
  | .hbm, ⟨3, _⟩ => ⟨S5x7168, .f32⟩
  | .hbm, ⟨4, _⟩ => ⟨S32000x7168, .fp8e4m3⟩
  | .hbm, ⟨5, _⟩ => ⟨S32000, .f32⟩
  | .hbm, ⟨6, _⟩ => ⟨S3x1x6x8, .i32⟩
  | .hbm, ⟨7, _⟩ => ⟨S250x128, .f32⟩
  | .hbm, ⟨8, _⟩ => ⟨S3x1x6, .f32⟩
  | .hbm, ⟨9, _⟩ => ⟨S3x1x6, .f32⟩
  | .hbm, ⟨10, _⟩ => ⟨S3x1x6x8, .f32⟩
  | .hbm, ⟨11, _⟩ => ⟨S3x1x7168, .fp8e4m3⟩
  | .hbm, ⟨12, _⟩ => ⟨S3x1, .f32⟩
  | .hbm, ⟨13, _⟩ => ⟨S3x1x5x7168, .fp8e4m3⟩
  | .hbm, ⟨14, _⟩ => ⟨S3x1x5, .f32⟩
  | .local _ .vmem, ⟨0, _⟩ => ⟨S3x1x7168, .bf16⟩
  | .local _ .vmem, ⟨1, _⟩ => ⟨S5x7168, .f32⟩
  | .local _ .vmem, ⟨2, _⟩ => ⟨S5x7168, .f32⟩
  | .local _ .vmem, ⟨3, _⟩ => ⟨S250x128, .f32⟩
  | .local _ .vmem, ⟨4, _⟩ => ⟨S3x1x6x8, .i32⟩
  | .local _ .vmem, ⟨5, _⟩ => ⟨S3x1x6, .f32⟩
  | .local _ .vmem, ⟨6, _⟩ => ⟨S3x1x6, .f32⟩
  | .local _ .vmem, ⟨7, _⟩ => ⟨S3x1x6x8, .f32⟩
  | .local _ .vmem, ⟨8, _⟩ => ⟨S3x1x7168, .fp8e4m3⟩
  | .local _ .vmem, ⟨9, _⟩ => ⟨S3x1, .f32⟩
  | .local _ .vmem, ⟨10, _⟩ => ⟨S3x1x5x7168, .fp8e4m3⟩
  | .local _ .vmem, ⟨11, _⟩ => ⟨S3x1x5, .f32⟩
  | .local _ .vmem, ⟨12, _⟩ => ⟨S6x7168x512, .fp8e4m3⟩
  | .local _ .vmem, ⟨13, _⟩ => ⟨S3x1280x7168, .fp8e4m3⟩
  | .local _ .vmem, ⟨14, _⟩ => ⟨S24x7168, .f32⟩
  | .local _ .vmem, ⟨15, _⟩ => ⟨S32x7168, .fp8e4m3⟩
  | .local _ .vmem, ⟨16, _⟩ => ⟨S9x24x128, .i32⟩
  | .local _ .vmem, ⟨17, _⟩ => ⟨S8x24x128, .f32⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
@[reducible] def k0_t1_loop : Scf.Loop 32 :=
  let c0_i32_627 : BitVec 32 := 0#32
  let c70_i32 : BitVec 32 := 70#32
  let v1248 : BitVec 32 := Scalar.addi c0_i32_627 c70_i32
  let c1_i32_628 : BitVec 32 := 1#32
  ⟨c0_i32_627, v1248, c1_i32_628⟩
def k0_mult7 (k0_t1 : Fin k0_t1_loop.trips) : BitVec 32 :=
  let c0_i32_627 : BitVec 32 := 0#32
  let c1_i32_628 : BitVec 32 := 1#32
  let arg22 : BitVec 32 := Scf.iv c0_i32_627 c1_i32_628 k0_t1
  let c14_i32_1333 : BitVec 32 := 14#32
  let c0_i32_1334 : BitVec 32 := 0#32
  let v2380 : BitVec 1 := Scalar.cmpi .eq c14_i32_1333 c0_i32_1334
  let c1_i32_1335 : BitVec 32 := 1#32
  let v2381 : BitVec 32 := Scalar.select v2380 c1_i32_1335 c14_i32_1333
  let v2382 : BitVec 32 := Scalar.remsi arg22 v2381
  let c0_i32_1337 : BitVec 32 := 0#32
  let v2384 : BitVec 1 := Scalar.cmpi .slt v2382 c0_i32_1337
  let c0_i32_1338 : BitVec 32 := 0#32
  let v2385 : BitVec 1 := Scalar.cmpi .slt v2381 c0_i32_1338
  let v2386 : BitVec 1 := Scalar.xori v2384 v2385
  let c0_i32_1336 : BitVec 32 := 0#32
  let v2383 : BitVec 1 := Scalar.cmpi .ne v2382 c0_i32_1336
  let v2387 : BitVec 1 := Scalar.andi v2386 v2383
  let v2388 : BitVec 32 := Scalar.addi v2382 v2381
  let v2389 : BitVec 32 := Scalar.select v2387 v2388 v2382
  let c512_i32_1339 : BitVec 32 := 512#32
  let v2390 : BitVec 32 := Scalar.muli v2389 c512_i32_1339
  v2390
def k0_mult8 (k0_t1 : Fin k0_t1_loop.trips) : BitVec 32 :=
  let c0_i32_627 : BitVec 32 := 0#32
  let c1_i32_628 : BitVec 32 := 1#32
  let arg22 : BitVec 32 := Scf.iv c0_i32_627 c1_i32_628 k0_t1
  let c14_i32_1347 : BitVec 32 := 14#32
  let c0_i32_1348 : BitVec 32 := 0#32
  let v2409 : BitVec 1 := Scalar.cmpi .eq c14_i32_1347 c0_i32_1348
  let c1_i32_1349 : BitVec 32 := 1#32
  let v2410 : BitVec 32 := Scalar.select v2409 c1_i32_1349 c14_i32_1347
  let v2411 : BitVec 32 := Scalar.remsi arg22 v2410
  let c0_i32_1351 : BitVec 32 := 0#32
  let v2413 : BitVec 1 := Scalar.cmpi .slt v2411 c0_i32_1351
  let c0_i32_1352 : BitVec 32 := 0#32
  let v2414 : BitVec 1 := Scalar.cmpi .slt v2410 c0_i32_1352
  let v2415 : BitVec 1 := Scalar.xori v2413 v2414
  let c0_i32_1350 : BitVec 32 := 0#32
  let v2412 : BitVec 1 := Scalar.cmpi .ne v2411 c0_i32_1350
  let v2416 : BitVec 1 := Scalar.andi v2415 v2412
  let v2417 : BitVec 32 := Scalar.addi v2411 v2410
  let v2418 : BitVec 32 := Scalar.select v2416 v2417 v2411
  let c512_i32_1353 : BitVec 32 := 512#32
  let v2419 : BitVec 32 := Scalar.muli v2418 c512_i32_1353
  v2419
def k0_off1 (k0_t1 : Fin k0_t1_loop.trips) : Fin 1 → Nat :=
  let c0_i32_627 : BitVec 32 := 0#32
  let c1_i32_628 : BitVec 32 := 1#32
  let arg22 : BitVec 32 := Scf.iv c0_i32_627 c1_i32_628 k0_t1
  let c6_i32_1321 : BitVec 32 := 6#32
  let c0_i32_1322 : BitVec 32 := 0#32
  let v2353 : BitVec 1 := Scalar.cmpi .eq c6_i32_1321 c0_i32_1322
  let c1_i32_1323 : BitVec 32 := 1#32
  let v2354 : BitVec 32 := Scalar.select v2353 c1_i32_1323 c6_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  ![v2362.toNat]
def k0_off2 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c6_i32_1321 : BitVec 32 := 6#32
  let c0_i32_1322 : BitVec 32 := 0#32
  let v2353 : BitVec 1 := Scalar.cmpi .eq c6_i32_1321 c0_i32_1322
  let c1_i32_1323 : BitVec 32 := 1#32
  let v2354 : BitVec 32 := Scalar.select v2353 c1_i32_1323 c6_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let c0_i32_1354 : BitVec 32 := 0#32
  let c0_i32_1355 : BitVec 32 := 0#32
  ![v2362.toNat, 0, 0]
def k0_off3 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c0_i32_1341 : BitVec 32 := 0#32
  let v2393 : BitVec 1 := Scalar.cmpi .sgt arg22 c0_i32_1341
  let v2394 : BitVec 32 := Scalar.extui v2393
  let c0_i32_1342 : BitVec 32 := 0#32
  let v2395 : BitVec 1 := Scalar.cmpi .slt arg22 c0_i32_1342
  let v2396 : BitVec 32 := Scalar.extui v2395
  let v2397 : BitVec 32 := Scalar.subi v2394 v2396
  let c14_i32_1340 : BitVec 32 := 14#32
  let c0_i32_1343 : BitVec 32 := 0#32
  let v2398 : BitVec 1 := Scalar.cmpi .sgt c14_i32_1340 c0_i32_1343
  let v2399 : BitVec 32 := Scalar.extui v2398
  let c0_i32_1344 : BitVec 32 := 0#32
  let v2400 : BitVec 1 := Scalar.cmpi .slt c14_i32_1340 c0_i32_1344
  let v2401 : BitVec 32 := Scalar.extui v2400
  let v2402 : BitVec 32 := Scalar.subi v2399 v2401
  let v2403 : BitVec 1 := Scalar.cmpi .ne v2397 v2402
  let v2404 : BitVec 32 := Scalar.remsi arg22 c14_i32_1340
  let c0_i32_1345 : BitVec 32 := 0#32
  let v2405 : BitVec 1 := Scalar.cmpi .ne v2404 c0_i32_1345
  let v2406 : BitVec 1 := Scalar.andi v2403 v2405
  let v2392 : BitVec 32 := Scalar.divsi arg22 c14_i32_1340
  let c1_i32_1346 : BitVec 32 := 1#32
  let v2407 : BitVec 32 := Scalar.subi v2392 c1_i32_1346
  let v2408 : BitVec 32 := Scalar.select v2406 v2407 v2392
  let c0_i32_1356 : BitVec 32 := 0#32
  let c14_i32_1347 : BitVec 32 := 14#32
  let c0_i32_1348 : BitVec 32 := 0#32
  let v2409 : BitVec 1 := Scalar.cmpi .eq c14_i32_1347 c0_i32_1348
  let c1_i32_1349 : BitVec 32 := 1#32
  let v2410 : BitVec 32 := Scalar.select v2409 c1_i32_1349 c14_i32_1347
  let v2411 : BitVec 32 := Scalar.remsi arg22 v2410
  let c0_i32_1351 : BitVec 32 := 0#32
  let v2413 : BitVec 1 := Scalar.cmpi .slt v2411 c0_i32_1351
  let c0_i32_1352 : BitVec 32 := 0#32
  let v2414 : BitVec 1 := Scalar.cmpi .slt v2410 c0_i32_1352
  let v2415 : BitVec 1 := Scalar.xori v2413 v2414
  let c0_i32_1350 : BitVec 32 := 0#32
  let v2412 : BitVec 1 := Scalar.cmpi .ne v2411 c0_i32_1350
  let v2416 : BitVec 1 := Scalar.andi v2415 v2412
  let v2417 : BitVec 32 := Scalar.addi v2411 v2410
  let v2418 : BitVec 32 := Scalar.select v2416 v2417 v2411
  let c512_i32_1353 : BitVec 32 := 512#32
  let v2419 : BitVec 32 := Scalar.muli v2418 c512_i32_1353
  let v2420 : BitVec 32 := v2419
  ![v2408.toNat, 0, v2420.toNat]
def k0_off4 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c6_i32_1321 : BitVec 32 := 6#32
  let c0_i32_1322 : BitVec 32 := 0#32
  let v2353 : BitVec 1 := Scalar.cmpi .eq c6_i32_1321 c0_i32_1322
  let c1_i32_1323 : BitVec 32 := 1#32
  let v2354 : BitVec 32 := Scalar.select v2353 c1_i32_1323 c6_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v2428 : Index := Scalar.indexCast v2362
  let c0_1359 : Index := 0#32
  let c0_1360 : Index := 0#32
  ![v2428.toNat, 0, 0]
def k0_off5 (k0_t1 : Fin k0_t1_loop.trips) : Fin 2 → Nat :=
  let c0_i32_627 : BitVec 32 := 0#32
  let c1_i32_628 : BitVec 32 := 1#32
  let arg22 : BitVec 32 := Scf.iv c0_i32_627 c1_i32_628 k0_t1
  let c0_i32_1327 : BitVec 32 := 0#32
  let v2364 : BitVec 1 := Scalar.cmpi .sgt arg22 c0_i32_1327
  let v2365 : BitVec 32 := Scalar.extui v2364
  let c0_i32_1328 : BitVec 32 := 0#32
  let v2366 : BitVec 1 := Scalar.cmpi .slt arg22 c0_i32_1328
  let v2367 : BitVec 32 := Scalar.extui v2366
  let v2368 : BitVec 32 := Scalar.subi v2365 v2367
  let c14_i32 : BitVec 32 := 14#32
  let c0_i32_1329 : BitVec 32 := 0#32
  let v2369 : BitVec 1 := Scalar.cmpi .sgt c14_i32 c0_i32_1329
  let v2370 : BitVec 32 := Scalar.extui v2369
  let c0_i32_1330 : BitVec 32 := 0#32
  let v2371 : BitVec 1 := Scalar.cmpi .slt c14_i32 c0_i32_1330
  let v2372 : BitVec 32 := Scalar.extui v2371
  let v2373 : BitVec 32 := Scalar.subi v2370 v2372
  let v2374 : BitVec 1 := Scalar.cmpi .ne v2368 v2373
  let v2375 : BitVec 32 := Scalar.remsi arg22 c14_i32
  let c0_i32_1331 : BitVec 32 := 0#32
  let v2376 : BitVec 1 := Scalar.cmpi .ne v2375 c0_i32_1331
  let v2377 : BitVec 1 := Scalar.andi v2374 v2376
  let v2363 : BitVec 32 := Scalar.divsi arg22 c14_i32
  let c1_i32_1332 : BitVec 32 := 1#32
  let v2378 : BitVec 32 := Scalar.subi v2363 c1_i32_1332
  let v2379 : BitVec 32 := Scalar.select v2377 v2378 v2363
  let v2435 : Index := Scalar.indexCast v2379
  let c14_i32_1333 : BitVec 32 := 14#32
  let c0_i32_1334 : BitVec 32 := 0#32
  let v2380 : BitVec 1 := Scalar.cmpi .eq c14_i32_1333 c0_i32_1334
  let c1_i32_1335 : BitVec 32 := 1#32
  let v2381 : BitVec 32 := Scalar.select v2380 c1_i32_1335 c14_i32_1333
  let v2382 : BitVec 32 := Scalar.remsi arg22 v2381
  let c0_i32_1337 : BitVec 32 := 0#32
  let v2384 : BitVec 1 := Scalar.cmpi .slt v2382 c0_i32_1337
  let c0_i32_1338 : BitVec 32 := 0#32
  let v2385 : BitVec 1 := Scalar.cmpi .slt v2381 c0_i32_1338
  let v2386 : BitVec 1 := Scalar.xori v2384 v2385
  let c0_i32_1336 : BitVec 32 := 0#32
  let v2383 : BitVec 1 := Scalar.cmpi .ne v2382 c0_i32_1336
  let v2387 : BitVec 1 := Scalar.andi v2386 v2383
  let v2388 : BitVec 32 := Scalar.addi v2382 v2381
  let v2389 : BitVec 32 := Scalar.select v2387 v2388 v2382
  let c512_i32_1339 : BitVec 32 := 512#32
  let v2390 : BitVec 32 := Scalar.muli v2389 c512_i32_1339
  let v2391 : BitVec 32 := v2390
  let v2436 : Index := Scalar.indexCast v2391
  ![v2435.toNat, v2436.toNat]
def k0_off6 (k0_t1 : Fin k0_t1_loop.trips) : Fin 2 → Nat :=
  let c0_1362 : Index := 0#32
  let c0_i32_627 : BitVec 32 := 0#32
  let c1_i32_628 : BitVec 32 := 1#32
  let arg22 : BitVec 32 := Scf.iv c0_i32_627 c1_i32_628 k0_t1
  let c14_i32_1333 : BitVec 32 := 14#32
  let c0_i32_1334 : BitVec 32 := 0#32
  let v2380 : BitVec 1 := Scalar.cmpi .eq c14_i32_1333 c0_i32_1334
  let c1_i32_1335 : BitVec 32 := 1#32
  let v2381 : BitVec 32 := Scalar.select v2380 c1_i32_1335 c14_i32_1333
  let v2382 : BitVec 32 := Scalar.remsi arg22 v2381
  let c0_i32_1337 : BitVec 32 := 0#32
  let v2384 : BitVec 1 := Scalar.cmpi .slt v2382 c0_i32_1337
  let c0_i32_1338 : BitVec 32 := 0#32
  let v2385 : BitVec 1 := Scalar.cmpi .slt v2381 c0_i32_1338
  let v2386 : BitVec 1 := Scalar.xori v2384 v2385
  let c0_i32_1336 : BitVec 32 := 0#32
  let v2383 : BitVec 1 := Scalar.cmpi .ne v2382 c0_i32_1336
  let v2387 : BitVec 1 := Scalar.andi v2386 v2383
  let v2388 : BitVec 32 := Scalar.addi v2382 v2381
  let v2389 : BitVec 32 := Scalar.select v2387 v2388 v2382
  let c512_i32_1339 : BitVec 32 := 512#32
  let v2390 : BitVec 32 := Scalar.muli v2389 c512_i32_1339
  let v2391 : BitVec 32 := v2390
  let v2445 : Index := Scalar.indexCast v2391
  ![0, v2445.toNat]
def k0_cond1 (k0_t1 : Fin k0_t1_loop.trips) : BitVec 1 :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1366 : BitVec 32 := 70#32
  let v2461 : BitVec 1 := Scalar.cmpi .slt v2460 c70_i32_1366
  let v2462 : BitVec 32 := Scalar.extui v2461
  let c0_i32_1367 : BitVec 32 := 0#32
  let v2463 : BitVec 1 := Scalar.cmpi .ne v2462 c0_i32_1367
  v2463

def k0_mult9 (k0_t1 : Fin k0_t1_loop.trips) : BitVec 32 :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c14_i32_1379 : BitVec 32 := 14#32
  let c0_i32_1380 : BitVec 32 := 0#32
  let v2487 : BitVec 1 := Scalar.cmpi .eq c14_i32_1379 c0_i32_1380
  let c1_i32_1381 : BitVec 32 := 1#32
  let v2488 : BitVec 32 := Scalar.select v2487 c1_i32_1381 c14_i32_1379
  let v2489 : BitVec 32 := Scalar.remsi v2460 v2488
  let c0_i32_1383 : BitVec 32 := 0#32
  let v2491 : BitVec 1 := Scalar.cmpi .slt v2489 c0_i32_1383
  let c0_i32_1384 : BitVec 32 := 0#32
  let v2492 : BitVec 1 := Scalar.cmpi .slt v2488 c0_i32_1384
  let v2493 : BitVec 1 := Scalar.xori v2491 v2492
  let c0_i32_1382 : BitVec 32 := 0#32
  let v2490 : BitVec 1 := Scalar.cmpi .ne v2489 c0_i32_1382
  let v2494 : BitVec 1 := Scalar.andi v2493 v2490
  let v2495 : BitVec 32 := Scalar.addi v2489 v2488
  let v2496 : BitVec 32 := Scalar.select v2494 v2495 v2489
  let c512_i32_1385 : BitVec 32 := 512#32
  let v2497 : BitVec 32 := Scalar.muli v2496 c512_i32_1385
  v2497
def k0_off7 (k0_t1 : Fin k0_t1_loop.trips) : Fin 1 → Nat :=
  let c0_i32_627 : BitVec 32 := 0#32
  let c1_i32_628 : BitVec 32 := 1#32
  let arg22 : BitVec 32 := Scf.iv c0_i32_627 c1_i32_628 k0_t1
  let c6_i32_1321 : BitVec 32 := 6#32
  let c0_i32_1322 : BitVec 32 := 0#32
  let v2353 : BitVec 1 := Scalar.cmpi .eq c6_i32_1321 c0_i32_1322
  let c1_i32_1323 : BitVec 32 := 1#32
  let v2354 : BitVec 32 := Scalar.select v2353 c1_i32_1323 c6_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  ![v2362.toNat]
def k0_off8 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c6_i32_1321 : BitVec 32 := 6#32
  let c0_i32_1322 : BitVec 32 := 0#32
  let v2353 : BitVec 1 := Scalar.cmpi .eq c6_i32_1321 c0_i32_1322
  let c1_i32_1323 : BitVec 32 := 1#32
  let v2354 : BitVec 32 := Scalar.select v2353 c1_i32_1323 c6_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let c0_i32_1386 : BitVec 32 := 0#32
  let c0_i32_1387 : BitVec 32 := 0#32
  ![v2362.toNat, 0, 0]
def k0_off9 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c0_i32_1373 : BitVec 32 := 0#32
  let v2471 : BitVec 1 := Scalar.cmpi .sgt v2460 c0_i32_1373
  let v2472 : BitVec 32 := Scalar.extui v2471
  let c0_i32_1374 : BitVec 32 := 0#32
  let v2473 : BitVec 1 := Scalar.cmpi .slt v2460 c0_i32_1374
  let v2474 : BitVec 32 := Scalar.extui v2473
  let v2475 : BitVec 32 := Scalar.subi v2472 v2474
  let c14_i32_1372 : BitVec 32 := 14#32
  let c0_i32_1375 : BitVec 32 := 0#32
  let v2476 : BitVec 1 := Scalar.cmpi .sgt c14_i32_1372 c0_i32_1375
  let v2477 : BitVec 32 := Scalar.extui v2476
  let c0_i32_1376 : BitVec 32 := 0#32
  let v2478 : BitVec 1 := Scalar.cmpi .slt c14_i32_1372 c0_i32_1376
  let v2479 : BitVec 32 := Scalar.extui v2478
  let v2480 : BitVec 32 := Scalar.subi v2477 v2479
  let v2481 : BitVec 1 := Scalar.cmpi .ne v2475 v2480
  let v2482 : BitVec 32 := Scalar.remsi v2460 c14_i32_1372
  let c0_i32_1377 : BitVec 32 := 0#32
  let v2483 : BitVec 1 := Scalar.cmpi .ne v2482 c0_i32_1377
  let v2484 : BitVec 1 := Scalar.andi v2481 v2483
  let v2470 : BitVec 32 := Scalar.divsi v2460 c14_i32_1372
  let c1_i32_1378 : BitVec 32 := 1#32
  let v2485 : BitVec 32 := Scalar.subi v2470 c1_i32_1378
  let v2486 : BitVec 32 := Scalar.select v2484 v2485 v2470
  let c0_i32_1388 : BitVec 32 := 0#32
  let c14_i32_1379 : BitVec 32 := 14#32
  let c0_i32_1380 : BitVec 32 := 0#32
  let v2487 : BitVec 1 := Scalar.cmpi .eq c14_i32_1379 c0_i32_1380
  let c1_i32_1381 : BitVec 32 := 1#32
  let v2488 : BitVec 32 := Scalar.select v2487 c1_i32_1381 c14_i32_1379
  let v2489 : BitVec 32 := Scalar.remsi v2460 v2488
  let c0_i32_1383 : BitVec 32 := 0#32
  let v2491 : BitVec 1 := Scalar.cmpi .slt v2489 c0_i32_1383
  let c0_i32_1384 : BitVec 32 := 0#32
  let v2492 : BitVec 1 := Scalar.cmpi .slt v2488 c0_i32_1384
  let v2493 : BitVec 1 := Scalar.xori v2491 v2492
  let c0_i32_1382 : BitVec 32 := 0#32
  let v2490 : BitVec 1 := Scalar.cmpi .ne v2489 c0_i32_1382
  let v2494 : BitVec 1 := Scalar.andi v2493 v2490
  let v2495 : BitVec 32 := Scalar.addi v2489 v2488
  let v2496 : BitVec 32 := Scalar.select v2494 v2495 v2489
  let c512_i32_1385 : BitVec 32 := 512#32
  let v2497 : BitVec 32 := Scalar.muli v2496 c512_i32_1385
  let v2498 : BitVec 32 := v2497
  ![v2486.toNat, 0, v2498.toNat]
def k0_cond2 (k0_t1 : Fin k0_t1_loop.trips) : BitVec 1 :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1368 : BitVec 32 := 70#32
  let v2464 : BitVec 1 := Scalar.cmpi .sge v2460 c70_i32_1368
  let c70_i32_1369 : BitVec 32 := 70#32
  let v2465 : BitVec 32 := Scalar.subi v2460 c70_i32_1369
  let c3_i32_1370 : BitVec 32 := 3#32
  let v2466 : BitVec 1 := Scalar.cmpi .slt v2465 c3_i32_1370
  let v2467 : BitVec 1 := Scalar.andi v2464 v2466
  let v2468 : BitVec 32 := Scalar.extui v2467
  let c0_i32_1371 : BitVec 32 := 0#32
  let v2469 : BitVec 1 := Scalar.cmpi .ne v2468 c0_i32_1371
  v2469

def k0_mult10 (k0_t1 : Fin k0_t1_loop.trips) : BitVec 32 :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1372 : BitVec 32 := 70#32
  let v2470 : BitVec 32 := Scalar.subi v2460 c70_i32_1372
  let c1280_i32 : BitVec 32 := 1280#32
  let v2472 : BitVec 32 := Scalar.muli v2470 c1280_i32
  v2472
def k0_off10 (k0_t1 : Fin k0_t1_loop.trips) : Fin 1 → Nat :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1373 : BitVec 32 := 70#32
  let v2471 : BitVec 32 := Scalar.subi v2460 c70_i32_1373
  ![v2471.toNat]
def k0_off11 (k0_t1 : Fin k0_t1_loop.trips) : Fin 3 → Nat :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1373 : BitVec 32 := 70#32
  let v2471 : BitVec 32 := Scalar.subi v2460 c70_i32_1373
  let c0_i32_1374 : BitVec 32 := 0#32
  let c0_i32_1375 : BitVec 32 := 0#32
  ![v2471.toNat, 0, 0]
def k0_off12 (k0_t1 : Fin k0_t1_loop.trips) : Fin 2 → Nat :=
  let c0_i32_627 : BitVec 32 := 0#32
  let c1_i32_628 : BitVec 32 := 1#32
  let arg22 : BitVec 32 := Scf.iv c0_i32_627 c1_i32_628 k0_t1
  let c6_i32_1365 : BitVec 32 := 6#32
  let v2460 : BitVec 32 := Scalar.addi arg22 c6_i32_1365
  let c70_i32_1372 : BitVec 32 := 70#32
  let v2470 : BitVec 32 := Scalar.subi v2460 c70_i32_1372
  let c1280_i32 : BitVec 32 := 1280#32
  let v2472 : BitVec 32 := Scalar.muli v2470 c1280_i32
  let v2473 : BitVec 32 := v2472
  let c0_i32_1376 : BitVec 32 := 0#32
  ![v2473.toNat, 0]
@[reducible] def k0_t2_loop : Scf.Loop 32 :=
  let c0_i32_933 : BitVec 32 := 0#32
  let c25_i32 : BitVec 32 := 25#32
  let v1752 : BitVec 32 := Scalar.addi c0_i32_933 c25_i32
  let c1_i32_934 : BitVec 32 := 1#32
  ⟨c0_i32_933, v1752, c1_i32_934⟩
def k0_mult11 (k0_t2 : Fin k0_t2_loop.trips) : BitVec 32 :=
  let c0_i32_933 : BitVec 32 := 0#32
  let c1_i32_934 : BitVec 32 := 1#32
  let arg22 : BitVec 32 := Scf.iv c0_i32_933 c1_i32_934 k0_t2
  let c1280_i32 : BitVec 32 := 1280#32
  let v2363 : BitVec 32 := Scalar.muli arg22 c1280_i32
  v2363
def k0_off13 (k0_t2 : Fin k0_t2_loop.trips) : Fin 1 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  ![v2362.toNat]
def k0_off14 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let c0_i32_1327 : BitVec 32 := 0#32
  let c0_i32_1328 : BitVec 32 := 0#32
  ![v2362.toNat, 0, 0]
def k0_off15 (k0_t2 : Fin k0_t2_loop.trips) : Fin 2 → Nat :=
  let c0_i32_933 : BitVec 32 := 0#32
  let c1_i32_934 : BitVec 32 := 1#32
  let arg22 : BitVec 32 := Scf.iv c0_i32_933 c1_i32_934 k0_t2
  let c1280_i32 : BitVec 32 := 1280#32
  let v2363 : BitVec 32 := Scalar.muli arg22 c1280_i32
  let v2364 : BitVec 32 := v2363
  let c0_i32_1329 : BitVec 32 := 0#32
  ![v2364.toNat, 0]
def k0_off16 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v2371 : Index := Scalar.indexCast v2362
  let c0_1332 : Index := 0#32
  let c0_1333 : Index := 0#32
  ![v2371.toNat, 0, 0]
def k0_off17 (k0_t2 : Fin k0_t2_loop.trips) (c0_i32_1335 : BitVec 32) : Fin 2 → Nat :=
  let c0_i32_933 : BitVec 32 := 0#32
  let c1_i32_934 : BitVec 32 := 1#32
  let arg22 : BitVec 32 := Scf.iv c0_i32_933 c1_i32_934 k0_t2
  let c10_i32 : BitVec 32 := 10#32
  let v2375 : BitVec 32 := Scalar.muli arg22 c10_i32
  let v2376 : BitVec 32 := Scalar.addi v2375 c0_i32_1335
  let v2377 : Index := Scalar.indexCast v2376
  let c0_1336 : Index := 0#32
  ![v2377.toNat, 0]
def k0_off18 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v2571 : Index := Scalar.indexCast v2362
  let c256_1489 : Index := 256#32
  let c0_1490 : Index := 0#32
  ![v2571.toNat, 256, 0]
def k0_off19 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v2771 : Index := Scalar.indexCast v2362
  let c512_1646 : Index := 512#32
  let c0_1647 : Index := 0#32
  ![v2771.toNat, 512, 0]
def k0_off20 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v2971 : Index := Scalar.indexCast v2362
  let c768_1804 : Index := 768#32
  let c0_1805 : Index := 0#32
  ![v2971.toNat, 768, 0]
def k0_off21 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let v3171 : Index := Scalar.indexCast v2362
  let c1024_1961 : Index := 1024#32
  let c0_1962 : Index := 0#32
  ![v3171.toNat, 1024, 0]
def k0_cond3 (k0_t2 : Fin k0_t2_loop.trips) : BitVec 1 :=
  let c0_i32_933 : BitVec 32 := 0#32
  let c1_i32_934 : BitVec 32 := 1#32
  let arg22 : BitVec 32 := Scf.iv c0_i32_933 c1_i32_934 k0_t2
  let c3_i32_2115 : BitVec 32 := 3#32
  let v3370 : BitVec 32 := Scalar.addi arg22 c3_i32_2115
  let c25_i32_2116 : BitVec 32 := 25#32
  let v3371 : BitVec 1 := Scalar.cmpi .slt v3370 c25_i32_2116
  let v3372 : BitVec 32 := Scalar.extui v3371
  let c0_i32_2117 : BitVec 32 := 0#32
  let v3373 : BitVec 1 := Scalar.cmpi .ne v3372 c0_i32_2117
  v3373

def k0_mult12 (k0_t2 : Fin k0_t2_loop.trips) : BitVec 32 :=
  let c0_i32_933 : BitVec 32 := 0#32
  let c1_i32_934 : BitVec 32 := 1#32
  let arg22 : BitVec 32 := Scf.iv c0_i32_933 c1_i32_934 k0_t2
  let c3_i32_2118 : BitVec 32 := 3#32
  let v3374 : BitVec 32 := Scalar.addi arg22 c3_i32_2118
  let c1280_i32_2119 : BitVec 32 := 1280#32
  let v3375 : BitVec 32 := Scalar.muli v3374 c1280_i32_2119
  v3375
def k0_off22 (k0_t2 : Fin k0_t2_loop.trips) : Fin 1 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  ![v2362.toNat]
def k0_off23 (k0_t2 : Fin k0_t2_loop.trips) : Fin 3 → Nat :=
  let c0_i32_933 : BitVec 32 := 0#32
  let c1_i32_934 : BitVec 32 := 1#32
  let arg22 : BitVec 32 := Scf.iv c0_i32_933 c1_i32_934 k0_t2
  let c3_i32_1321 : BitVec 32 := 3#32
  let c0_i32_1322 : BitVec 32 := 0#32
  let v2353 : BitVec 1 := Scalar.cmpi .eq c3_i32_1321 c0_i32_1322
  let c1_i32_1323 : BitVec 32 := 1#32
  let v2354 : BitVec 32 := Scalar.select v2353 c1_i32_1323 c3_i32_1321
  let v2355 : BitVec 32 := Scalar.remsi arg22 v2354
  let c0_i32_1325 : BitVec 32 := 0#32
  let v2357 : BitVec 1 := Scalar.cmpi .slt v2355 c0_i32_1325
  let c0_i32_1326 : BitVec 32 := 0#32
  let v2358 : BitVec 1 := Scalar.cmpi .slt v2354 c0_i32_1326
  let v2359 : BitVec 1 := Scalar.xori v2357 v2358
  let c0_i32_1324 : BitVec 32 := 0#32
  let v2356 : BitVec 1 := Scalar.cmpi .ne v2355 c0_i32_1324
  let v2360 : BitVec 1 := Scalar.andi v2359 v2356
  let v2361 : BitVec 32 := Scalar.addi v2355 v2354
  let v2362 : BitVec 32 := Scalar.select v2360 v2361 v2355
  let c0_i32_2120 : BitVec 32 := 0#32
  let c0_i32_2121 : BitVec 32 := 0#32
  ![v2362.toNat, 0, 0]
def k0_off24 (k0_t2 : Fin k0_t2_loop.trips) : Fin 2 → Nat :=
  let c0_i32_933 : BitVec 32 := 0#32
  let c1_i32_934 : BitVec 32 := 1#32
  let arg22 : BitVec 32 := Scf.iv c0_i32_933 c1_i32_934 k0_t2
  let c3_i32_2118 : BitVec 32 := 3#32
  let v3374 : BitVec 32 := Scalar.addi arg22 c3_i32_2118
  let c1280_i32_2119 : BitVec 32 := 1280#32
  let v3375 : BitVec 32 := Scalar.muli v3374 c1280_i32_2119
  let v3376 : BitVec 32 := v3375
  let c0_i32_2122 : BitVec 32 := 0#32
  ![v3376.toNat, 0]
abbrev stage0_0 : Fin 1 → Memref sig .tc .vmem S3x1x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S250x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x1x6x8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x1x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x6x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x5x7168 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1x5 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S3x1x7168 : Shape := ⟨3, ![3, 1, 7168]⟩
abbrev S5x7168x7168 : Shape := ⟨3, ![5, 7168, 7168]⟩
abbrev S5x7168 : Shape := ⟨2, ![5, 7168]⟩
abbrev S32000x7168 : Shape := ⟨2, ![32000, 7168]⟩
abbrev S32000 : Shape := ⟨1, ![32000]⟩
abbrev S3x1x6x8 : Shape := ⟨4, ![3, 1, 6, 8]⟩
abbrev S1x32000 : Shape := ⟨2, ![1, 32000]⟩
abbrev S3x1x6 : Shape := ⟨3, ![3, 1, 6]⟩
abbrev S3x1 : Shape := ⟨2, ![3, 1]⟩
abbrev S3x1x5x7168 : Shape := ⟨4, ![3, 1, 5, 7168]⟩
abbrev S3x1x5 : Shape := ⟨3, ![3, 1, 5]⟩
abbrev S1x1x7168 : Shape := ⟨3, ![1, 1, 7168]⟩
abbrev S1x7168 : Shape := ⟨2, ![1, 7168]⟩
abbrev S1 : Shape := ⟨1, ![1]⟩
abbrev S1x1 : Shape := ⟨2, ![1, 1]⟩
abbrev S1x7168x7168 : Shape := ⟨3, ![1, 7168, 7168]⟩
abbrev S7168x7168 : Shape := ⟨2, ![7168, 7168]⟩
abbrev S5 : Shape := ⟨1, ![5]⟩
abbrev S5x1 : Shape := ⟨2, ![5, 1]⟩
abbrev S5x32000 : Shape := ⟨2, ![5, 32000]⟩
abbrev S6x32000 : Shape := ⟨2, ![6, 32000]⟩
abbrev S6x1 : Shape := ⟨2, ![6, 1]⟩
abbrev S6 : Shape := ⟨1, ![6]⟩
abbrev S1x1x5x7168 : Shape := ⟨4, ![1, 1, 5, 7168]⟩
abbrev S1x5 : Shape := ⟨2, ![1, 5]⟩
abbrev S1x1x5 : Shape := ⟨3, ![1, 1, 5]⟩
abbrev S1x6 : Shape := ⟨2, ![1, 6]⟩
abbrev S1x1x6 : Shape := ⟨3, ![1, 1, 6]⟩
abbrev S1x1x6x1 : Shape := ⟨4, ![1, 1, 6, 1]⟩

abbrev nBuf : Space → Nat
  | .hbm => 15
  | .vmem => 14
  | .smem => 0
  | _ => 0

abbrev bufTy : (tb : Table) → Fin (tcTables nBuf tb) → BufTy
  | .hbm, ⟨0, _⟩ => ⟨S3x1x7168, .bf16⟩
  | .hbm, ⟨1, _⟩ => ⟨S5x7168x7168, .fp8e4m3⟩
  | .hbm, ⟨2, _⟩ => ⟨S5x7168, .f32⟩
  | .hbm, ⟨3, _⟩ => ⟨S5x7168, .f32⟩
  | .hbm, ⟨4, _⟩ => ⟨S32000x7168, .fp8e4m3⟩
  | .hbm, ⟨5, _⟩ => ⟨S32000, .f32⟩
  | .hbm, ⟨6, _⟩ => ⟨S3x1x6x8, .i32⟩
  | .hbm, ⟨7, _⟩ => ⟨S1x32000, .f32⟩
  | .hbm, ⟨8, _⟩ => ⟨S3x1x6, .f32⟩
  | .hbm, ⟨9, _⟩ => ⟨S3x1x6, .f32⟩
  | .hbm, ⟨10, _⟩ => ⟨S3x1x6x8, .f32⟩
  | .hbm, ⟨11, _⟩ => ⟨S3x1x7168, .fp8e4m3⟩
  | .hbm, ⟨12, _⟩ => ⟨S3x1, .f32⟩
  | .hbm, ⟨13, _⟩ => ⟨S3x1x5x7168, .fp8e4m3⟩
  | .hbm, ⟨14, _⟩ => ⟨S3x1x5, .f32⟩
  | .local _ .vmem, ⟨0, _⟩ => ⟨S3x1x7168, .bf16⟩
  | .local _ .vmem, ⟨1, _⟩ => ⟨S5x7168x7168, .fp8e4m3⟩
  | .local _ .vmem, ⟨2, _⟩ => ⟨S5x7168, .f32⟩
  | .local _ .vmem, ⟨3, _⟩ => ⟨S5x7168, .f32⟩
  | .local _ .vmem, ⟨4, _⟩ => ⟨S32000x7168, .fp8e4m3⟩
  | .local _ .vmem, ⟨5, _⟩ => ⟨S1x32000, .f32⟩
  | .local _ .vmem, ⟨6, _⟩ => ⟨S3x1x6x8, .i32⟩
  | .local _ .vmem, ⟨7, _⟩ => ⟨S3x1x6, .f32⟩
  | .local _ .vmem, ⟨8, _⟩ => ⟨S3x1x6, .f32⟩
  | .local _ .vmem, ⟨9, _⟩ => ⟨S3x1x6x8, .f32⟩
  | .local _ .vmem, ⟨10, _⟩ => ⟨S3x1x7168, .fp8e4m3⟩
  | .local _ .vmem, ⟨11, _⟩ => ⟨S3x1, .f32⟩
  | .local _ .vmem, ⟨12, _⟩ => ⟨S3x1x5x7168, .fp8e4m3⟩
  | .local _ .vmem, ⟨13, _⟩ => ⟨S3x1x5, .f32⟩
  | _, _ => ⟨S3x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S3x1x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x7168x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5x7168 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32000x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x6x8 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x1x6x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x1x7168 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x5x7168 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1x5 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Offs.lean ====
module

public import proofs.«01_k».proof.Proof.Gen.KernelIdeal.Skeleton
public import proofs.«01_k».proof.Proof.Gen.KernelIdeal.Loops

@[expose] public section

/-! # The offsets of the two loops' slices in closed form

The kernel computes the slot, the semaphore and the source block of a trip with machine words. Each equation below says
what those words come to at trip `k`; every one is a check over the finitely many trips. -/

namespace Cert.KernelIdeal.Hand

open Cert.KernelIdeal Cert.KernelIdeal.Gen

/-! ## The loop over the 70 weight blocks of the heads -/

theorem off1_eq : ∀ k : Fin k0_t1_loop.trips, k0_off1 k = ![k.val % 6] := by decide +kernel
theorem off2_eq : ∀ k : Fin k0_t1_loop.trips, k0_off2 k = ![k.val % 6, 0, 0] := by decide +kernel
theorem off3_eq : ∀ k : Fin k0_t1_loop.trips, k0_off3 k = ![k.val / 14, 0, 512 * (k.val % 14)] := by decide +kernel
theorem off4_eq : ∀ k : Fin k0_t1_loop.trips, k0_off4 k = ![k.val % 6, 0, 0] := by decide +kernel
theorem off5_eq : ∀ k : Fin k0_t1_loop.trips, k0_off5 k = ![k.val / 14, 512 * (k.val % 14)] := by decide +kernel
theorem off6_eq : ∀ k : Fin k0_t1_loop.trips, k0_off6 k = ![0, 512 * (k.val % 14)] := by decide +kernel
theorem off7_eq : ∀ k : Fin k0_t1_loop.trips, k0_off7 k = ![k.val % 6] := by decide +kernel
theorem off8_eq : ∀ k : Fin k0_t1_loop.trips, k0_off8 k = ![k.val % 6, 0, 0] := by decide +kernel
theorem off9_eq : ∀ k : Fin k0_t1_loop.trips, k.val < 64 → k0_off9 k = ![(k.val + 6) / 14, 0, 512 * ((k.val + 6) % 14)] := by decide +kernel
theorem off10_eq : ∀ k : Fin k0_t1_loop.trips, 64 ≤ k.val → k0_off10 k = ![k.val - 64] := by decide +kernel
theorem off11_eq : ∀ k : Fin k0_t1_loop.trips, 64 ≤ k.val → k0_off11 k = ![k.val - 64, 0, 0] := by decide +kernel
theorem off12_eq : ∀ k : Fin k0_t1_loop.trips, 64 ≤ k.val → k0_off12 k = ![1280 * (k.val - 64), 0] := by decide +kernel
theorem cond1_iff : ∀ k : Fin k0_t1_loop.trips, k0_cond1 k = 1#1 ↔ k.val < 64 := by decide +kernel
theorem cond2_iff' : ∀ k : Fin k0_t1_loop.trips, (k0_cond2 k = 1#1 ↔ 64 ≤ k.val ∧ k.val < 67) := by decide +kernel
theorem cond2_iff : ∀ k : Fin k0_t1_loop.trips, 64 ≤ k.val → (k0_cond2 k = 1#1 ↔ k.val < 67) := by decide +kernel

/-! ## The loop over the 25 blocks of the vocabulary -/

theorem off13_eq : ∀ k : Fin k0_t2_loop.trips, k0_off13 k = ![k.val % 3] := by decide +kernel
theorem off14_eq : ∀ k : Fin k0_t2_loop.trips, k0_off14 k = ![k.val % 3, 0, 0] := by decide +kernel
theorem off22_eq : ∀ k : Fin k0_t2_loop.trips, k0_off22 k = ![k.val % 3] := by decide +kernel
theorem off23_eq : ∀ k : Fin k0_t2_loop.trips, k0_off23 k = ![k.val % 3, 0, 0] := by decide +kernel
theorem cond3_iff : ∀ k : Fin k0_t2_loop.trips, k0_cond3 k = 1#1 ↔ k.val < 22 := by decide +kernel

end Cert.KernelIdeal.Hand
-- ==== Proof.Ring.lean ====
module

public import proofs.«01_k».proof.Proof.Offs
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Tactic
public import Idealize.ShloMosaic.Lib.WordCmp

@[expose] public section

noncomputable section

/-! # The two rings of copies by name

The heads' weights arrive block by block in six slots of one scratch buffer, the vocabulary's in three slots of another.
This file names a slot, its semaphore and the source block it receives, and states a slot's two conditions: free, or
with a copy under way. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's algebra: the pipeline library's beside the counters of the transfers. -/
local notation "𝕄" => MT nD τ sig Unit (Elt F) ℕ (Pipeline.UD sig nD τ) ℕ

/-! ## The heads' ring -/

theorem rslot_inb (k : ℕ) : ∀ a, (![k % 6, 0, 0] : Fin 3 → ℕ) a + S1x7168x512.size a ≤ S6x7168x512.size a := by
  have := Nat.mod_lt k (show 0 < 6 by decide)
  intro a; fin_cases a
  · show k % 6 + 1 ≤ 6; omega
  · show 0 + 7168 ≤ 7168; omega
  · show 0 + 512 ≤ 512; omega

theorem rsrc_inb (b : Fin 70) : ∀ a, (![b.val / 14, 0, 512 * (b.val % 14)] : Fin 3 → ℕ) a + S1x7168x512.size a ≤ S5x7168x7168.size a := by
  have := b.isLt
  intro a; fin_cases a
  · show b.val / 14 + 1 ≤ 5; omega
  · show 0 + 7168 ≤ 7168; omega
  · show 512 * (b.val % 14) + 512 ≤ 7168; omega

/-- The slot that block `k` is copied into. -/
def rslot (k : ℕ) : Memref sig .tc .vmem S7168x512 .fp8e4m3 :=
  ((Memref.whole cc0_scratch0).slice (Rect.unit ![k % 6, 0, 0] S1x7168x512.size (rslot_inb k)) (fun _ => rfl)).squeeze S7168x512 squeezes_S1x7168x512_S7168x512

/-- Block `b` of the heads' weights: 512 columns of one head's matrix. -/
def rsrc (b : Fin 70) : Memref sig .tc .hbm S7168x512 .fp8e4m3 :=
  ((Memref.whole main_arg1).slice (Rect.unit ![b.val / 14, 0, 512 * (b.val % 14)] S1x7168x512.size (rsrc_inb b)) (fun _ => rfl)).squeeze S7168x512 squeezes_S1x7168x512_S7168x512

/-- The semaphore of block `k`'s slot. -/
def rsem (k : ℕ) : DmaSem sig := ⟨12 + k % 6, by have := Nat.mod_lt k (show 0 < 6 by decide); show 12 + k % 6 < 21; omega⟩

theorem rslot_add (k : ℕ) : rslot (k + 6) = rslot k := by
  unfold rslot
  rw [Memref.slice_unit_congr _ (show (![(k + 6) % 6, 0, 0] : Fin 3 → ℕ) = ![k % 6, 0, 0] by rw [Nat.add_mod_right]) _ (rslot_inb k) (fun _ => rfl) fun _ => rfl]
theorem rsem_add (k : ℕ) : rsem (k + 6) = rsem k := by
  unfold rsem; simp only [Nat.add_mod_right]

/-! ## The vocabulary's ring -/

theorem vslot_inb (k : ℕ) : ∀ a, (![k % 3, 0, 0] : Fin 3 → ℕ) a + S1x1280x7168.size a ≤ S3x1280x7168.size a := by
  have := Nat.mod_lt k (show 0 < 3 by decide)
  intro a; fin_cases a
  · show k % 3 + 1 ≤ 3; omega
  · show 0 + 1280 ≤ 1280; omega
  · show 0 + 7168 ≤ 7168; omega

theorem vsrc_inb (b : Fin 25) : ∀ a, (![1280 * b.val, 0] : Fin 2 → ℕ) a + S1280x7168.size a ≤ S32000x7168.size a := by
  have := b.isLt
  intro a; fin_cases a
  · show 1280 * b.val + 1280 ≤ 32000; omega
  · show 0 + 7168 ≤ 7168; omega

/-- The slot that vocabulary block `k` is copied into. -/
def vslot (k : ℕ) : Memref sig .tc .vmem S1280x7168 .fp8e4m3 :=
  ((Memref.whole cc0_scratch1).slice (Rect.unit ![k % 3, 0, 0] S1x1280x7168.size (vslot_inb k)) (fun _ => rfl)).squeeze S1280x7168 squeezes_S1x1280x7168_S1280x7168

/-- Block `b` of the vocabulary: 1280 of its rows. -/
def vsrc (b : Fin 25) : Memref sig .tc .hbm S1280x7168 .fp8e4m3 :=
  (Memref.whole main_arg4).slice (Rect.unit ![1280 * b.val, 0] S1280x7168.size (vsrc_inb b)) (fun _ => rfl)

/-- The semaphore of vocabulary block `k`'s slot. -/
def vsem (k : ℕ) : DmaSem sig := ⟨18 + k % 3, by have := Nat.mod_lt k (show 0 < 3 by decide); show 18 + k % 3 < 21; omega⟩

theorem vslot_add (k : ℕ) : vslot (k + 3) = vslot k := by
  unfold vslot
  rw [Memref.slice_unit_congr _ (show (![(k + 3) % 3, 0, 0] : Fin 3 → ℕ) = ![k % 3, 0, 0] by rw [Nat.add_mod_right]) _ (vslot_inb k) (fun _ => rfl) fun _ => rfl]
theorem vsem_add (k : ℕ) : vsem (k + 3) = vsem k := by
  unfold vsem; simp only [Nat.add_mod_right]

/-! ## The program's spellings are these names -/

@[sl_canon] theorem canon_off1 (k : Fin k0_t1_loop.trips) :
    ((cc0_scratch2.slice (Rect.unit (s := S6) (k0_off1 k) S1.size (k0_off1_inb k))).squeeze S_ squeezes_S1_S_).sem = rsem k.val := by
  revert k; decide +kernel
@[sl_canon] theorem canon_off7 (k : Fin k0_t1_loop.trips) (h : k0_cond1 k = 1#1) :
    ((cc0_scratch2.slice (Rect.unit (s := S6) (k0_off7 k) S1.size (k0_off7_inb k h))).squeeze S_ squeezes_S1_S_).sem = rsem k.val := by
  revert k; decide +kernel
@[sl_canon] theorem canon_off2 (k : Fin k0_t1_loop.trips) :
    ((Memref.whole cc0_scratch0).slice (Rect.unit (s := S6x7168x512) (k0_off2 k) S1x7168x512.size (k0_off2_inb k)) (fun _ => rfl)).squeeze S7168x512 squeezes_S1x7168x512_S7168x512 = rslot k.val := by
  unfold rslot; rw [Memref.slice_unit_congr _ (off2_eq k) _ (rslot_inb k.val) (fun _ => rfl) fun _ => rfl]
@[sl_canon] theorem canon_off8 (k : Fin k0_t1_loop.trips) (h : k0_cond1 k = 1#1) :
    ((Memref.whole cc0_scratch0).slice (Rect.unit (s := S6x7168x512) (k0_off8 k) S1x7168x512.size (k0_off8_inb k h)) (fun _ => rfl)).squeeze S7168x512 squeezes_S1x7168x512_S7168x512 = rslot k.val := by
  unfold rslot; rw [Memref.slice_unit_congr _ (off8_eq k) _ (rslot_inb k.val) (fun _ => rfl) fun _ => rfl]
@[sl_canon] theorem canon_off3 (k : Fin k0_t1_loop.trips) :
    ((Memref.whole main_arg1).slice (Rect.unit (s := S5x7168x7168) (k0_off3 k) S1x7168x512.size (k0_off3_inb k)) (fun _ => rfl)).squeeze S7168x512 squeezes_S1x7168x512_S7168x512 = rsrc k := by
  unfold rsrc; rw [Memref.slice_unit_congr _ (off3_eq k) _ (rsrc_inb k) (fun _ => rfl) fun _ => rfl]
@[sl_canon] theorem canon_off9 (k : Fin k0_t1_loop.trips) (h : k0_cond1 k = 1#1) :
    ((Memref.whole main_arg1).slice (Rect.unit (s := S5x7168x7168) (k0_off9 k) S1x7168x512.size (k0_off9_inb k h)) (fun _ => rfl)).squeeze S7168x512 squeezes_S1x7168x512_S7168x512
      = rsrc ⟨k.val + 6, by have := (cond1_iff k).1 h; omega⟩ := by
  have h' := (cond1_iff k).1 h
  unfold rsrc; rw [Memref.slice_unit_congr _ (off9_eq k h') _ (rsrc_inb ⟨k.val + 6, by omega⟩) (fun _ => rfl) fun _ => rfl]

@[sl_canon] theorem canon_off10 (k : Fin k0_t1_loop.trips) (h : k0_cond2 k = 1#1) (hk : 64 ≤ k.val) :
    ((cc0_scratch3.slice (Rect.unit (s := S3) (k0_off10 k) S1.size (k0_off10_inb k h))).squeeze S_ squeezes_S1_S_).sem = vsem (k.val - 64) := by
  revert k; decide +kernel
@[sl_canon] theorem canon_off11 (k : Fin k0_t1_loop.trips) (h : k0_cond2 k = 1#1) (hk : 64 ≤ k.val) :
    ((Memref.whole cc0_scratch1).slice (Rect.unit (s := S3x1280x7168) (k0_off11 k) S1x1280x7168.size (k0_off11_inb k h)) (fun _ => rfl)).squeeze S1280x7168 squeezes_S1x1280x7168_S1280x7168 = vslot (k.val - 64) := by
  have h' := (cond2_iff k hk).1 h
  unfold vslot
  rw [Memref.slice_unit_congr _ ((off11_eq k hk).trans (show _ = (![(k.val - 64) % 3, 0, 0] : Fin 3 → ℕ) by rw [Nat.mod_eq_of_lt (by omega)])) _ (vslot_inb (k.val - 64)) (fun _ => rfl) fun _ => rfl]
@[sl_canon] theorem canon_off12 (k : Fin k0_t1_loop.trips) (h : k0_cond2 k = 1#1) (hk : 64 ≤ k.val) :
    (Memref.whole main_arg4).slice (Rect.unit (s := S32000x7168) (k0_off12 k) S1280x7168.size (k0_off12_inb k h)) (fun _ => rfl)
      = vsrc ⟨k.val - 64, by have := (cond2_iff k hk).1 h; omega⟩ := by
  have h' := (cond2_iff k hk).1 h
  unfold vsrc
  rw [Memref.slice_unit_congr _ (off12_eq k hk) _ (vsrc_inb ⟨k.val - 64, by omega⟩) (fun _ => rfl) fun _ => rfl]

@[sl_canon] theorem canon_off13 (k : Fin k0_t2_loop.trips) :
    ((cc0_scratch3.slice (Rect.unit (s := S3) (k0_off13 k) S1.size (k0_off13_inb k))).squeeze S_ squeezes_S1_S_).sem = vsem k.val := by
  revert k; decide +kernel
@[sl_canon] theorem canon_off22 (k : Fin k0_t2_loop.trips) (h : k0_cond3 k = 1#1) :
    ((cc0_scratch3.slice (Rect.unit (s := S3) (k0_off22 k) S1.size (k0_off22_inb k h))).squeeze S_ squeezes_S1_S_).sem = vsem k.val := by
  revert k; decide +kernel
@[sl_canon] theorem canon_off14 (k : Fin k0_t2_loop.trips) :
    ((Memref.whole cc0_scratch1).slice (Rect.unit (s := S3x1280x7168) (k0_off14 k) S1x1280x7168.size (k0_off14_inb k)) (fun _ => rfl)).squeeze S1280x7168 squeezes_S1x1280x7168_S1280x7168 = vslot k.val := by
  unfold vslot; rw [Memref.slice_unit_congr _ (off14_eq k) _ (vslot_inb k.val) (fun _ => rfl) fun _ => rfl]
@[sl_canon] theorem canon_off23 (k : Fin k0_t2_loop.trips) (h : k0_cond3 k = 1#1) :
    ((Memref.whole cc0_scratch1).slice (Rect.unit (s := S3x1280x7168) (k0_off23 k) S1x1280x7168.size (k0_off23_inb k h)) (fun _ => rfl)).squeeze S1280x7168 squeezes_S1x1280x7168_S1280x7168 = vslot k.val := by
  unfold vslot; rw [Memref.slice_unit_congr _ (off23_eq k) _ (vslot_inb k.val) (fun _ => rfl) fun _ => rfl]
@[sl_canon] theorem canon_off15 (k : Fin k0_t2_loop.trips) :
    (Memref.whole main_arg4).slice (Rect.unit (s := S32000x7168) (k0_off15 k) S1280x7168.size (k0_off15_inb k)) (fun _ => rfl) = vsrc k := by
  unfold vsrc; rw [Memref.slice_unit_congr _ (k0_off15_eq k) _ (vsrc_inb k) (fun _ => rfl) fun _ => rfl]
@[sl_canon] theorem canon_off24 (k : Fin k0_t2_loop.trips) (h : k0_cond3 k = 1#1) :
    (Memref.whole main_arg4).slice (Rect.unit (s := S32000x7168) (k0_off24 k) S1280x7168.size (k0_off24_inb k h)) (fun _ => rfl)
      = vsrc ⟨k.val + 3, by have := (cond3_iff k).1 h; omega⟩ := by
  have h' := (cond3_iff k).1 h
  unfold vsrc
  rw [Memref.slice_unit_congr _ ((k0_off24_eq k).trans (show _ = (![1280 * (k.val + 3), 0] : Fin 2 → ℕ) by rw [Nat.mul_add])) _ (vsrc_inb ⟨k.val + 3, by omega⟩) (fun _ => rfl) fun _ => rfl]

/-! ## A slot's two conditions -/

/-- The heads' weights and the vocabulary as the region finds them. -/
abbrev WresBuf (c : Dev nD) : Type := Buf (Elt F) ((Memref.whole main_arg1).view.loc (c : Thread nD τ))
abbrev WvocBuf (c : Dev nD) : Type := Buf (Elt F) ((Memref.whole main_arg4).view.loc (c : Thread nD τ))

/-- The share of the heads' weights that the slot numbered `i` reads through. -/
abbrev rtok (c : Dev nD) (i : Fin 6) (S : Finset (Idx ((Memref.whole main_arg1).view.loc (c : Thread nD τ)))) (fw : WresBuf (F := F) c) : sProp 𝕄 :=
  (Memref.whole main_arg1).view.loc (c : Thread nD τ) ↦[S]{Transfers.shareTok fullShare 6 i} fw

/-- A slot `M` of the heads' ring free: its semaphore at zero, the slot at any contents, its share of the weights whole. -/
abbrev rfreeAt (c : Dev nD) (fw : WresBuf (F := F) c) (M : Memref sig .tc .vmem S7168x512 .fp8e4m3) (s : DmaSem sig) (i : Fin 6) : sProp 𝕄 :=
  iprop(semVal ((c : Thread nD τ), SemLoc.dma s) 0
    ∗ (∃ f, M.view.loc (c : Thread nD τ) ↦[M.view.set]{fullShare} f) ∗ rtok c i Finset.univ fw)

/-- A slot `M` of the heads' ring with the copy of `src` under way: the copy delivers the slot filled with that block. -/
abbrev rinflAt (c : Dev nD) (fw : WresBuf (F := F) c) (M : Memref sig .tc .vmem S7168x512 .fp8e4m3) (s : DmaSem sig) (i : Fin 6)
    (src : Memref sig .tc .hbm S7168x512 .fp8e4m3) (fs : Buf (Elt F) (src.view.loc (c : Thread nD τ))) (S : Finset (Idx ((Memref.whole main_arg1).view.loc (c : Thread nD τ)))) : sProp 𝕄 :=
  iprop((∃ f, Transfers.Flight (countersEmb (U := Pipeline.UD sig nD τ)) (c : Thread nD τ) (SemLoc.dma s) () M.view.dmaCredit
            iprop((M.view.loc (c : Thread nD τ) ↦[M.view.set]{fullShare}
                    M.view.writes (Elt F) f [⟨Rect.whole S7168x512, ReadAs.same.apply (src.view.read (Elt F) fs)⟩])
              ∗ rtok c i S fw))
    ∗ rtok c i (Finset.univ \ S) fw)

/-- Slot of block `k` free. -/
def rfree (c : Dev nD) (fw : WresBuf (F := F) c) (k : ℕ) : sProp 𝕄 := rfreeAt c fw (rslot k) (rsem k) (Ring.sl 6 k)
/-- Slot of block `b` with that block under way. -/
def rinfl (c : Dev nD) (fw : WresBuf (F := F) c) (b : Fin 70) : sProp 𝕄 :=
  rinflAt c fw (rslot b.val) (rsem b.val) (Ring.sl 6 b.val) (rsrc b) fw (rsrc b).view.set

/-- The share of the vocabulary that the slot numbered `i` reads through. -/
abbrev vtok (c : Dev nD) (i : Fin 3) (S : Finset (Idx ((Memref.whole main_arg4).view.loc (c : Thread nD τ)))) (fv : WvocBuf (F := F) c) : sProp 𝕄 :=
  (Memref.whole main_arg4).view.loc (c : Thread nD τ) ↦[S]{Transfers.shareTok fullShare 3 i} fv

/-- A slot `M` of the vocabulary's ring free. -/
abbrev vfreeAt (c : Dev nD) (fv : WvocBuf (F := F) c) (M : Memref sig .tc .vmem S1280x7168 .fp8e4m3) (s : DmaSem sig) (i : Fin 3) : sProp 𝕄 :=
  iprop(semVal ((c : Thread nD τ), SemLoc.dma s) 0
    ∗ (∃ f, M.view.loc (c : Thread nD τ) ↦[M.view.set]{fullShare} f) ∗ vtok c i Finset.univ fv)

/-- A slot `M` of the vocabulary's ring with the copy of `src` under way. -/
abbrev vinflAt (c : Dev nD) (fv : WvocBuf (F := F) c) (M : Memref sig .tc .vmem S1280x7168 .fp8e4m3) (s : DmaSem sig) (i : Fin 3)
    (src : Memref sig .tc .hbm S1280x7168 .fp8e4m3) (fs : Buf (Elt F) (src.view.loc (c : Thread nD τ))) (S : Finset (Idx ((Memref.whole main_arg4).view.loc (c : Thread nD τ)))) : sProp 𝕄 :=
  iprop((∃ f, Transfers.Flight (countersEmb (U := Pipeline.UD sig nD τ)) (c : Thread nD τ) (SemLoc.dma s) () M.view.dmaCredit
            iprop((M.view.loc (c : Thread nD τ) ↦[M.view.set]{fullShare}
                    M.view.writes (Elt F) f [⟨Rect.whole S1280x7168, ReadAs.same.apply (src.view.read (Elt F) fs)⟩])
              ∗ vtok c i S fv))
    ∗ vtok c i (Finset.univ \ S) fv)

/-- Slot of vocabulary block `k` free. -/
def vfree (c : Dev nD) (fv : WvocBuf (F := F) c) (k : ℕ) : sProp 𝕄 := vfreeAt c fv (vslot k) (vsem k) (Ring.sl 3 k)
/-- Slot of vocabulary block `b` with that block under way. -/
def vinfl (c : Dev nD) (fv : WvocBuf (F := F) c) (b : Fin 25) : sProp 𝕄 :=
  vinflAt c fv (vslot b.val) (vsem b.val) (Ring.sl 3 b.val) (vsrc b) fv (vsrc b).view.set

theorem rfree_add (c : Dev nD) (fw : WresBuf (F := F) c) (k : ℕ) : rfree c fw (k + 6) = rfree c fw k := by
  unfold rfree; rw [rslot_add, rsem_add, Ring.sl_add]
theorem vfree_add (c : Dev nD) (fv : WvocBuf (F := F) c) (k : ℕ) : vfree c fv (k + 3) = vfree c fv k := by
  unfold vfree; rw [vslot_add, vsem_add, Ring.sl_add]
theorem rinfl_add (c : Dev nD) (fw : WresBuf (F := F) c) (k : ℕ) (h : k + 6 < 70) :
    rinfl c fw ⟨k + 6, h⟩ = rinflAt c fw (rslot k) (rsem k) (Ring.sl 6 k) (rsrc ⟨k + 6, h⟩) fw (rsrc ⟨k + 6, h⟩).view.set := by
  unfold rinfl; simp only [rslot_add, rsem_add, Ring.sl_add]
theorem vinfl_add (c : Dev nD) (fv : WvocBuf (F := F) c) (k : ℕ) (h : k + 3 < 25) :
    vinfl c fv ⟨k + 3, h⟩ = vinflAt c fv (vslot k) (vsem k) (Ring.sl 3 k) (vsrc ⟨k + 3, h⟩) fv (vsrc ⟨k + 3, h⟩).view.set := by
  unfold vinfl; simp only [vslot_add, vsem_add, Ring.sl_add]

end Cert.KernelIdeal.Hand
-- ==== Proof.Trip1.lean ====
module

public import proofs.«01_k».proof.Proof.Ring

@[expose] public section

noncomputable section

/-! # One trip of the loop over the heads' weight blocks -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents of a buffer. -/
abbrev Cont (c : Dev nD) (b : Ref sig .tc) : Type := Buf (Elt F) ((Memref.whole b).view.loc (c : Thread nD τ))

/-- A buffer held whole. -/
abbrev pt (c : Dev nD) (b : Ref sig .tc) (f : Buf (Elt F) ((Memref.whole b).view.loc (c : Thread nD τ))) : sProp 𝕄 :=
  (Memref.whole b).view.loc (c : Thread nD τ) ↦{fullShare} f

/-- The region of the loop over the heads' weight blocks at this kernel's buffers. -/
abbrev body1 (v82 : IVec S24x1 32) (v953 : FVec F S24x1 .f32) (v1222 : FVec F S1x512 .f32) :=
  k0_t1_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) v82 v953 v1222

instance (k : Fin k0_t1_loop.trips) : ClosedOff (k0_off5 k) := ⟨_, off5_eq k⟩
instance (k : Fin k0_t1_loop.trips) : ClosedOff (k0_off6 k) := ⟨_, off6_eq k⟩
instance (k : Fin k0_t1_loop.trips) : ClosedOff (k0_off4 k) := ⟨_, off4_eq k⟩

/-- What trip `k` reads of the slot it has waited for: weight block `k`. -/
def rblk (c : Dev nD) (fw : WresBuf (F := F) c) (k : Fin k0_t1_loop.trips) : Vec F S1x7168x512 .fp8e4m3 :=
  View.readAt (Elt F) (Memref.whole cc0_scratch0).view (Rect.unit (s := S6x7168x512) (k0_off4 k) S1x7168x512.size (k0_off4_inb k)).toLoadRect
    ((rslot k.val).view.writes (Elt F) (rslot k.val).view.junk
      [⟨Rect.whole S7168x512, ReadAs.same.apply (View.read (Elt F) (rsrc k).view fw)⟩])

/-- The head number that trip `k`'s block belongs to, as a word. -/
def hword (k : Fin k0_t1_loop.trips) : BitVec 32 := BitVec.ofNat 32 (k.val / 14)

/-- What trip `k` makes of the hidden states `fh`: 512 columns of them rewritten where the row's head is this block's. -/
def hstep (c : Dev nD) (fw : WresBuf (F := F) c) (fs : Buf (Elt F) ((Memref.whole cc0_stg1_0).view.loc (c : Thread nD τ)))
    (fb : Buf (Elt F) ((Memref.whole cc0_stg2_0).view.loc (c : Thread nD τ))) (fx : Buf (Elt F) ((Memref.whole cc0_scratch5).view.loc (c : Thread nD τ)))
    (v82 : IVec S24x1 32) (v953 : FVec F S24x1 .f32) (k : Fin k0_t1_loop.trips)
    (fh : Buf (Elt F) ((Memref.whole cc0_scratch4).view.loc (c : Thread nD τ))) : Buf (Elt F) ((Memref.whole cc0_scratch4).view.loc (c : Thread nD τ)) :=
  (Memref.whole cc0_scratch4).view.writes (Elt F) fh
    [⟨Rect.unit (s := S24x7168) (k0_off6 k) S24x512.size (k0_off6_inb k),
      k0_pay246 v82 v953 (hword k)
        (View.readAt (Elt F) (Memref.whole cc0_scratch5).view (Rect.unit (s := S32x7168) ![0, 0] S32x7168.size inb_S32x7168_S32x7168_0_0).toLoadRect fx)
        (rblk c fw k)
        (View.readAt (Elt F) (Memref.whole cc0_stg1_0).view (Rect.unit (s := S5x7168) (k0_off5 k) S1x512.size (k0_off5_inb k)).toLoadRect fs)
        (View.readAt (Elt F) (Memref.whole cc0_stg2_0).view (Rect.unit (s := S5x7168) (k0_off5 k) S1x512.size (k0_off5_inb k)).toLoadRect fb)
        (View.readAt (Elt F) (Memref.whole cc0_scratch4).view (Rect.unit (s := S24x7168) (k0_off6 k) S24x512.size (k0_off6_inb k)).toLoadRect fh)⟩]

theorem tripA (c : Dev nD) (fw : WresBuf (F := F) c) (fv : WvocBuf (F := F) c) (fs fb fx fh) (v82 : IVec S24x1 32) (v953 : FVec F S24x1 .f32) (v1222 : FVec F S1x512 .f32)
    (k : Fin k0_t1_loop.trips) (hk : k.val < 64) (W : Waits sig Unit) (Q : Unit → sProp 𝕄) :
    iprop(rinfl c fw k ∗ pt c cc0_stg1_0 fs ∗ pt c cc0_stg2_0 fb ∗ pt c cc0_scratch5 fx ∗ pt c cc0_scratch4 fh ∗ owes (c : Thread nD τ) 0 W
      ∗ ((rinfl c fw ⟨k.val + 6, by omega⟩ ∗ pt c cc0_stg1_0 fs ∗ pt c cc0_stg2_0 fb ∗ pt c cc0_scratch5 fx
          ∗ pt c cc0_scratch4 (hstep c fw fs fb fx v82 v953 k fh) ∗ (∃ W, owes (c : Thread nD τ) 0 W)) -∗ Q ()))
    ⊢ wp frame (wpE (defs₀ (F := F)) Variants.none (c : Thread nD τ) none) Set.univ (body1 v82 v953 v1222 k ()) Q := by
  have h1 : k0_cond1 k = 1#1 := (cond1_iff k).2 hk
  have h2 : ¬ k0_cond2 k = 1#1 := fun h => by have := (cond2_iff' k).1 h; omega
  rw [rinfl_add]
  iintro ⟨Hr, Hs, Hb, Hx, Hh, HO, HQ⟩
  unfold rinfl
  icases Hr with ⟨⟨%f, Hfl⟩, Htok⟩
  unfold body1 k0_t1_body
  sl_exec
  rw [show tripA.sl.v2379 k = hword k from (by decide +kernel : ∀ k, tripA.sl.v2379 k = hword k) k]
  sl_step
  iapply HQ
  isplitl [Hfl Htok]
  · isplitl [Hfl]
    · iexists _; iexact Hfl
    · iexact Htok
  isplitl [Hs]; · iexact Hs
  isplitl [Hb]; · iexact Hb
  isplitl [Hx]; · iexact Hx
  isplitl [Hh]; · iexact Hh
  iexists _; iexact HO

theorem tripB (c : Dev nD) (fw : WresBuf (F := F) c) (fv : WvocBuf (F := F) c) (fs fb fx fh) (v82 : IVec S24x1 32) (v953 : FVec F S24x1 .f32) (v1222 : FVec F S1x512 .f32)
    (k : Fin k0_t1_loop.trips) (hk : 64 ≤ k.val) (hk2 : k.val < 67) (W : Waits sig Unit) (Q : Unit → sProp 𝕄) :
    iprop(rinfl c fw k ∗ vfree c fv (k.val - 64) ∗ pt c cc0_stg1_0 fs ∗ pt c cc0_stg2_0 fb ∗ pt c cc0_scratch5 fx ∗ pt c cc0_scratch4 fh ∗ owes (c : Thread nD τ) 0 W
      ∗ ((rfree c fw k.val ∗ vinfl c fv ⟨k.val - 64, by omega⟩ ∗ pt c cc0_stg1_0 fs ∗ pt c cc0_stg2_0 fb ∗ pt c cc0_scratch5 fx
          ∗ pt c cc0_scratch4 (hstep c fw fs fb fx v82 v953 k fh) ∗ (∃ W, owes (c : Thread nD τ) 0 W)) -∗ Q ()))
    ⊢ wp frame (wpE (defs₀ (F := F)) Variants.none (c : Thread nD τ) none) Set.univ (body1 v82 v953 v1222 k ()) Q := by
  have h1 : ¬ k0_cond1 k = 1#1 := fun h => by have := (cond1_iff k).1 h; omega
  have h2 : k0_cond2 k = 1#1 := (cond2_iff' k).2 ⟨hk, hk2⟩
  unfold rfree vfree vinfl
  iintro ⟨Hr, Hv, Hs, Hb, Hx, Hh, HO, HQ⟩
  icases Hv with ⟨Hvc, ⟨%fv0, Hvs⟩, Hvt⟩
  unfold rinfl
  icases Hr with ⟨⟨%f, Hfl⟩, Htok⟩
  unfold body1 k0_t1_body
  sl_exec
  rw [show tripB.sl.v2379 k = hword k from (by decide +kernel : ∀ k, tripB.sl.v2379 k = hword k) k]
  sl_step
  iapply HQ
  isplitl [Hfl Hfl_dst Htok]
  · isplitl [Hfl]; · iexact Hfl
    isplitl [Hfl_dst]
    · iexists _; iexact Hfl_dst
    · iexact Htok
  isplitl [Hvc Hvt]
  · isplitl [Hvc]
    · iexists _; iexact Hvc
    · iexact Hvt
  isplitl [Hs]; · iexact Hs
  isplitl [Hb]; · iexact Hb
  isplitl [Hx]; · iexact Hx
  isplitl [Hh]; · iexact Hh
  iexists _; iexact HO

theorem tripC (c : Dev nD) (fw : WresBuf (F := F) c) (fv : WvocBuf (F := F) c) (fs fb fx fh) (v82 : IVec S24x1 32) (v953 : FVec F S24x1 .f32) (v1222 : FVec F S1x512 .f32)
    (k : Fin k0_t1_loop.trips) (hk : 67 ≤ k.val) (W : Waits sig Unit) (Q : Unit → sProp 𝕄) :
    iprop(rinfl c fw k ∗ pt c cc0_stg1_0 fs ∗ pt c cc0_stg2_0 fb ∗ pt c cc0_scratch5 fx ∗ pt c cc0_scratch4 fh ∗ owes (c : Thread nD τ) 0 W
      ∗ ((rfree c fw k.val ∗ pt c cc0_stg1_0 fs ∗ pt c cc0_stg2_0 fb ∗ pt c cc0_scratch5 fx
          ∗ pt c cc0_scratch4 (hstep c fw fs fb fx v82 v953 k fh) ∗ (∃ W, owes (c : Thread nD τ) 0 W)) -∗ Q ()))
    ⊢ wp frame (wpE (defs₀ (F := F)) Variants.none (c : Thread nD τ) none) Set.univ (body1 v82 v953 v1222 k ()) Q := by
  have h1 : ¬ k0_cond1 k = 1#1 := fun h => by have := (cond1_iff k).1 h; omega
  have h2 : ¬ k0_cond2 k = 1#1 := fun h => by have := (cond2_iff' k).1 h; omega
  unfold rfree
  iintro ⟨Hr, Hs, Hb, Hx, Hh, HO, HQ⟩
  unfold rinfl
  icases Hr with ⟨⟨%f, Hfl⟩, Htok⟩
  unfold body1 k0_t1_body
  sl_exec
  rw [show tripC.sl.v2379 k = hword k from (by decide +kernel : ∀ k, tripC.sl.v2379 k = hword k) k]
  sl_step
  iapply HQ
  isplitl [Hfl Hfl_dst Htok]
  · isplitl [Hfl]; · iexact Hfl
    isplitl [Hfl_dst]
    · iexists _; iexact Hfl_dst
    · iexact Htok
  isplitl [Hs]; · iexact Hs
  isplitl [Hb]; · iexact Hb
  isplitl [Hx]; · iexact Hx
  isplitl [Hh]; · iexact Hh
  iexists _; iexact HO

end Cert.KernelIdeal.Hand
-- ==== Proof.Setup.lean ====
module

public import proofs.«01_k».proof.Proof.Trip1
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Ring.AtN
public import Idealize.ShloMosaic.Lib.Tactic
public import Idealize.ShloMosaic.Lib.WordCmp

@[expose] public section

noncomputable section

/-! # The rings at the start and at the end

The two scratch buffers whole are their slots free; the two weight arrays whole are a remainder and one share per slot.
Here the pieces are cut before the body runs and put together after it. Also: the first six copies, which the program
starts at literal places, by the names of Ring. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

@[sl_canon] theorem canon_rslot0 : ((Memref.whole cc0_scratch0).slice (Rect.unit (s := S6x7168x512) ![0, 0, 0] S1x7168x512.size inb_S6x7168x512_S1x7168x512_0_0_0) (fun _ => rfl)).squeeze S7168x512 squeezes_S1x7168x512_S7168x512 = rslot 0 := rfl
@[sl_canon] theorem canon_rsrc0 : ((Memref.whole main_arg1).slice (Rect.unit (s := S5x7168x7168) ![0, 0, 0] S1x7168x512.size inb_S5x7168x7168_S1x7168x512_0_0_0) (fun _ => rfl)).squeeze S7168x512 squeezes_S1x7168x512_S7168x512 = rsrc 0 := rfl
@[sl_canon] theorem canon_rsem0 : ((cc0_scratch2.slice (Rect.unit (s := S6) ![0] S1.size inb_S6_S1_0)).squeeze S_ squeezes_S1_S_).sem = rsem 0 := by decide +kernel
@[sl_canon] theorem canon_rslot1 : ((Memref.whole cc0_scratch0).slice (Rect.unit (s := S6x7168x512) ![1, 0, 0] S1x7168x512.size inb_S6x7168x512_S1x7168x512_1_0_0) (fun _ => rfl)).squeeze S7168x512 squeezes_S1x7168x512_S7168x512 = rslot 1 := rfl
@[sl_canon] theorem canon_rsrc1 : ((Memref.whole main_arg1).slice (Rect.unit (s := S5x7168x7168) ![0, 0, 512] S1x7168x512.size inb_S5x7168x7168_S1x7168x512_0_0_512) (fun _ => rfl)).squeeze S7168x512 squeezes_S1x7168x512_S7168x512 = rsrc 1 := rfl
@[sl_canon] theorem canon_rsem1 : ((cc0_scratch2.slice (Rect.unit (s := S6) ![1] S1.size inb_S6_S1_1)).squeeze S_ squeezes_S1_S_).sem = rsem 1 := by decide +kernel
@[sl_canon] theorem canon_rslot2 : ((Memref.whole cc0_scratch0).slice (Rect.unit (s := S6x7168x512) ![2, 0, 0] S1x7168x512.size inb_S6x7168x512_S1x7168x512_2_0_0) (fun _ => rfl)).squeeze S7168x512 squeezes_S1x7168x512_S7168x512 = rslot 2 := rfl
@[sl_canon] theorem canon_rsrc2 : ((Memref.whole main_arg1).slice (Rect.unit (s := S5x7168x7168) ![0, 0, 1024] S1x7168x512.size inb_S5x7168x7168_S1x7168x512_0_0_1024) (fun _ => rfl)).squeeze S7168x512 squeezes_S1x7168x512_S7168x512 = rsrc 2 := rfl
@[sl_canon] theorem canon_rsem2 : ((cc0_scratch2.slice (Rect.unit (s := S6) ![2] S1.size inb_S6_S1_2)).squeeze S_ squeezes_S1_S_).sem = rsem 2 := by decide +kernel
@[sl_canon] theorem canon_rslot3 : ((Memref.whole cc0_scratch0).slice (Rect.unit (s := S6x7168x512) ![3, 0, 0] S1x7168x512.size inb_S6x7168x512_S1x7168x512_3_0_0) (fun _ => rfl)).squeeze S7168x512 squeezes_S1x7168x512_S7168x512 = rslot 3 := rfl
@[sl_canon] theorem canon_rsrc3 : ((Memref.whole main_arg1).slice (Rect.unit (s := S5x7168x7168) ![0, 0, 1536] S1x7168x512.size inb_S5x7168x7168_S1x7168x512_0_0_1536) (fun _ => rfl)).squeeze S7168x512 squeezes_S1x7168x512_S7168x512 = rsrc 3 := rfl
@[sl_canon] theorem canon_rsem3 : ((cc0_scratch2.slice (Rect.unit (s := S6) ![3] S1.size inb_S6_S1_3)).squeeze S_ squeezes_S1_S_).sem = rsem 3 := by decide +kernel
@[sl_canon] theorem canon_rslot4 : ((Memref.whole cc0_scratch0).slice (Rect.unit (s := S6x7168x512) ![4, 0, 0] S1x7168x512.size inb_S6x7168x512_S1x7168x512_4_0_0) (fun _ => rfl)).squeeze S7168x512 squeezes_S1x7168x512_S7168x512 = rslot 4 := rfl
@[sl_canon] theorem canon_rsrc4 : ((Memref.whole main_arg1).slice (Rect.unit (s := S5x7168x7168) ![0, 0, 2048] S1x7168x512.size inb_S5x7168x7168_S1x7168x512_0_0_2048) (fun _ => rfl)).squeeze S7168x512 squeezes_S1x7168x512_S7168x512 = rsrc 4 := rfl
@[sl_canon] theorem canon_rsem4 : ((cc0_scratch2.slice (Rect.unit (s := S6) ![4] S1.size inb_S6_S1_4)).squeeze S_ squeezes_S1_S_).sem = rsem 4 := by decide +kernel
@[sl_canon] theorem canon_rslot5 : ((Memref.whole cc0_scratch0).slice (Rect.unit (s := S6x7168x512) ![5, 0, 0] S1x7168x512.size inb_S6x7168x512_S1x7168x512_5_0_0) (fun _ => rfl)).squeeze S7168x512 squeezes_S1x7168x512_S7168x512 = rslot 5 := rfl
@[sl_canon] theorem canon_rsrc5 : ((Memref.whole main_arg1).slice (Rect.unit (s := S5x7168x7168) ![0, 0, 2560] S1x7168x512.size inb_S5x7168x7168_S1x7168x512_0_0_2560) (fun _ => rfl)).squeeze S7168x512 squeezes_S1x7168x512_S7168x512 = rsrc 5 := rfl
@[sl_canon] theorem canon_rsem5 : ((cc0_scratch2.slice (Rect.unit (s := S6) ![5] S1.size inb_S6_S1_5)).squeeze S_ squeezes_S1_S_).sem = rsem 5 := by decide +kernel

/-- The elements of slot `j`. -/
def rJ (c : Dev nD) (j : Fin 6) : Finset (Idx ((Memref.whole cc0_scratch0).view.loc (c : Thread nD τ))) := (rslot j.val).view.set

theorem rJ_eq (c : Dev nD) (j : Fin 6) : rJ c j = (Rect.unit (s := S6x7168x512) ![j.val % 6, 0, 0] S1x7168x512.size (rslot_inb j.val)).set := by
  show (((View.whole cc0_scratch0).slice _).reshape _ _).set = _
  rw [View.set_reshape, View.set_slice_whole]

theorem rJ_disj (c : Dev nD) (b b' : Fin 6) (h : b ≠ b') : Disjoint (rJ c b) (rJ c b') := by
  rw [rJ_eq, rJ_eq]
  exact Ring.lead_disjoint (s := S6x7168x512) (0 : Fin 3) 1 (fun j : Fin 6 => ![j.val % 6, 0, 0]) S1x7168x512.size (fun j => rslot_inb j.val)
    (fun b => by show b.val % 6 = 1 * b.val; rw [Nat.mod_eq_of_lt b.isLt, one_mul]) rfl b b' h
theorem rJ_cover (c : Dev nD) : Finset.univ.biUnion (rJ c) = Finset.univ := by
  rw [show rJ c = _ from funext (rJ_eq c)]
  exact Ring.lead_cover (s := S6x7168x512) (0 : Fin 3) 1 (fun j : Fin 6 => ![j.val % 6, 0, 0]) S1x7168x512.size (fun j => rslot_inb j.val)
    (fun b => by show b.val % 6 = 1 * b.val; rw [Nat.mod_eq_of_lt b.isLt, one_mul])
    (fun b a ha => by revert ha; fin_cases a <;> intro ha <;> first | (exact absurd rfl ha) | rfl) rfl
    (fun a ha => by revert ha; fin_cases a <;> intro ha <;> first | (exact absurd rfl ha) | rfl) rfl

/-- The scratch buffer whole is its slots, each at some contents, -/
theorem rslots_split (c : Dev nD) : iprop(∃ f, pt (F := F) c cc0_scratch0 f) ⊢ (iprop((∃ f, (rslot 0).view.loc (c : Thread nD τ) ↦[(rslot 0).view.set]{fullShare} f) ∗ (∃ f, (rslot 1).view.loc (c : Thread nD τ) ↦[(rslot 1).view.set]{fullShare} f) ∗ (∃ f, (rslot 2).view.loc (c : Thread nD τ) ↦[(rslot 2).view.set]{fullShare} f) ∗ (∃ f, (rslot 3).view.loc (c : Thread nD τ) ↦[(rslot 3).view.set]{fullShare} f) ∗ (∃ f, (rslot 4).view.loc (c : Thread nD τ) ↦[(rslot 4).view.set]{fullShare} f) ∗ (∃ f, (rslot 5).view.loc (c : Thread nD τ) ↦[(rslot 5).view.set]{fullShare} f)) : sProp 𝕄) :=
  Ring.slots_split_n (rJ c) (rJ_disj c) (rJ_cover c) [0, 1, 2, 3, 4, 5] (by decide) (by decide)
    (fun s f => (rslot s.val).view.loc (c : Thread nD τ) ↦[(rslot s.val).view.set]{fullShare} f) (fun _ _ => rfl)
/-- and the slots join back to it. -/
theorem rslots_join (c : Dev nD) : iprop((∃ f, (rslot 0).view.loc (c : Thread nD τ) ↦[(rslot 0).view.set]{fullShare} f) ∗ (∃ f, (rslot 1).view.loc (c : Thread nD τ) ↦[(rslot 1).view.set]{fullShare} f) ∗ (∃ f, (rslot 2).view.loc (c : Thread nD τ) ↦[(rslot 2).view.set]{fullShare} f) ∗ (∃ f, (rslot 3).view.loc (c : Thread nD τ) ↦[(rslot 3).view.set]{fullShare} f) ∗ (∃ f, (rslot 4).view.loc (c : Thread nD τ) ↦[(rslot 4).view.set]{fullShare} f) ∗ (∃ f, (rslot 5).view.loc (c : Thread nD τ) ↦[(rslot 5).view.set]{fullShare} f)) ⊢ (iprop(∃ f, pt (F := F) c cc0_scratch0 f) : sProp 𝕄) :=
  Ring.slots_join_n (rJ c) (rJ_disj c) (rJ_cover c) [0, 1, 2, 3, 4, 5] (by decide) (by decide)
    (fun s f => (rslot s.val).view.loc (c : Thread nD τ) ↦[(rslot s.val).view.set]{fullShare} f) (fun _ _ => rfl)

/-- What is left of the array when every slot has its share. -/
abbrev rdrop (c : Dev nD) (fw : WresBuf (F := F) c) : sProp 𝕄 := (Memref.whole main_arg1).view.loc (c : Thread nD τ) ↦{Transfers.shareDrop fullShare 6} fw

theorem rtoks (c : Dev nD) (fw : WresBuf (F := F) c) :
    (pt c main_arg1 fw : sProp 𝕄) ⊣⊢ iprop(rdrop c fw ∗ rtok c 0 Finset.univ fw ∗ rtok c 1 Finset.univ fw ∗ rtok c 2 Finset.univ fw ∗ rtok c 3 Finset.univ fw ∗ rtok c 4 Finset.univ fw ∗ rtok c 5 Finset.univ fw) := by
  have h := Transfers.pointsTo_toks (Ix := Unit) (Name := ℕ) (U := Pipeline.UD sig nD τ) (Lvl := ℕ) (ℓ := (Memref.whole main_arg1).view.loc (c : Thread nD τ)) (S := Finset.univ) (f := fw) fullShare 6
  rw [bigSep_univ_eq_bigSepL [0, 1, 2, 3, 4, 5] (by decide) (by decide)] at h
  exact h

/-- The whole buffer, the whole array and the semaphores at zero are the slots free and the remainder, -/
theorem rstart (c : Dev nD) (fw : WresBuf (F := F) c) :
    iprop((∃ f, pt c cc0_scratch0 f) ∗ pt c main_arg1 fw ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
      ⊢ (iprop(rdrop c fw ∗ rfree c fw 0 ∗ rfree c fw 1 ∗ rfree c fw 2 ∗ rfree c fw 3 ∗ rfree c fw 4 ∗ rfree c fw 5) : sProp 𝕄) := by
  iintro ⟨Hb, Ha, S0, S1, S2, S3, S4, S5⟩
  icases (rslots_split c) $$ Hb with ⟨B0, B1, B2, B3, B4, B5⟩
  icases (rtoks c fw).1 $$ Ha with ⟨D, T0, T1, T2, T3, T4, T5⟩
  isplitl [D]; · iexact D
  isplitl [S0 B0 T0]
  · unfold rfree
    isplitl [S0]; · iexact S0
    isplitl [B0]; · iexact B0
    iexact T0
  isplitl [S1 B1 T1]
  · unfold rfree
    isplitl [S1]; · iexact S1
    isplitl [B1]; · iexact B1
    iexact T1
  isplitl [S2 B2 T2]
  · unfold rfree
    isplitl [S2]; · iexact S2
    isplitl [B2]; · iexact B2
    iexact T2
  isplitl [S3 B3 T3]
  · unfold rfree
    isplitl [S3]; · iexact S3
    isplitl [B3]; · iexact B3
    iexact T3
  isplitl [S4 B4 T4]
  · unfold rfree
    isplitl [S4]; · iexact S4
    isplitl [B4]; · iexact B4
    iexact T4
  unfold rfree
  isplitl [S5]; · iexact S5
  isplitl [B5]; · iexact B5
  iexact T5
/-- and back. -/
theorem rfinish (c : Dev nD) (fw : WresBuf (F := F) c) :
    iprop(rdrop c fw ∗ rfree c fw 0 ∗ rfree c fw 1 ∗ rfree c fw 2 ∗ rfree c fw 3 ∗ rfree c fw 4 ∗ rfree c fw 5)
      ⊢ (iprop((∃ f, pt c cc0_scratch0 f) ∗ pt c main_arg1 fw ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) : sProp 𝕄) := by
  unfold rfree
  iintro ⟨D, ⟨S0, B0, T0⟩, ⟨S1, B1, T1⟩, ⟨S2, B2, T2⟩, ⟨S3, B3, T3⟩, ⟨S4, B4, T4⟩, ⟨S5, B5, T5⟩⟩
  isplitl [B0 B1 B2 B3 B4 B5]
  · iapply (rslots_join c)
    isplitl [B0]; · iexact B0
    isplitl [B1]; · iexact B1
    isplitl [B2]; · iexact B2
    isplitl [B3]; · iexact B3
    isplitl [B4]; · iexact B4
    iexact B5
  isplitl [D T0 T1 T2 T3 T4 T5]
  · iapply (rtoks c fw).2
    isplitl [D]; · iexact D
    isplitl [T0]; · iexact T0
    isplitl [T1]; · iexact T1
    isplitl [T2]; · iexact T2
    isplitl [T3]; · iexact T3
    isplitl [T4]; · iexact T4
    iexact T5
  isplitl [S0]; · iexact S0
  isplitl [S1]; · iexact S1
  isplitl [S2]; · iexact S2
  isplitl [S3]; · iexact S3
  isplitl [S4]; · iexact S4
  iexact S5

/-- The elements of slot `j`. -/
def vJ (c : Dev nD) (j : Fin 3) : Finset (Idx ((Memref.whole cc0_scratch1).view.loc (c : Thread nD τ))) := (vslot j.val).view.set

theorem vJ_eq (c : Dev nD) (j : Fin 3) : vJ c j = (Rect.unit (s := S3x1280x7168) ![j.val % 3, 0, 0] S1x1280x7168.size (vslot_inb j.val)).set := by
  show (((View.whole cc0_scratch1).slice _).reshape _ _).set = _
  rw [View.set_reshape, View.set_slice_whole]

theorem vJ_disj (c : Dev nD) (b b' : Fin 3) (h : b ≠ b') : Disjoint (vJ c b) (vJ c b') := by
  rw [vJ_eq, vJ_eq]
  exact Ring.lead_disjoint (s := S3x1280x7168) (0 : Fin 3) 1 (fun j : Fin 3 => ![j.val % 3, 0, 0]) S1x1280x7168.size (fun j => vslot_inb j.val)
    (fun b => by show b.val % 3 = 1 * b.val; rw [Nat.mod_eq_of_lt b.isLt, one_mul]) rfl b b' h
theorem vJ_cover (c : Dev nD) : Finset.univ.biUnion (vJ c) = Finset.univ := by
  rw [show vJ c = _ from funext (vJ_eq c)]
  exact Ring.lead_cover (s := S3x1280x7168) (0 : Fin 3) 1 (fun j : Fin 3 => ![j.val % 3, 0, 0]) S1x1280x7168.size (fun j => vslot_inb j.val)
    (fun b => by show b.val % 3 = 1 * b.val; rw [Nat.mod_eq_of_lt b.isLt, one_mul])
    (fun b a ha => by revert ha; fin_cases a <;> intro ha <;> first | (exact absurd rfl ha) | rfl) rfl
    (fun a ha => by revert ha; fin_cases a <;> intro ha <;> first | (exact absurd rfl ha) | rfl) rfl

/-- The scratch buffer whole is its slots, each at some contents, -/
theorem vslots_split (c : Dev nD) : iprop(∃ f, pt (F := F) c cc0_scratch1 f) ⊢ (iprop((∃ f, (vslot 0).view.loc (c : Thread nD τ) ↦[(vslot 0).view.set]{fullShare} f) ∗ (∃ f, (vslot 1).view.loc (c : Thread nD τ) ↦[(vslot 1).view.set]{fullShare} f) ∗ (∃ f, (vslot 2).view.loc (c : Thread nD τ) ↦[(vslot 2).view.set]{fullShare} f)) : sProp 𝕄) :=
  Ring.slots_split_n (vJ c) (vJ_disj c) (vJ_cover c) [0, 1, 2] (by decide) (by decide)
    (fun s f => (vslot s.val).view.loc (c : Thread nD τ) ↦[(vslot s.val).view.set]{fullShare} f) (fun _ _ => rfl)
/-- and the slots join back to it. -/
theorem vslots_join (c : Dev nD) : iprop((∃ f, (vslot 0).view.loc (c : Thread nD τ) ↦[(vslot 0).view.set]{fullShare} f) ∗ (∃ f, (vslot 1).view.loc (c : Thread nD τ) ↦[(vslot 1).view.set]{fullShare} f) ∗ (∃ f, (vslot 2).view.loc (c : Thread nD τ) ↦[(vslot 2).view.set]{fullShare} f)) ⊢ (iprop(∃ f, pt (F := F) c cc0_scratch1 f) : sProp 𝕄) :=
  Ring.slots_join_n (vJ c) (vJ_disj c) (vJ_cover c) [0, 1, 2] (by decide) (by decide)
    (fun s f => (vslot s.val).view.loc (c : Thread nD τ) ↦[(vslot s.val).view.set]{fullShare} f) (fun _ _ => rfl)

/-- What is left of the array when every slot has its share. -/
abbrev vdrop (c : Dev nD) (fw : WvocBuf (F := F) c) : sProp 𝕄 := (Memref.whole main_arg4).view.loc (c : Thread nD τ) ↦{Transfers.shareDrop fullShare 3} fw

theorem vtoks (c : Dev nD) (fw : WvocBuf (F := F) c) :
    (pt c main_arg4 fw : sProp 𝕄) ⊣⊢ iprop(vdrop c fw ∗ vtok c 0 Finset.univ fw ∗ vtok c 1 Finset.univ fw ∗ vtok c 2 Finset.univ fw) := by
  have h := Transfers.pointsTo_toks (Ix := Unit) (Name := ℕ) (U := Pipeline.UD sig nD τ) (Lvl := ℕ) (ℓ := (Memref.whole main_arg4).view.loc (c : Thread nD τ)) (S := Finset.univ) (f := fw) fullShare 3
  rw [bigSep_univ_eq_bigSepL [0, 1, 2] (by decide) (by decide)] at h
  exact h

/-- The whole buffer, the whole array and the semaphores at zero are the slots free and the remainder, -/
theorem vstart (c : Dev nD) (fw : WvocBuf (F := F) c) :
    iprop((∃ f, pt c cc0_scratch1 f) ∗ pt c main_arg4 fw ∗ semVal ((c : Thread nD τ), SemLoc.dma 18) 0 ∗ semVal ((c : Thread nD τ), SemLoc.dma 19) 0 ∗ semVal ((c : Thread nD τ), SemLoc.dma 20) 0)
      ⊢ (iprop(vdrop c fw ∗ vfree c fw 0 ∗ vfree c fw 1 ∗ vfree c fw 2) : sProp 𝕄) := by
  iintro ⟨Hb, Ha, S0, S1, S2⟩
  icases (vslots_split c) $$ Hb with ⟨B0, B1, B2⟩
  icases (vtoks c fw).1 $$ Ha with ⟨D, T0, T1, T2⟩
  isplitl [D]; · iexact D
  isplitl [S0 B0 T0]
  · unfold vfree
    isplitl [S0]; · iexact S0
    isplitl [B0]; · iexact B0
    iexact T0
  isplitl [S1 B1 T1]
  · unfold vfree
    isplitl [S1]; · iexact S1
    isplitl [B1]; · iexact B1
    iexact T1
  unfold vfree
  isplitl [S2]; · iexact S2
  isplitl [B2]; · iexact B2
  iexact T2
/-- and back. -/
theorem vfinish (c : Dev nD) (fw : WvocBuf (F := F) c) :
    iprop(vdrop c fw ∗ vfree c fw 0 ∗ vfree c fw 1 ∗ vfree c fw 2)
      ⊢ (iprop((∃ f, pt c cc0_scratch1 f) ∗ pt c main_arg4 fw ∗ semVal ((c : Thread nD τ), SemLoc.dma 18) 0 ∗ semVal ((c : Thread nD τ), SemLoc.dma 19) 0 ∗ semVal ((c : Thread nD τ), SemLoc.dma 20) 0) : sProp 𝕄) := by
  unfold vfree
  iintro ⟨D, ⟨S0, B0, T0⟩, ⟨S1, B1, T1⟩, ⟨S2, B2, T2⟩⟩
  isplitl [B0 B1 B2]
  · iapply (vslots_join c)
    isplitl [B0]; · iexact B0
    isplitl [B1]; · iexact B1
    iexact B2
  isplitl [D T0 T1 T2]
  · iapply (vtoks c fw).2
    isplitl [D]; · iexact D
    isplitl [T0]; · iexact T0
    isplitl [T1]; · iexact T1
    iexact T2
  isplitl [S0]; · iexact S0
  isplitl [S1]; · iexact S1
  iexact S2

end Cert.KernelIdeal.Hand
-- ==== Proof.Loop1.lean ====
module

public import proofs.«01_k».proof.Proof.Trip1

@[expose] public section

noncomputable section

/-! # The loop over the heads' weight blocks

Before trip `k` the six blocks `k … k+5` are under way (those that exist), the vocabulary's first blocks are under way once
trip 64, 65, 66 has started them, and the hidden states hold what the trips before `k` made of them. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The hidden states before trip `k`. -/
def hAt (c : Dev nD) (fw : WresBuf (F := F) c) (fs : Buf (Elt F) ((Memref.whole cc0_stg1_0).view.loc (c : Thread nD τ)))
    (fb : Buf (Elt F) ((Memref.whole cc0_stg2_0).view.loc (c : Thread nD τ))) (fx : Buf (Elt F) ((Memref.whole cc0_scratch5).view.loc (c : Thread nD τ)))
    (v82 : IVec S24x1 32) (v953 : FVec F S24x1 .f32) (fh : Buf (Elt F) ((Memref.whole cc0_scratch4).view.loc (c : Thread nD τ))) :
    ℕ → Buf (Elt F) ((Memref.whole cc0_scratch4).view.loc (c : Thread nD τ))
  | 0 => fh
  | k + 1 => if h : k < 70 then hstep c fw fs fb fx v82 v953 ⟨k, h⟩ (hAt c fw fs fb fx v82 v953 fh k) else hAt c fw fs fb fx v82 v953 fh k

/-- Vocabulary slot `j` before trip `k`: under way once trip `64 + j` is past. -/
def vrole (c : Dev nD) (fv : WvocBuf (F := F) c) (j : Fin 25) (k : ℕ) : sProp 𝕄 :=
  if j.val + 64 < k then vinfl c fv j else vfree c fv j.val

theorem vrole_of_lt (c : Dev nD) (fv : WvocBuf (F := F) c) (j : Fin 25) (k : ℕ) (h : j.val + 64 < k) : vrole c fv j k = vinfl c fv j := if_pos h
theorem vrole_of_le (c : Dev nD) (fv : WvocBuf (F := F) c) (j : Fin 25) (k : ℕ) (h : k ≤ j.val + 64) : vrole c fv j k = vfree c fv j.val := if_neg (by omega)
theorem vrole_congr (c : Dev nD) (fv : WvocBuf (F := F) c) (j : Fin 25) (k k' : ℕ) (h : j.val + 64 < k ↔ j.val + 64 < k') : vrole c fv j k = vrole c fv j k' := by
  unfold vrole; simp only [h]

/-- The slot of block `p`: under way with it if there is one, else free. -/
def rrole (c : Dev nD) (fw : WresBuf (F := F) c) (p : ℕ) : sProp 𝕄 := if h : p < 70 then rinfl c fw ⟨p, h⟩ else rfree c fw p

theorem rrole_of_lt (c : Dev nD) (fw : WresBuf (F := F) c) (p : ℕ) (h : p < 70) : rrole c fw p = rinfl c fw ⟨p, h⟩ := dif_pos h
theorem rrole_of_le (c : Dev nD) (fw : WresBuf (F := F) c) (p : ℕ) (h : 70 ≤ p) : rrole c fw p = rfree c fw p := dif_neg (by omega)

/-- What the loop touches, before trip `k`. -/
def inv1 (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) (k : ℕ) : sProp 𝕄 :=
  iprop(rrole c fw k ∗ rrole c fw (k + 1) ∗ rrole c fw (k + 2) ∗ rrole c fw (k + 3) ∗ rrole c fw (k + 4) ∗ rrole c fw (k + 5)
    ∗ vrole c fv 0 k ∗ vrole c fv 1 k ∗ vrole c fv 2 k
    ∗ pt c cc0_stg1_0 fs ∗ pt c cc0_stg2_0 fb ∗ pt c cc0_scratch5 fx ∗ pt c cc0_scratch4 (hAt c fw fs fb fx v82 v953 fh k)
    ∗ (∃ W, owes (c : Thread nD τ) 0 W))

/-- One trip keeps it. -/
theorem inv1_step (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) (v1222 : FVec F S1x512 .f32)
    (k : Fin k0_t1_loop.trips) (acc : Unit) :
    inv1 c fw fv fs fb fx fh v82 v953 k.val
      ⊢ wp frame (wpE (defs₀ (F := F)) Variants.none (c : Thread nD τ) none) Set.univ (body1 v82 v953 v1222 k acc)
          (fun _ => inv1 c fw fv fs fb fx fh v82 v953 (k.val + 1)) := by
  have hk70 : k.val < 70 := k.isLt
  have hh : hAt c fw fs fb fx v82 v953 fh (k.val + 1) = hstep c fw fs fb fx v82 v953 k (hAt c fw fs fb fx v82 v953 fh k.val) := dif_pos hk70
  unfold inv1
  rw [hh, rrole_of_lt c fw k.val hk70]
  rcases lt_or_ge k.val 64 with hA | hA
  · rw [rrole_of_lt c fw (k.val + 1 + 5) (show k.val + 1 + 5 < 70 by omega),
      vrole_congr c fv 0 (k.val + 1) k.val (by show 0 + 64 < k.val + 1 ↔ 0 + 64 < k.val; omega),
      vrole_congr c fv 1 (k.val + 1) k.val (by show 1 + 64 < k.val + 1 ↔ 1 + 64 < k.val; omega),
      vrole_congr c fv 2 (k.val + 1) k.val (by show 2 + 64 < k.val + 1 ↔ 2 + 64 < k.val; omega)]
    iintro ⟨R0, R1, R2, R3, R4, R5, V0, V1, V2, Hs, Hb, Hx, Hh, ⟨%W, HO⟩⟩
    iapply (tripA c fw fv fs fb fx (hAt c fw fs fb fx v82 v953 fh k.val) v82 v953 v1222 k hA W)
    isplitl [R0]; · iexact R0
    isplitl [Hs]; · iexact Hs
    isplitl [Hb]; · iexact Hb
    isplitl [Hx]; · iexact Hx
    isplitl [Hh]; · iexact Hh
    isplitl [HO]; · iexact HO
    iintro ⟨R, Hs, Hb, Hx, Hh, HW⟩
    isplitl [R1]; · iexact R1
    isplitl [R2]; · iexact R2
    isplitl [R3]; · iexact R3
    isplitl [R4]; · iexact R4
    isplitl [R5]; · iexact R5
    isplitl [R]; · iexact R
    isplitl [V0]; · iexact V0
    isplitl [V1]; · iexact V1
    isplitl [V2]; · iexact V2
    isplitl [Hs]; · iexact Hs
    isplitl [Hb]; · iexact Hb
    isplitl [Hx]; · iexact Hx
    isplitl [Hh]; · iexact Hh
    iexact HW
  · rw [rrole_of_le c fw (k.val + 1 + 5) (show 70 ≤ k.val + 1 + 5 by omega), show k.val + 1 + 5 = k.val + 6 from rfl, rfree_add]
    rcases lt_or_ge k.val 67 with hB | hB
    · obtain hj | hj | hj : k.val = 64 ∨ k.val = 65 ∨ k.val = 66 := by omega
      · have e : k.val - 64 = 0 := by omega
        rw [vrole_of_le c fv 0 k.val (by show k.val ≤ 0 + 64; omega), vrole_of_lt c fv 0 (k.val + 1) (by show 0 + 64 < k.val + 1; omega)]
        rw [vrole_congr c fv 1 (k.val + 1) k.val (by show 1 + 64 < k.val + 1 ↔ 1 + 64 < k.val; omega)]
        rw [vrole_congr c fv 2 (k.val + 1) k.val (by show 2 + 64 < k.val + 1 ↔ 2 + 64 < k.val; omega)]
        have T := fun W => tripB c fw fv fs fb fx (hAt c fw fs fb fx v82 v953 fh k.val) v82 v953 v1222 k hA hB W
        simp only [e] at T
        iintro ⟨R0, R1, R2, R3, R4, R5, V0, V1, V2, Hs, Hb, Hx, Hh, ⟨%W, HO⟩⟩
        iapply (T W)
        isplitl [R0]; · iexact R0
        isplitl [V0]; · iexact V0
        isplitl [Hs]; · iexact Hs
        isplitl [Hb]; · iexact Hb
        isplitl [Hx]; · iexact Hx
        isplitl [Hh]; · iexact Hh
        isplitl [HO]; · iexact HO
        iintro ⟨R, V, Hs, Hb, Hx, Hh, HW⟩
        isplitl [R1]; · iexact R1
        isplitl [R2]; · iexact R2
        isplitl [R3]; · iexact R3
        isplitl [R4]; · iexact R4
        isplitl [R5]; · iexact R5
        isplitl [R]; · iexact R
        isplitl [V]; · iexact V
        isplitl [V1]; · iexact V1
        isplitl [V2]; · iexact V2
        isplitl [Hs]; · iexact Hs
        isplitl [Hb]; · iexact Hb
        isplitl [Hx]; · iexact Hx
        isplitl [Hh]; · iexact Hh
        iexact HW
      · have e : k.val - 64 = 1 := by omega
        rw [vrole_of_le c fv 1 k.val (by show k.val ≤ 1 + 64; omega), vrole_of_lt c fv 1 (k.val + 1) (by show 1 + 64 < k.val + 1; omega)]
        rw [vrole_congr c fv 0 (k.val + 1) k.val (by show 0 + 64 < k.val + 1 ↔ 0 + 64 < k.val; omega)]
        rw [vrole_congr c fv 2 (k.val + 1) k.val (by show 2 + 64 < k.val + 1 ↔ 2 + 64 < k.val; omega)]
        have T := fun W => tripB c fw fv fs fb fx (hAt c fw fs fb fx v82 v953 fh k.val) v82 v953 v1222 k hA hB W
        simp only [e] at T
        iintro ⟨R0, R1, R2, R3, R4, R5, V0, V1, V2, Hs, Hb, Hx, Hh, ⟨%W, HO⟩⟩
        iapply (T W)
        isplitl [R0]; · iexact R0
        isplitl [V1]; · iexact V1
        isplitl [Hs]; · iexact Hs
        isplitl [Hb]; · iexact Hb
        isplitl [Hx]; · iexact Hx
        isplitl [Hh]; · iexact Hh
        isplitl [HO]; · iexact HO
        iintro ⟨R, V, Hs, Hb, Hx, Hh, HW⟩
        isplitl [R1]; · iexact R1
        isplitl [R2]; · iexact R2
        isplitl [R3]; · iexact R3
        isplitl [R4]; · iexact R4
        isplitl [R5]; · iexact R5
        isplitl [R]; · iexact R
        isplitl [V0]; · iexact V0
        isplitl [V]; · iexact V
        isplitl [V2]; · iexact V2
        isplitl [Hs]; · iexact Hs
        isplitl [Hb]; · iexact Hb
        isplitl [Hx]; · iexact Hx
        isplitl [Hh]; · iexact Hh
        iexact HW
      · have e : k.val - 64 = 2 := by omega
        rw [vrole_of_le c fv 2 k.val (by show k.val ≤ 2 + 64; omega), vrole_of_lt c fv 2 (k.val + 1) (by show 2 + 64 < k.val + 1; omega)]
        rw [vrole_congr c fv 0 (k.val + 1) k.val (by show 0 + 64 < k.val + 1 ↔ 0 + 64 < k.val; omega)]
        rw [vrole_congr c fv 1 (k.val + 1) k.val (by show 1 + 64 < k.val + 1 ↔ 1 + 64 < k.val; omega)]
        have T := fun W => tripB c fw fv fs fb fx (hAt c fw fs fb fx v82 v953 fh k.val) v82 v953 v1222 k hA hB W
        simp only [e] at T
        iintro ⟨R0, R1, R2, R3, R4, R5, V0, V1, V2, Hs, Hb, Hx, Hh, ⟨%W, HO⟩⟩
        iapply (T W)
        isplitl [R0]; · iexact R0
        isplitl [V2]; · iexact V2
        isplitl [Hs]; · iexact Hs
        isplitl [Hb]; · iexact Hb
        isplitl [Hx]; · iexact Hx
        isplitl [Hh]; · iexact Hh
        isplitl [HO]; · iexact HO
        iintro ⟨R, V, Hs, Hb, Hx, Hh, HW⟩
        isplitl [R1]; · iexact R1
        isplitl [R2]; · iexact R2
        isplitl [R3]; · iexact R3
        isplitl [R4]; · iexact R4
        isplitl [R5]; · iexact R5
        isplitl [R]; · iexact R
        isplitl [V0]; · iexact V0
        isplitl [V1]; · iexact V1
        isplitl [V]; · iexact V
        isplitl [Hs]; · iexact Hs
        isplitl [Hb]; · iexact Hb
        isplitl [Hx]; · iexact Hx
        isplitl [Hh]; · iexact Hh
        iexact HW
    · rw [vrole_congr c fv 0 (k.val + 1) k.val (by show 0 + 64 < k.val + 1 ↔ 0 + 64 < k.val; omega),
        vrole_congr c fv 1 (k.val + 1) k.val (by show 1 + 64 < k.val + 1 ↔ 1 + 64 < k.val; omega),
        vrole_congr c fv 2 (k.val + 1) k.val (by show 2 + 64 < k.val + 1 ↔ 2 + 64 < k.val; omega)]
      iintro ⟨R0, R1, R2, R3, R4, R5, V0, V1, V2, Hs, Hb, Hx, Hh, ⟨%W, HO⟩⟩
      iapply (tripC c fw fv fs fb fx (hAt c fw fs fb fx v82 v953 fh k.val) v82 v953 v1222 k hB W)
      isplitl [R0]; · iexact R0
      isplitl [Hs]; · iexact Hs
      isplitl [Hb]; · iexact Hb
      isplitl [Hx]; · iexact Hx
      isplitl [Hh]; · iexact Hh
      isplitl [HO]; · iexact HO
      iintro ⟨R, Hs, Hb, Hx, Hh, HW⟩
      isplitl [R1]; · iexact R1
      isplitl [R2]; · iexact R2
      isplitl [R3]; · iexact R3
      isplitl [R4]; · iexact R4
      isplitl [R5]; · iexact R5
      isplitl [R]; · iexact R
      isplitl [V0]; · iexact V0
      isplitl [V1]; · iexact V1
      isplitl [V2]; · iexact V2
      isplitl [Hs]; · iexact Hs
      isplitl [Hb]; · iexact Hb
      isplitl [Hx]; · iexact Hx
      isplitl [Hh]; · iexact Hh
      iexact HW

end Cert.KernelIdeal.Hand
-- ==== Proof.Trip2.lean ====
module

public import proofs.«01_k».proof.Proof.Trip1

@[expose] public section

noncomputable section

/-! # One trip of the loop over the vocabulary's blocks -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The region of the loop over the vocabulary's blocks at this kernel's buffers. -/
abbrev body2 (v1643 : FVec F S24x1 .f32) (v1644 : IVec S24x128 32) (v1750 v1751 : FVec F S24x128 .f32) (z : BitVec 32) :=
  k0_t2_body (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) v1643 v1644 v1750 v1751 z

instance (k : Fin k0_t2_loop.trips) : ClosedOff (k0_off16 k) := ⟨![k.val % 3, 0, 0], by revert k; decide +kernel⟩
instance (k : Fin k0_t2_loop.trips) : ClosedOff (k0_off18 k) := ⟨![k.val % 3, 256, 0], by revert k; decide +kernel⟩
instance (k : Fin k0_t2_loop.trips) : ClosedOff (k0_off19 k) := ⟨![k.val % 3, 512, 0], by revert k; decide +kernel⟩
instance (k : Fin k0_t2_loop.trips) : ClosedOff (k0_off20 k) := ⟨![k.val % 3, 768, 0], by revert k; decide +kernel⟩
instance (k : Fin k0_t2_loop.trips) : ClosedOff (k0_off21 k) := ⟨![k.val % 3, 1024, 0], by revert k; decide +kernel⟩

/-! ## What one trip computes -/

/-- The codes against 256 rows of the vocabulary. -/
def vdot (X : Vec F S32x7168 .fp8e4m3) (B : Vec F S1x256x7168 .fp8e4m3) : FVec F S32x256 .f32 :=
  matmul dot_S32x7168_S256x7168_S32x256_1_1_0_0_n_n none X (shapeCast S256x7168 B shapeCasts_S1x256x7168_S256x7168) (constant S32x256 .f32 0x00000000#32)

/-- The logits of the first 128 of those rows. -/
def lgt0 (v1643 : FVec F S24x1 .f32) (D : FVec F S32x256 .f32) (sv : Vec F S1x128 .f32) : FVec F S24x128 .f32 :=
  mulf (mulf (extractStridedSlice S24x128 ![0, 0] D slices_S32x256_o0_0_S24x128) (broadcastTo S24x128 v1643 broadcasts_S24x1_S24x128))
    (broadcastTo S24x128 (shapeCast S1x128 sv shapeCasts_S1x128_S1x128) broadcasts_S1x128_S24x128)
/-- The logits of the last 128 of those rows. -/
def lgt1 (v1643 : FVec F S24x1 .f32) (D : FVec F S32x256 .f32) (sv : Vec F S1x128 .f32) : FVec F S24x128 .f32 :=
  mulf (mulf (extractStridedSlice S24x128 ![0, 128] D slices_S32x256_o0_128_S24x128) (broadcastTo S24x128 v1643 broadcasts_S24x1_S24x128))
    (broadcastTo S24x128 (shapeCast S1x128 sv shapeCasts_S1x128_S1x128) broadcasts_S1x128_S24x128)

/-- What trip `k` reads of the slot it has waited for, through a box of 256 rows. -/
def vtile (c : Dev nD) (fv : WvocBuf (F := F) c) (k : Fin k0_t2_loop.trips) (off : Fin 3 → ℕ) (inb : ∀ a, off a + S1x256x7168.size a ≤ S3x1280x7168.size a) :
    Vec F S1x256x7168 .fp8e4m3 :=
  View.readAt (Elt F) (Memref.whole cc0_scratch1).view (Rect.unit (s := S3x1280x7168) off S1x256x7168.size inb).toLoadRect
    ((vslot k.val).view.writes (Elt F) (vslot k.val).view.junk
      [⟨Rect.whole S1280x7168, ReadAs.same.apply (View.read (Elt F) (vsrc k).view fv)⟩])

/-- The codes, as the trip loads them. -/
def vcodes (c : Dev nD) (fx : Cont (F := F) c cc0_scratch5) : Vec F S32x7168 .fp8e4m3 :=
  View.readAt (Elt F) (Memref.whole cc0_scratch5).view (Rect.unit (s := S32x7168) ![0, 0] S32x7168.size inb_S32x7168_S32x7168_0_0).toLoadRect fx

/-- The vocabulary scales of block `r` of trip `k`. -/
def vsc (c : Dev nD) (fs : Cont (F := F) c cc0_stg3_0) (k : Fin k0_t2_loop.trips) (r : Fin 10) : Vec F S1x128 .f32 :=
  View.readAt (Elt F) (Memref.whole cc0_stg3_0).view (Rect.unit (s := S250x128) (k0_off17 k (BitVec.ofNat 32 r.val)) S1x128.size (k0_off17_inb k r)).toLoadRect fs

/-- The logits of block `r` of trip `k`. -/
def vlog (c : Dev nD) (fv : WvocBuf (F := F) c) (fs : Cont (F := F) c cc0_stg3_0) (fx : Cont (F := F) c cc0_scratch5) (v1643 : FVec F S24x1 .f32)
    (k : Fin k0_t2_loop.trips) : ℕ → FVec F S24x128 .f32
  | 0 => lgt0 v1643 (vdot (vcodes c fx) (vtile c fv k (k0_off16 k) (k0_off16_inb k))) (vsc c fs k 0)
  | 1 => lgt1 v1643 (vdot (vcodes c fx) (vtile c fv k (k0_off16 k) (k0_off16_inb k))) (vsc c fs k 1)
  | 2 => lgt0 v1643 (vdot (vcodes c fx) (vtile c fv k (k0_off18 k) (k0_off18_inb k))) (vsc c fs k 2)
  | 3 => lgt1 v1643 (vdot (vcodes c fx) (vtile c fv k (k0_off18 k) (k0_off18_inb k))) (vsc c fs k 3)
  | 4 => lgt0 v1643 (vdot (vcodes c fx) (vtile c fv k (k0_off19 k) (k0_off19_inb k))) (vsc c fs k 4)
  | 5 => lgt1 v1643 (vdot (vcodes c fx) (vtile c fv k (k0_off19 k) (k0_off19_inb k))) (vsc c fs k 5)
  | 6 => lgt0 v1643 (vdot (vcodes c fx) (vtile c fv k (k0_off20 k) (k0_off20_inb k))) (vsc c fs k 6)
  | 7 => lgt1 v1643 (vdot (vcodes c fx) (vtile c fv k (k0_off20 k) (k0_off20_inb k))) (vsc c fs k 7)
  | 8 => lgt0 v1643 (vdot (vcodes c fx) (vtile c fv k (k0_off21 k) (k0_off21_inb k))) (vsc c fs k 8)
  | _ => lgt1 v1643 (vdot (vcodes c fx) (vtile c fv k (k0_off21 k) (k0_off21_inb k))) (vsc c fs k 9)

/-- The running maximum after two more blocks of logits. -/
def mStep (m l0 l1 : FVec F S24x128 .f32) : FVec F S24x128 .f32 := maximumf (maximumf m l0) l1
/-- The running sum of exponentials after two more blocks of logits. -/
def sStep (m s l0 l1 : FVec F S24x128 .f32) : FVec F S24x128 .f32 :=
  addf (addf (mulf s (exp (subf m (mStep m l0 l1)))) (exp (subf l0 (mStep m l0 l1)))) (exp (subf l1 (mStep m l0 l1)))
/-- The two running rows after `i` pairs of the blocks `l`. -/
def msAt (l : ℕ → FVec F S24x128 .f32) (p : FVec F S24x128 .f32 × FVec F S24x128 .f32) : ℕ → FVec F S24x128 .f32 × FVec F S24x128 .f32
  | 0 => p
  | i + 1 => (mStep (msAt l p i).1 (l (2 * i)) (l (2 * i + 1)), sStep (msAt l p i).1 (msAt l p i).2 (l (2 * i)) (l (2 * i + 1)))

/-- The first vocabulary entry of block `b` of trip `k`, as a word. -/
def vbase (k : Fin k0_t2_loop.trips) (b : ℕ) : BitVec 32 := Scalar.addi (Scalar.muli (Scf.iv 0#32 1#32 k) 1280#32) (BitVec.ofNat 32 (128 * b))

/-- The row of picked logits of one candidate after one more block: the block's logit where the candidate lies in it. -/
def gotStep (base : BitVec 32) (ids : Vec F S1x24x128 .i32) (l : FVec F S24x128 .f32) (old : Vec F S1x24x128 .f32) : Vec F S1x24x128 .f32 :=
  shapeCast S1x24x128 (select (cmpi .eq (shapeCast S24x128 ids shapeCasts_S1x24x128_S24x128) (broadcast S24x128 base)) l
    (shapeCast S24x128 old shapeCasts_S1x24x128_S24x128)) shapeCasts_S24x128_S1x24x128

theorem inbGot (n : Fin 8) : ∀ a, (![n.val, 0, 0] : Fin 3 → ℕ) a + S1x24x128.size a ≤ S8x24x128.size a := by decide +revert
theorem inbIds (n : Fin 8) : ∀ a, (![n.val + 1, 0, 0] : Fin 3 → ℕ) a + S1x24x128.size a ≤ S9x24x128.size a := by decide +revert

/-- The row of candidate `n` in the buffer of picked logits. -/
def gotRow (c : Dev nD) (f : Cont (F := F) c cc0_scratch7) (n : Fin 8) : Vec F S1x24x128 .f32 :=
  View.readAt (Elt F) (Memref.whole cc0_scratch7).view (Rect.unit (s := S8x24x128) ![n.val, 0, 0] S1x24x128.size (inbGot n)).toLoadRect f
/-- The row of candidate `n` in the buffer of candidates. -/
def idsRow (c : Dev nD) (f : Cont (F := F) c cc0_scratch6) (n : Fin 8) : Vec F S1x24x128 .i32 :=
  View.readAt (Elt F) (Memref.whole cc0_scratch6).view (Rect.unit (s := S9x24x128) ![n.val + 1, 0, 0] S1x24x128.size (inbIds n)).toLoadRect f

/-- The picked logits of one candidate after `b` blocks of trip `k`. -/
def gotAt (k : Fin k0_t2_loop.trips) (ids : Vec F S1x24x128 .i32) (l : ℕ → FVec F S24x128 .f32) (old : Vec F S1x24x128 .f32) : ℕ → Vec F S1x24x128 .f32
  | 0 => old
  | b + 1 => gotStep (vbase k b) ids (l b) (gotAt k ids l old b)

theorem gotAt_succ (k : Fin k0_t2_loop.trips) (ids : Vec F S1x24x128 .i32) (l : ℕ → FVec F S24x128 .f32) (old : Vec F S1x24x128 .f32) (b : ℕ) :
  gotAt k ids l old (b + 1) = gotStep (vbase k b) ids (l b) (gotAt k ids l old b) := rfl

/-! ## Reading back a row of the picked logits -/

theorem got_skip {κ : Kind} {sp : Space} (v : View sig κ sp S8x24x128 .f32) (f : v.ty.Contents (Elt F)) (a b : ℕ) (h : a ≠ b) (ia ib) (w) (L) :
    v.readAt (Elt F) (Rect.unit (s := S8x24x128) ![b, 0, 0] S1x24x128.size ib).toLoadRect
        (v.writes (Elt F) f (⟨Rect.unit (s := S8x24x128) ![a, 0, 0] S1x24x128.size ia, w⟩ :: L))
      = v.readAt (Elt F) (Rect.unit (s := S8x24x128) ![b, 0, 0] S1x24x128.size ib).toLoadRect (v.writes (Elt F) f L) := by
  funext j
  rw [View.readAt_apply, View.readAt_apply]
  refine View.read_writes_cons_miss_of_axis v f _ L _ (0 : Fin 3) a 1 rfl rfl rfl ?_
  have hj : (j 0).val < 1 := (j 0).isLt
  have e : ((Rect.unit (s := S8x24x128) ![b, 0, 0] S1x24x128.size ib).toLoadRect.idx j 0).val = b + 1 * (j 0).val := rfl
  rw [e]
  omega
theorem got_hit {κ : Kind} {sp : Space} (v : View sig κ sp S8x24x128 .f32) (f : v.ty.Contents (Elt F)) (b : ℕ) (ib) (ib') (w) (L) :
    v.readAt (Elt F) (Rect.unit (s := S8x24x128) ![b, 0, 0] S1x24x128.size ib).toLoadRect
        (v.writes (Elt F) f (⟨Rect.unit (s := S8x24x128) ![b, 0, 0] S1x24x128.size ib', w⟩ :: L)) = w := by
  funext j
  exact View.read_writes_cons_emb v f (Rect.unit (s := S8x24x128) ![b, 0, 0] S1x24x128.size ib') w L j

/-- A row is read as last written, seven writes of other rows ago. -/
theorem got_read8 {κ : Kind} {sp : Space} (v : View sig κ sp S8x24x128 .f32) (f : v.ty.Contents (Elt F)) (a1 a2 a3 a4 a5 a6 a7 b : ℕ)
    (h1 : a1 ≠ b) (h2 : a2 ≠ b) (h3 : a3 ≠ b) (h4 : a4 ≠ b) (h5 : a5 ≠ b) (h6 : a6 ≠ b) (h7 : a7 ≠ b) (i1 i2 i3 i4 i5 i6 i7 ib ib') (w1 w2 w3 w4 w5 w6 w7 w) (L) :
    v.readAt (Elt F) (Rect.unit (s := S8x24x128) ![b, 0, 0] S1x24x128.size ib).toLoadRect
        (v.writes (Elt F) f (⟨Rect.unit (s := S8x24x128) ![a1, 0, 0] S1x24x128.size i1, w1⟩ :: ⟨Rect.unit (s := S8x24x128) ![a2, 0, 0] S1x24x128.size i2, w2⟩
          :: ⟨Rect.unit (s := S8x24x128) ![a3, 0, 0] S1x24x128.size i3, w3⟩ :: ⟨Rect.unit (s := S8x24x128) ![a4, 0, 0] S1x24x128.size i4, w4⟩
          :: ⟨Rect.unit (s := S8x24x128) ![a5, 0, 0] S1x24x128.size i5, w5⟩ :: ⟨Rect.unit (s := S8x24x128) ![a6, 0, 0] S1x24x128.size i6, w6⟩
          :: ⟨Rect.unit (s := S8x24x128) ![a7, 0, 0] S1x24x128.size i7, w7⟩ :: ⟨Rect.unit (s := S8x24x128) ![b, 0, 0] S1x24x128.size ib', w⟩ :: L)) = w := by
  rw [got_skip v f a1 b h1, got_skip v f a2 b h2, got_skip v f a3 b h3, got_skip v f a4 b h4, got_skip v f a5 b h5, got_skip v f a6 b h6, got_skip v f a7 b h7, got_hit]

/-- Slot of block `k` after trip `k`: under way with block `k + 3` if there is one, else free. -/
def vnext (c : Dev nD) (fv : WvocBuf (F := F) c) (p : ℕ) : sProp 𝕄 := if h : p < 25 then vinfl c fv ⟨p, h⟩ else vfree c fv p

theorem vnext_of_lt (c : Dev nD) (fv : WvocBuf (F := F) c) (p : ℕ) (h : p < 25) : vnext c fv p = vinfl c fv ⟨p, h⟩ := dif_pos h
theorem vnext_of_le (c : Dev nD) (fv : WvocBuf (F := F) c) (p : ℕ) (h : 25 ≤ p) : vnext c fv p = vfree c fv p := dif_neg (by omega)

/-- The rest of a slot's share, once its next copy is known to be started. -/
theorem tok_pos (c : Dev nD) (fv : WvocBuf (F := F) c) (q : PosShare TreeShare) {C : Prop} [Decidable C] {R : C → Finset (Idx ((Memref.whole main_arg4).view.loc (c : Thread nD τ)))} (h : C) :
    ((Memref.whole main_arg4).view.loc (c : Thread nD τ) ↦[Finset.univ \ gset C R]{q} fv : sProp 𝕄)
      ⊢ (Memref.whole main_arg4).view.loc (c : Thread nD τ) ↦[Finset.univ \ R h]{q} fv := by rw [gset.pos h]
/-- The slot's whole share, once it is known that there is no next copy. -/
theorem tok_neg (c : Dev nD) (fv : WvocBuf (F := F) c) (q : PosShare TreeShare) {C : Prop} [Decidable C] {R : C → Finset (Idx ((Memref.whole main_arg4).view.loc (c : Thread nD τ)))} (h : ¬C) :
    ((Memref.whole main_arg4).view.loc (c : Thread nD τ) ↦[Finset.univ \ gset C R]{q} fv : sProp 𝕄)
      ⊢ (Memref.whole main_arg4).view.loc (c : Thread nD τ) ↦{q} fv := by rw [gset.neg h, Finset.sdiff_empty]

attribute [local irreducible] shapeCast select cmpi in
set_option maxHeartbeats 2000000 in
/-- One trip: the slot's wait, ten blocks of logits folded into the running rows and the picked logits, the slot's next copy. -/
theorem trip2 (c : Dev nD) (fv : WvocBuf (F := F) c) (fs : Cont (F := F) c cc0_stg3_0) (fx : Cont (F := F) c cc0_scratch5) (fi : Cont (F := F) c cc0_scratch6) (fg : Cont (F := F) c cc0_scratch7)
    (v1643 : FVec F S24x1 .f32) (v1644 : IVec S24x128 32) (v1750 v1751 : FVec F S24x128 .f32)
    (k : Fin k0_t2_loop.trips) (acc : FVec F S24x128 .f32 × FVec F S24x128 .f32) (W : Waits sig Unit) (Q : FVec F S24x128 .f32 × FVec F S24x128 .f32 → sProp 𝕄) :
    iprop(vinfl c fv k ∗ pt c cc0_stg3_0 fs ∗ pt c cc0_scratch5 fx ∗ pt c cc0_scratch6 fi ∗ pt c cc0_scratch7 fg ∗ owes (c : Thread nD τ) 0 W
      ∗ (∀ fg', ⌜∀ n, gotRow c fg' n = gotAt k (idsRow c fi n) (vlog c fv fs fx v1643 k) (gotRow c fg n) 10⌝ -∗
          (vnext c fv (k.val + 3) ∗ pt c cc0_stg3_0 fs ∗ pt c cc0_scratch5 fx ∗ pt c cc0_scratch6 fi
          ∗ pt c cc0_scratch7 fg' ∗ (∃ W, owes (c : Thread nD τ) 0 W)) -∗ Q (msAt (vlog c fv fs fx v1643 k) acc 5)))
    ⊢ wp frame (wpE (defs₀ (F := F)) Variants.none (c : Thread nD τ) none) Set.univ (body2 v1643 v1644 v1750 v1751 0#32 k acc) Q := by
  unfold vinfl
  obtain ⟨m0, s0⟩ := acc
  iintro ⟨Hr, Hs, Hx, Hi, Hg, HO, HQ⟩
  icases Hr with ⟨⟨%f, Hfl⟩, Htok⟩
  unfold body2 k0_t2_body
  sl_exec_parts
  have hg : ∀ n, gotRow c ((Memref.whole cc0_scratch7).view.writes (Elt F) fg (trip2.sl.Hg_80 c fv fs fx fi fg v1643 k)) n
      = gotAt k (idsRow c fi n) (vlog c fv fs fx v1643 k) (gotRow c fg n) 10 := by
    intro n
    obtain rfl | rfl | rfl | rfl | rfl | rfl | rfl | rfl : n = 0 ∨ n = 1 ∨ n = 2 ∨ n = 3 ∨ n = 4 ∨ n = 5 ∨ n = 6 ∨ n = 7 := by omega
    all_goals
      change View.readAt (Elt F) (Memref.whole cc0_scratch7).view _ (View.writes (Memref.whole cc0_scratch7).view (Elt F) _ _) = _
      repeat
        refine (got_skip (F := F) (Memref.whole cc0_scratch7).view _ _ _ ?h _ _ _ _).trans ?_
        case h => decide
      refine (got_hit (F := F) (Memref.whole cc0_scratch7).view _ _ _ _ _ _).trans ?_
      rw [gotAt_succ]
      refine' Eq.trans _ (congrArg (gotStep _ _ _) _)
      · exact rfl
      iterate 9
        change View.readAt (Elt F) (Memref.whole cc0_scratch7).view _ (View.writes (Memref.whole cc0_scratch7).view (Elt F) _ _) = _
        refine (got_read8 (F := F) (Memref.whole cc0_scratch7).view _ _ _ _ _ _ _ _ _ ?_ ?_ ?_ ?_ ?_ ?_ ?_ _ _ _ _ _ _ _ _ _ _ _ _ _ _ _ _ _ _).trans ?_
        iterate 7
          · decide
        rw [gotAt_succ]
        refine' Eq.trans _ (congrArg (gotStep _ _ _) _)
        · exact rfl
      rfl
  have hm : (k0_pay301 (trip2.sl.r_28 c fv fs fx v1643 k m0) (trip2.sl.r_31 c fv fs fx v1643 k) (trip2.sl.r_32 c fv fs fx v1643 k),
      k0_pay302 (trip2.sl.r_28 c fv fs fx v1643 k m0) (trip2.sl.r_29 c fv fs fx v1643 k m0 s0) (trip2.sl.r_31 c fv fs fx v1643 k) (trip2.sl.r_32 c fv fs fx v1643 k))
      = msAt (vlog c fv fs fx v1643 k) (m0, s0) 5 := rfl
  rw [hm]
  have hlt : k0_cond3 k = 1#1 → k.val + 3 < 25 := fun h => by have := (cond3_iff k).1 h; omega
  by_cases hk : k.val < 22
  · have h1 : k0_cond3 k = 1#1 := (cond3_iff k).2 hk
    rw [vnext_of_lt c fv (k.val + 3) (by omega), vinfl_add]
    sl_step
    icases (Guarded.elim_pos h1) $$ if1 with if1
    ispecialize HQ $$ %_ %hg
    iapply HQ
    isplitl [if1 Htok]
    · isplitl [if1]
      · iexists ((vslot k.val).view.writes (Elt F) (vslot k.val).view.junk [⟨Rect.whole S1280x7168, ReadAs.same.apply (View.read (Elt F) (vsrc k).view fv)⟩])
        istop
        rw [show (vslot k.val).view.dmaCredit = 286720 from rfl]
        unfold trip2.sl.dma340
        refine Entails.of_eq ?_
        refine congrArg (Transfers.Flight (countersEmb (U := Pipeline.UD sig nD τ)) (c : Thread nD τ) (SemLoc.dma (vsem k.val)) () 286720) ?_
        refine congr (congrArg _ ?_) rfl
        rw [← View.writes_append]
        rfl
      · istop
        exact tok_pos c fv _ (R := fun hc => (vsrc ⟨k.val + 3, hlt hc⟩).view.set) h1

    isplitl [Hs]; · iexact Hs
    isplitl [Hx]; · iexact Hx
    isplitl [Hi]; · iexact Hi
    isplitl [Hg]; · iexact Hg
    iexists _; iexact HO
  · have h1 : ¬ k0_cond3 k = 1#1 := fun h => hk ((cond3_iff k).1 h)
    rw [vnext_of_le c fv (k.val + 3) (by omega), vfree_add]
    unfold vfree
    sl_step
    icases (Guarded.elim_neg h1) $$ if1 with ⟨Hsl, Hsem⟩
    ispecialize HQ $$ %_ %hg
    iapply HQ
    isplitl [Hsl Hsem Htok]
    · isplitl [Hsem]; · iexact Hsem
      isplitl [Hsl]
      · iexists _; iexact Hsl
      · istop
        exact tok_neg c fv _ (R := fun hc => (vsrc ⟨k.val + 3, hlt hc⟩).view.set) h1

    isplitl [Hs]; · iexact Hs
    isplitl [Hx]; · iexact Hx
    isplitl [Hi]; · iexact Hi
    isplitl [Hg]; · iexact Hg
    iexists _; iexact HO

end Cert.KernelIdeal.Hand
-- ==== Proof.Loop2.lean ====
module

public import proofs.«01_k».proof.Proof.Loop1
public import proofs.«01_k».proof.Proof.Trip2

@[expose] public section

noncomputable section

/-! # The loop over the vocabulary's blocks, trip after trip -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The running rows before trip `k`. -/
def msAll (c : Dev nD) (fv : WvocBuf (F := F) c) (fs : Cont (F := F) c cc0_stg3_0) (fx : Cont (F := F) c cc0_scratch5) (v1643 : FVec F S24x1 .f32)
    (p : FVec F S24x128 .f32 × FVec F S24x128 .f32) : ℕ → FVec F S24x128 .f32 × FVec F S24x128 .f32
  | 0 => p
  | k + 1 => if h : k < 25 then msAt (vlog c fv fs fx v1643 ⟨k, h⟩) (msAll c fv fs fx v1643 p k) 5 else msAll c fv fs fx v1643 p k

/-- The picked logits of candidate `n` before trip `k`. -/
def gotAll (c : Dev nD) (fv : WvocBuf (F := F) c) (fs : Cont (F := F) c cc0_stg3_0) (fx : Cont (F := F) c cc0_scratch5) (fi : Cont (F := F) c cc0_scratch6)
    (v1643 : FVec F S24x1 .f32) (g0 : Fin 8 → Vec F S1x24x128 .f32) (n : Fin 8) : ℕ → Vec F S1x24x128 .f32
  | 0 => g0 n
  | k + 1 => if h : k < 25 then gotAt ⟨k, h⟩ (idsRow c fi n) (vlog c fv fs fx v1643 ⟨k, h⟩) (gotAll c fv fs fx fi v1643 g0 n k) 10
      else gotAll c fv fs fx fi v1643 g0 n k

/-- What the loop touches, before trip `k`. -/
def inv2 (c : Dev nD) (fv : WvocBuf (F := F) c) (fs : Cont (F := F) c cc0_stg3_0) (fx : Cont (F := F) c cc0_scratch5) (fi : Cont (F := F) c cc0_scratch6)
    (v1643 : FVec F S24x1 .f32) (g0 : Fin 8 → Vec F S1x24x128 .f32) (p : FVec F S24x128 .f32 × FVec F S24x128 .f32) (k : ℕ)
    (acc : FVec F S24x128 .f32 × FVec F S24x128 .f32) : sProp 𝕄 :=
  iprop(⌜acc = msAll c fv fs fx v1643 p k⌝ ∗ vnext c fv k ∗ vnext c fv (k + 1) ∗ vnext c fv (k + 2)
    ∗ pt c cc0_stg3_0 fs ∗ pt c cc0_scratch5 fx ∗ pt c cc0_scratch6 fi
    ∗ (∃ fg, ⌜∀ n, gotRow c fg n = gotAll c fv fs fx fi v1643 g0 n k⌝ ∗ pt c cc0_scratch7 fg)
    ∗ (∃ W, owes (c : Thread nD τ) 0 W))

/-- One trip keeps it. -/
theorem inv2_step (c : Dev nD) (fv : WvocBuf (F := F) c) (fs : Cont (F := F) c cc0_stg3_0) (fx : Cont (F := F) c cc0_scratch5) (fi : Cont (F := F) c cc0_scratch6)
    (v1643 : FVec F S24x1 .f32) (v1644 : IVec S24x128 32) (v1750 v1751 : FVec F S24x128 .f32) (g0 : Fin 8 → Vec F S1x24x128 .f32) (p : FVec F S24x128 .f32 × FVec F S24x128 .f32)
    (k : Fin k0_t2_loop.trips) (acc : FVec F S24x128 .f32 × FVec F S24x128 .f32) :
    inv2 c fv fs fx fi v1643 g0 p k.val acc
      ⊢ wp frame (wpE (defs₀ (F := F)) Variants.none (c : Thread nD τ) none) Set.univ (body2 v1643 v1644 v1750 v1751 0#32 k acc)
          (fun acc' => inv2 c fv fs fx fi v1643 g0 p (k.val + 1) acc') := by
  have hk : k.val < 25 := k.isLt
  have hm : msAll c fv fs fx v1643 p (k.val + 1) = msAt (vlog c fv fs fx v1643 k) (msAll c fv fs fx v1643 p k.val) 5 := dif_pos hk
  have hg : ∀ n, gotAll c fv fs fx fi v1643 g0 n (k.val + 1) = gotAt k (idsRow c fi n) (vlog c fv fs fx v1643 k) (gotAll c fv fs fx fi v1643 g0 n k.val) 10 :=
    fun n => dif_pos hk
  unfold inv2
  rw [vnext_of_lt c fv k.val hk]
  simp only [hm, hg]
  iintro ⟨%ha, V0, V1, V2, Hs, Hx, Hi, ⟨%fg, %hfg, Hg⟩, ⟨%W, HO⟩⟩
  subst ha
  iapply (trip2 c fv fs fx fi fg v1643 v1644 v1750 v1751 k _ W)
  isplitl [V0]; · iexact V0
  isplitl [Hs]; · iexact Hs
  isplitl [Hx]; · iexact Hx
  isplitl [Hi]; · iexact Hi
  isplitl [Hg]; · iexact Hg
  isplitl [HO]; · iexact HO
  iintro %fg' %hfg' ⟨V, Hs, Hx, Hi, Hg, HW⟩
  isplitr
  · ipureintro; rfl
  isplitl [V1]; · iexact V1
  isplitl [V2]; · iexact V2
  isplitl [V]; · iexact V
  isplitl [Hs]; · iexact Hs
  isplitl [Hx]; · iexact Hx
  isplitl [Hi]; · iexact Hi
  isplitl [Hg]
  · iexists fg'
    isplitr
    · ipureintro; intro n; rw [hfg' n, hfg n]
    iexact Hg
  iexact HW

end Cert.KernelIdeal.Hand
-- ==== Proof.Ends.lean ====
module

public import proofs.«01_k».proof.Proof.Setup
public import proofs.«01_k».proof.Proof.Loop1
public import proofs.«01_k».proof.Proof.Loop2
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Ring.AtN
public import Idealize.ShloMosaic.Lib.Tactic
public import Idealize.ShloMosaic.Lib.WordCmp

@[expose] public section

noncomputable section

/-! # The two loops' ends

The loops as the program's rule takes them, and what their invariants say before the first trip and after the last. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The loop over the heads' blocks. -/
@[instance_reducible] def L1 (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) (v1222 : FVec F S1x512 .f32) :
    LoopInv (M := 𝕄) Idealize.ShloMosaic.frame (wpE (defs₀ (F := F)) Variants.none (c : Thread nD τ) none) Set.univ
      k0_t1_loop.lb k0_t1_loop.ub k0_t1_loop.st k0_t1_ok () (body1 v82 v953 v1222) :=
  ⟨fun k _ => inv1 c fw fv fs fb fx fh v82 v953 k, fun k acc => inv1_step c fw fv fs fb fx fh v82 v953 v1222 k acc⟩

set_option maxRecDepth 16384 in
/-- The loop over the vocabulary's blocks. -/
@[instance_reducible] def L2 (c : Dev nD) (fv : WvocBuf (F := F) c) (fs : Cont (F := F) c cc0_stg3_0) (fx : Cont (F := F) c cc0_scratch5) (fi : Cont (F := F) c cc0_scratch6) (v1643 : FVec F S24x1 .f32) (v1644 : IVec S24x128 32) (v1750 v1751 : FVec F S24x128 .f32) (g0 : Fin 8 → Vec F S1x24x128 .f32) (p : FVec F S24x128 .f32 × FVec F S24x128 .f32) :
    LoopInv (M := 𝕄) Idealize.ShloMosaic.frame (wpE (defs₀ (F := F)) Variants.none (c : Thread nD τ) none) Set.univ
      k0_t2_loop.lb k0_t2_loop.ub k0_t2_loop.st k0_t2_ok p (body2 v1643 v1644 v1750 v1751 0#32) :=
  ⟨inv2 c fv fs fx fi v1643 g0 p, fun k acc => inv2_step c fv fs fx fi v1643 v1644 v1750 v1751 g0 p k acc⟩

theorem rfree_mod (c : Dev nD) (fw : WresBuf (F := F) c) (k : ℕ) : rfree c fw k = rfree c fw (k % 6) := by
  conv_lhs => rw [← Nat.mod_add_div k 6]
  induction k / 6 with
  | zero => rfl
  | succ n ih => rw [show k % 6 + 6 * (n + 1) = (k % 6 + 6 * n) + 6 by omega, rfree_add, ih]
theorem vfree_mod (c : Dev nD) (fv : WvocBuf (F := F) c) (k : ℕ) : vfree c fv k = vfree c fv (k % 3) := by
  conv_lhs => rw [← Nat.mod_add_div k 3]
  induction k / 3 with
  | zero => rfl
  | succ n ih => rw [show k % 3 + 3 * (n + 1) = (k % 3 + 3 * n) + 3 by omega, vfree_add, ih]

/-- Before the first trip the six slots have the first six blocks under way and the vocabulary's slots are free. -/
theorem inv1_start (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) :
    inv1 c fw fv fs fb fx fh v82 v953 0
      = iprop(rinfl c fw 0 ∗ rinfl c fw 1 ∗ rinfl c fw 2 ∗ rinfl c fw 3 ∗ rinfl c fw 4 ∗ rinfl c fw 5 ∗ vfree c fv 0 ∗ vfree c fv 1 ∗ vfree c fv 2
          ∗ pt c cc0_stg1_0 fs ∗ pt c cc0_stg2_0 fb ∗ pt c cc0_scratch5 fx ∗ pt c cc0_scratch4 fh ∗ (∃ W, owes (c : Thread nD τ) 0 W)) := rfl

/-- After the last the heads' slots are free and the vocabulary's have its first three blocks under way. -/
theorem inv1_end (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) :
    inv1 c fw fv fs fb fx fh v82 v953 70
      = iprop(rfree c fw 4 ∗ rfree c fw 5 ∗ rfree c fw 0 ∗ rfree c fw 1 ∗ rfree c fw 2 ∗ rfree c fw 3 ∗ vinfl c fv 0 ∗ vinfl c fv 1 ∗ vinfl c fv 2
          ∗ pt c cc0_stg1_0 fs ∗ pt c cc0_stg2_0 fb ∗ pt c cc0_scratch5 fx ∗ pt c cc0_scratch4 (hAt c fw fs fb fx v82 v953 fh 70) ∗ (∃ W, owes (c : Thread nD τ) 0 W)) := by
  unfold inv1
  rw [rrole_of_le c fw 70 (by omega), rrole_of_le c fw (70 + 1) (by omega), rrole_of_le c fw (70 + 2) (by omega), rrole_of_le c fw (70 + 3) (by omega),
    rrole_of_le c fw (70 + 4) (by omega), rrole_of_le c fw (70 + 5) (by omega), vrole_of_lt c fv 0 70 (by decide), vrole_of_lt c fv 1 70 (by decide), vrole_of_lt c fv 2 70 (by decide),
    rfree_mod c fw 70, rfree_mod c fw (70 + 1), rfree_mod c fw (70 + 2), rfree_mod c fw (70 + 3), rfree_mod c fw (70 + 4), rfree_mod c fw (70 + 5)]

/-- The rows of the picked logits, as the buffer that holds them. -/
def gbuf (c : Dev nD) (g : Fin 8 → Vec F S1x24x128 .f32) : Cont (F := F) c cc0_scratch7 :=
  fun i => g (i (0 : Fin 3)) (fun a => match a with | ⟨0, _⟩ => (0 : Fin 1) | ⟨1, _⟩ => i (1 : Fin 3) | ⟨2, _⟩ => i (2 : Fin 3))

theorem gbuf_of_rows (c : Dev nD) (fg : Cont (F := F) c cc0_scratch7) (g : Fin 8 → Vec F S1x24x128 .f32) (h : ∀ n, gotRow c fg n = g n) : fg = gbuf c g := by
  funext i
  unfold gbuf
  rw [← h (i (0 : Fin 3))]
  unfold gotRow
  rw [View.readAt_apply, View.read_apply]
  refine (congrArg fg ?_ : fg i = fg _)
  funext a
  match a with
  | ⟨0, _⟩ => exact Fin.ext (show (i (0 : Fin 3)).val = (i (0 : Fin 3)).val + 1 * 0 by omega)
  | ⟨1, _⟩ => exact Fin.ext (show (i (1 : Fin 3)).val = 0 + 1 * (i (1 : Fin 3)).val by omega)
  | ⟨2, _⟩ => exact Fin.ext (show (i (2 : Fin 3)).val = 0 + 1 * (i (2 : Fin 3)).val by omega)

/-- The vocabulary's slots free. -/
theorem inv2_end (c : Dev nD) (fv : WvocBuf (F := F) c) (fs : Cont (F := F) c cc0_stg3_0) (fx : Cont (F := F) c cc0_scratch5) (fi : Cont (F := F) c cc0_scratch6) (v1643 : FVec F S24x1 .f32) (g0 : Fin 8 → Vec F S1x24x128 .f32) (p : FVec F S24x128 .f32 × FVec F S24x128 .f32) (acc : FVec F S24x128 .f32 × FVec F S24x128 .f32) :
    inv2 c fv fs fx fi v1643 g0 p 25 acc
      ⊢ iprop(⌜acc = msAll c fv fs fx v1643 p 25⌝ ∗ vfree c fv 1 ∗ vfree c fv 2 ∗ vfree c fv 0
          ∗ pt c cc0_stg3_0 fs ∗ pt c cc0_scratch5 fx ∗ pt c cc0_scratch6 fi ∗ pt c cc0_scratch7 (gbuf c (fun n => gotAll c fv fs fx fi v1643 g0 n 25)) ∗ (∃ W, owes (c : Thread nD τ) 0 W)) := by
  unfold inv2
  rw [vnext_of_le c fv 25 (by omega), vnext_of_le c fv (25 + 1) (by omega), vnext_of_le c fv (25 + 2) (by omega), vfree_mod c fv 25, vfree_mod c fv (25 + 1), vfree_mod c fv (25 + 2)]
  iintro ⟨%h, V0, V1, V2, Hs, Hx, Hi, ⟨%fg, %hfg, Hg⟩, HO⟩
  obtain rfl := gbuf_of_rows c fg _ hfg
  isplitr; · ipureintro; exact h
  isplitl [V0]; · iexact V0
  isplitl [V1]; · iexact V1
  isplitl [V2]; · iexact V2
  isplitl [Hs]; · iexact Hs
  isplitl [Hx]; · iexact Hx
  isplitl [Hi]; · iexact Hi
  isplitl [Hg]; · iexact Hg
  iexact HO

theorem trips1 : Scf.trips k0_t1_loop.lb k0_t1_loop.ub k0_t1_loop.st = 70 := by decide +kernel
theorem trips2 : Scf.trips k0_t2_loop.lb k0_t2_loop.ub k0_t2_loop.st = 25 := by decide +kernel

/-- What the first loop starts from. -/
theorem L1_start (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) (v1222 : FVec F S1x512 .f32) :
    iprop(rinfl c fw 0 ∗ rinfl c fw 1 ∗ rinfl c fw 2 ∗ rinfl c fw 3 ∗ rinfl c fw 4 ∗ rinfl c fw 5 ∗ vfree c fv 0 ∗ vfree c fv 1 ∗ vfree c fv 2
          ∗ pt c cc0_stg1_0 fs ∗ pt c cc0_stg2_0 fb ∗ pt c cc0_scratch5 fx ∗ pt c cc0_scratch4 fh ∗ (∃ W, owes (c : Thread nD τ) 0 W))
      ⊢ (L1 c fw fv fs fb fx fh v82 v953 v1222).inv 0 () := by
  change _ ⊢ inv1 c fw fv fs fb fx fh v82 v953 0
  rw [inv1_start]

/-- What the first loop ends with. -/
theorem L1_end (c : Dev nD) (fw : WresBuf (F := F) c) (fv : WvocBuf (F := F) c) (fs : Cont (F := F) c cc0_stg1_0) (fb : Cont (F := F) c cc0_stg2_0) (fx : Cont (F := F) c cc0_scratch5) (fh : Cont (F := F) c cc0_scratch4) (v82 : IVec S24x1 32) (v953 : FVec F S24x1 .f32) (v1222 : FVec F S1x512 .f32) (acc : Unit) :
    (L1 c fw fv fs fb fx fh v82 v953 v1222).inv (Scf.trips k0_t1_loop.lb k0_t1_loop.ub k0_t1_loop.st) acc
      ⊢ iprop(rfree c fw 4 ∗ rfree c fw 5 ∗ rfree c fw 0 ∗ rfree c fw 1 ∗ rfree c fw 2 ∗ rfree c fw 3 ∗ vinfl c fv 0 ∗ vinfl c fv 1 ∗ vinfl c fv 2
          ∗ pt c cc0_stg1_0 fs ∗ pt c cc0_stg2_0 fb ∗ pt c cc0_scratch5 fx ∗ pt c cc0_scratch4 (hAt c fw fs fb fx v82 v953 fh 70) ∗ (∃ W, owes (c : Thread nD τ) 0 W)) := by
  rw [trips1]
  change inv1 c fw fv fs fb fx fh v82 v953 70 ⊢ _
  rw [inv1_end]

set_option maxRecDepth 16384 in
/-- What the second loop starts from. -/
theorem L2_start (c : Dev nD) (fv : WvocBuf (F := F) c) (fs : Cont (F := F) c cc0_stg3_0) (fx : Cont (F := F) c cc0_scratch5) (fi : Cont (F := F) c cc0_scratch6) (v1643 : FVec F S24x1 .f32) (v1644 : IVec S24x128 32) (v1750 v1751 : FVec F S24x128 .f32) (fg : Cont (F := F) c cc0_scratch7) (p : FVec F S24x128 .f32 × FVec F S24x128 .f32) :
    iprop(vinfl c fv 0 ∗ vinfl c fv 1 ∗ vinfl c fv 2 ∗ pt c cc0_stg3_0 fs ∗ pt c cc0_scratch5 fx ∗ pt c cc0_scratch6 fi ∗ pt c cc0_scratch7 fg ∗ (∃ W, owes (c : Thread nD τ) 0 W))
      ⊢ (L2 c fv fs fx fi v1643 v1644 v1750 v1751 (fun n => gotRow c fg n) p).inv 0 p := by
  change _ ⊢ inv2 c fv fs fx fi v1643 (fun n => gotRow c fg n) p 0 p
  unfold inv2
  rw [vnext_of_lt c fv 0 (by decide), vnext_of_lt c fv (0 + 1) (by decide), vnext_of_lt c fv (0 + 2) (by decide)]
  iintro ⟨V0, V1, V2, Hs, Hx, Hi, Hg, HO⟩
  isplitr; · ipureintro; rfl
  isplitl [V0]; · iexact V0
  isplitl [V1]; · iexact V1
  isplitl [V2]; · iexact V2
  isplitl [Hs]; · iexact Hs
  isplitl [Hx]; · iexact Hx
  isplitl [Hi]; · iexact Hi
  isplitl [Hg]
  · iexists fg
    isplitr; · ipureintro; exact fun _ => rfl
    iexact Hg
  iexact HO

set_option maxRecDepth 16384 in
/-- What the second loop ends with. -/
theorem L2_end (c : Dev nD) (fv : WvocBuf (F := F) c) (fs : Cont (F := F) c cc0_stg3_0) (fx : Cont (F := F) c cc0_scratch5) (fi : Cont (F := F) c cc0_scratch6) (v1643 : FVec F S24x1 .f32) (v1644 : IVec S24x128 32) (v1750 v1751 : FVec F S24x128 .f32) (g0 : Fin 8 → Vec F S1x24x128 .f32) (p acc : FVec F S24x128 .f32 × FVec F S24x128 .f32) :
    (L2 c fv fs fx fi v1643 v1644 v1750 v1751 g0 p).inv (Scf.trips k0_t2_loop.lb k0_t2_loop.ub k0_t2_loop.st) acc
      ⊢ iprop(⌜acc = msAll c fv fs fx v1643 p 25⌝ ∗ vfree c fv 1 ∗ vfree c fv 2 ∗ vfree c fv 0
          ∗ pt c cc0_stg3_0 fs ∗ pt c cc0_scratch5 fx ∗ pt c cc0_scratch6 fi ∗ pt c cc0_scratch7 (gbuf c (fun n => gotAll c fv fs fx fi v1643 g0 n 25)) ∗ (∃ W, owes (c : Thread nD τ) 0 W)) := by
  rw [trips2]
  exact inv2_end c fv fs fx fi v1643 g0 p acc

end Cert.KernelIdeal.Hand
-- ==== Proof.Body.lean ====
module

public import proofs.«01_k».proof.Proof.Ends
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Ring.AtN
public import Idealize.ShloMosaic.Lib.Tactic
public import Idealize.ShloMosaic.Lib.WordCmp

@[expose] public section

noncomputable section

/-! # The body, run

From the inputs, the rings' slots free and the other buffers at anything, the body ends with the inputs as they were, the
slots free again and each result's buffer written with pieces that cover it; the pieces are what the run finds. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

set_option maxHeartbeats 4000000 in
/-- The body's run; the value's first component lists what it leaves in each result's buffer. -/
noncomputable def bodyRun (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) :
    { L : List (View.Piece (Elt F) S3x1x6 .f32) × List (View.Piece (Elt F) S3x1x6 .f32) × List (View.Piece (Elt F) S3x1x6x8 .f32) × List (View.Piece (Elt F) S3x1x7168 .fp8e4m3) × List (View.Piece (Elt F) S3x1 .f32) × List (View.Piece (Elt F) S3x1x5x7168 .fp8e4m3) × List (View.Piece (Elt F) S3x1x5 .f32) //
      ∀ (W : Waits sig Unit) (K : PUnit → sProp 𝕄),
    iprop(pt c cc0_stg0_0 f0 ∗ pt c cc0_stg1_0 fs ∗ pt c cc0_stg2_0 fb ∗ pt c cc0_stg3_0 f3 ∗ pt c cc0_stg4_0 f4
      ∗ (∃ f, pt c cc0_stg5_0 f) ∗ (∃ f, pt c cc0_stg6_0 f) ∗ (∃ f, pt c cc0_stg7_0 f) ∗ (∃ f, pt c cc0_stg8_0 f) ∗ (∃ f, pt c cc0_stg9_0 f) ∗ (∃ f, pt c cc0_stg10_0 f) ∗ (∃ f, pt c cc0_stg11_0 f)
      ∗ (∃ f, pt c cc0_scratch4 f) ∗ (∃ f, pt c cc0_scratch5 f) ∗ pt c cc0_scratch6 gi ∗ (∃ f, pt c cc0_scratch7 f)
      ∗ rfree c fw 0 ∗ rfree c fw 1 ∗ rfree c fw 2 ∗ rfree c fw 3 ∗ rfree c fw 4 ∗ rfree c fw 5
      ∗ vfree c fv 0 ∗ vfree c fv 1 ∗ vfree c fv 2
      ∗ owes (c : Thread nD τ) 0 W
      ∗ (iprop(pt c cc0_stg0_0 f0 ∗ pt c cc0_stg1_0 fs ∗ pt c cc0_stg2_0 fb ∗ pt c cc0_stg3_0 f3 ∗ pt c cc0_stg4_0 f4
        ∗ (∃ f, pt c cc0_stg5_0 ((Memref.whole cc0_stg5_0).view.writes (Elt F) f L.1)) ∗ (∃ f, pt c cc0_stg6_0 ((Memref.whole cc0_stg6_0).view.writes (Elt F) f L.2.1)) ∗ (∃ f, pt c cc0_stg7_0 ((Memref.whole cc0_stg7_0).view.writes (Elt F) f L.2.2.1)) ∗ (∃ f, pt c cc0_stg8_0 ((Memref.whole cc0_stg8_0).view.writes (Elt F) f L.2.2.2.1)) ∗ (∃ f, pt c cc0_stg9_0 ((Memref.whole cc0_stg9_0).view.writes (Elt F) f L.2.2.2.2.1)) ∗ (∃ f, pt c cc0_stg10_0 ((Memref.whole cc0_stg10_0).view.writes (Elt F) f L.2.2.2.2.2.1)) ∗ (∃ f, pt c cc0_stg11_0 ((Memref.whole cc0_stg11_0).view.writes (Elt F) f L.2.2.2.2.2.2))
        ∗ (∃ f, pt c cc0_scratch4 f) ∗ (∃ f, pt c cc0_scratch5 f) ∗ (∃ f, pt c cc0_scratch6 f) ∗ (∃ f, pt c cc0_scratch7 f)
        ∗ rfree c fw 0 ∗ rfree c fw 1 ∗ rfree c fw 2 ∗ rfree c fw 3 ∗ rfree c fw 4 ∗ rfree c fw 5
        ∗ vfree c fv 0 ∗ vfree c fv 1 ∗ vfree c fv 2
        ∗ (∃ W', owes (c : Thread nD τ) 0 W')) -∗ K ⟨⟩))
    ⊢ wp frame (wpE (defs₀ (F := F)) Variants.none (c : Thread nD τ) none) Set.univ
        (cc0_medusa_heads (F := F) (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_scratch0) (Memref.isWhole_whole _) (Memref.whole cc0_scratch1) (Memref.isWhole_whole _) cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _)) K } := by
  refine ⟨(?l5, ?l6, ?l7, ?l8, ?l9, ?l10, ?l11), fun W K => ?run⟩
  rotate_left 7
  iintro ⟨H0, H1, H2, H3, H4, ⟨%g5, H5⟩, ⟨%g6, H6⟩, ⟨%g7, H7⟩, ⟨%g8, H8⟩, ⟨%g9, H9⟩, ⟨%g10, H10⟩, ⟨%g11, H11⟩, ⟨%g12, Hh⟩, ⟨%g13, Hx⟩, Hi, ⟨%g15, Hg⟩, R0, R1, R2, R3, R4, R5, V0, V1, V2, HO, HK⟩
  icases (show rfree c fw 0 ⊢ rfreeAt c fw (rslot 0) (rsem 0) 0 from .rfl) $$ R0 with ⟨RS0, ⟨%rf0, RB0⟩, RT0⟩
  icases (show rfree c fw 1 ⊢ rfreeAt c fw (rslot 1) (rsem 1) 1 from .rfl) $$ R1 with ⟨RS1, ⟨%rf1, RB1⟩, RT1⟩
  icases (show rfree c fw 2 ⊢ rfreeAt c fw (rslot 2) (rsem 2) 2 from .rfl) $$ R2 with ⟨RS2, ⟨%rf2, RB2⟩, RT2⟩
  icases (show rfree c fw 3 ⊢ rfreeAt c fw (rslot 3) (rsem 3) 3 from .rfl) $$ R3 with ⟨RS3, ⟨%rf3, RB3⟩, RT3⟩
  icases (show rfree c fw 4 ⊢ rfreeAt c fw (rslot 4) (rsem 4) 4 from .rfl) $$ R4 with ⟨RS4, ⟨%rf4, RB4⟩, RT4⟩
  icases (show rfree c fw 5 ⊢ rfreeAt c fw (rslot 5) (rsem 5) 5 from .rfl) $$ R5 with ⟨RS5, ⟨%rf5, RB5⟩, RT5⟩
  unfold cc0_medusa_heads k0_part100
  sl_exec_parts
  iapply (exec_loop _ _ _ _ _ _ _ _ _ (L1 c fw fv fs fb _ _ _ _ _)) $$ [RS0 RT0 RS1 RT1 RS2 RT2 RS3 RT3 RS4 RT4 RS5 RT5 V0 V1 V2 H1 H2 Hx Hh HO]
  · iapply (L1_start c fw fv fs fb _ _ _ _ _)
    isplitl [RS0 RT0]
    · unfold rinfl
      isplitl [RS0]
      · iexists _
        rw [show (rslot 0).view.dmaCredit = 114688 from rfl]
        iexact RS0
      · iexact RT0
    isplitl [RS1 RT1]
    · unfold rinfl
      isplitl [RS1]
      · iexists _
        rw [show (rslot 1).view.dmaCredit = 114688 from rfl]
        iexact RS1
      · iexact RT1
    isplitl [RS2 RT2]
    · unfold rinfl
      isplitl [RS2]
      · iexists _
        rw [show (rslot 2).view.dmaCredit = 114688 from rfl]
        iexact RS2
      · iexact RT2
    isplitl [RS3 RT3]
    · unfold rinfl
      isplitl [RS3]
      · iexists _
        rw [show (rslot 3).view.dmaCredit = 114688 from rfl]
        iexact RS3
      · iexact RT3
    isplitl [RS4 RT4]
    · unfold rinfl
      isplitl [RS4]
      · iexists _
        rw [show (rslot 4).view.dmaCredit = 114688 from rfl]
        iexact RS4
      · iexact RT4
    isplitl [RS5 RT5]
    · unfold rinfl
      isplitl [RS5]
      · iexists _
        rw [show (rslot 5).view.dmaCredit = 114688 from rfl]
        iexact RS5
      · iexact RT5
    isplitl [V0]; · iexact V0
    isplitl [V1]; · iexact V1
    isplitl [V2]; · iexact V2
    isplitl [H1]; · iexact H1
    isplitl [H2]; · iexact H2
    isplitl [Hx]; · iexact Hx
    isplitl [Hh]; · iexact Hh
    iexists _; iexact HO
  iintro %acc HI
  icases (L1_end c fw fv fs fb _ _ _ _ _ acc) $$ HI with ⟨R4, R5, R0, R1, R2, R3, V0, V1, V2, H1, H2, Hx, Hh, ⟨%W1, HO⟩⟩
  sl_exec_parts
  iapply (exec_loop _ _ _ _ _ _ _ _ _ (L2 c fv f3 _ _ _ _ _ _ (fun n => gotRow c _ n) _)) $$ [V0 V1 V2 H3 Hx Hi Hg HO]
  · iapply (L2_start c fv f3 _ _ _ _ _ _ _ _)
    isplitl [V0]; · iexact V0
    isplitl [V1]; · iexact V1
    isplitl [V2]; · iexact V2
    isplitl [H3]; · iexact H3
    isplitl [Hx]; · iexact Hx
    isplitl [Hi]; · iexact Hi
    isplitl [Hg]; · iexact Hg
    iexists _; iexact HO
  iintro %acc2 HI
  icases (L2_end c fv f3 _ _ _ _ _ _ _ _ acc2) $$ HI with ⟨%hacc, V1, V2, V0, H3, Hx, Hi, Hg, ⟨%W2, HO⟩⟩
  subst hacc
  sl_exec_parts
  case l5 => exact bodyRun.sl.H5_3 c fw fv f0 fs fb f3
  case l6 => exact bodyRun.sl.H6_3 c fw fv f0 fs fb f3
  case l7 => exact bodyRun.sl.H7_3 c fw fv f0 fs fb f3 f4 gi
  case l8 => exact bodyRun.sl.H8_42 c f0
  case l9 => exact bodyRun.sl.H9_3 c f0
  case l10 => exact ⟨Rect.unit ![2, 0, 0, 6656] S1x1x5x512.size inb_S3x1x5x7168_S1x1x5x512_2_0_0_6656, bodyRun.sl.v2352 c fw f0 fs fb⟩ ::
    ⟨Rect.unit ![2, 0, 0, 6144] S1x1x5x512.size inb_S3x1x5x7168_S1x1x5x512_2_0_0_6144, bodyRun.sl.v2345 c fw f0 fs fb⟩ ::
    ⟨Rect.unit ![2, 0, 0, 5632] S1x1x5x512.size inb_S3x1x5x7168_S1x1x5x512_2_0_0_5632, bodyRun.sl.r_73 c fw f0 fs fb⟩ ::
    ⟨Rect.unit ![2, 0, 0, 5120] S1x1x5x512.size inb_S3x1x5x7168_S1x1x5x512_2_0_0_5120, k0_pay374 (bodyRun.sl.v1981 c fw f0 fs fb)⟩ ::
    ⟨Rect.unit ![2, 0, 0, 4608] S1x1x5x512.size inb_S3x1x5x7168_S1x1x5x512_2_0_0_4608, k0_pay373 (bodyRun.sl.v1974 c fw f0 fs fb)⟩ ::
    ⟨Rect.unit ![2, 0, 0, 4096] S1x1x5x512.size inb_S3x1x5x7168_S1x1x5x512_2_0_0_4096, k0_pay372 (bodyRun.sl.v1967 c fw f0 fs fb)⟩ ::
    ⟨Rect.unit ![2, 0, 0, 3584] S1x1x5x512.size inb_S3x1x5x7168_S1x1x5x512_2_0_0_3584, k0_pay371 (bodyRun.sl.r_72 c fw f0 fs fb)⟩ ::
    bodyRun.sl.H10_35 c fw f0 fs fb
  case l11 => exact bodyRun.sl.H11_3 c fw f0 fs fb
  sl_step
  iapply HK
  isplitl [H0]; · iexact H0
  isplitl [H1]; · iexact H1
  isplitl [H2]; · iexact H2
  isplitl [H3]; · iexact H3
  isplitl [H4]; · iexact H4
  isplitl [H5]; · (iexists _; iexact H5)
  isplitl [H6]; · (iexists _; iexact H6)
  isplitl [H7]; · (iexists _; iexact H7)
  isplitl [H8]; · (iexists _; iexact H8)
  isplitl [H9]; · (iexists _; iexact H9)
  isplitl [H10]; · (iexists _; iexact H10)
  isplitl [H11]; · (iexists _; iexact H11)
  isplitl [Hh]; · (iexists _; iexact Hh)
  isplitl [Hx]; · (iexists _; iexact Hx)
  isplitl [Hi]; · (iexists _; iexact Hi)
  isplitl [Hg]; · (iexists _; iexact Hg)
  isplitl [R0]; · iexact R0
  isplitl [R1]; · iexact R1
  isplitl [R2]; · iexact R2
  isplitl [R3]; · iexact R3
  isplitl [R4]; · iexact R4
  isplitl [R5]; · iexact R5
  isplitl [V0]; · iexact V0
  isplitl [V1]; · iexact V1
  isplitl [V2]; · iexact V2
  iexists _; iexact HO

end Cert.KernelIdeal.Hand
-- ==== Proof.Covers.lean ====
module

public import proofs.«01_k».proof.Proof.Body
public import proofs.«01_k».proof.Proof.Gen.KernelIdeal.Frame
public import Idealize.ShloMosaic.Lib.Pipeline.FrameBody
public import Idealize.ShloMosaic.Lib.Pipeline.ArrRel
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Ring.AtN
public import Idealize.ShloMosaic.Lib.Tactic
public import Idealize.ShloMosaic.Lib.WordCmp

@[expose] public section

noncomputable section

/-! # The launch

The body's run is the pipeline's one grid point; every run of the program ends with the arguments as they were, the semaphores at
zero and each result at what the body left in its buffer. What the buffer for the picked logits held in rows that no result
reads is not determined, so the results are stated for some such contents. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat RDat Cfg Window cellOf)

/-- The pieces that the run leaves in window 5's buffer cover it. -/
theorem cover5 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x6.Idx) : ∃ pc ∈ (bodyRun c fw fv f0 fs fb f3 f4 gi).1.1, y ∈ pc.1.set :=
  View.cover_of_tiledL (bodyRun c fw fv f0 fs fb f3 f4 gi).1.1 S1x1x6.size (by sl_kernel_rfl) y

/-- What pieces that cover window 5's buffer leave there. -/
def leave5 (L : List (View.Piece (Elt F) S3x1x6 .f32)) : Vec F S3x1x6 .f32 :=
  (Memref.whole cc0_stg5_0 : Memref sig .tc .vmem S3x1x6 .f32).view.read (Elt F) ((Memref.whole cc0_stg5_0 : Memref sig .tc .vmem S3x1x6 .f32).view.writes (Elt F) (Memref.whole cc0_stg5_0 : Memref sig .tc .vmem S3x1x6 .f32).view.junk L)

theorem leave5_eq (c : Dev nD) (g : Cont (F := F) c cc0_stg5_0) (L : List (View.Piece (Elt F) S3x1x6 .f32)) (h : ∀ y : S3x1x6.Idx, ∃ pc ∈ L, y ∈ pc.1.set) :
    (Memref.whole cc0_stg5_0 : Memref sig .tc .vmem S3x1x6 .f32).view.writes (Elt F) g L = leave5 L :=
  (show _ = (Memref.whole cc0_stg5_0 : Memref sig .tc .vmem S3x1x6 .f32).view.read (Elt F) ((Memref.whole cc0_stg5_0 : Memref sig .tc .vmem S3x1x6 .f32).view.writes (Elt F) g L) from rfl).trans (View.read_writes_of_cover _ _ _ _ L h)

/-- What the run leaves there. -/
def out5 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x6 .f32 := leave5 (bodyRun c fw fv f0 fs fb f3 f4 gi).1.1

theorem out5_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg5_0) :
    (Memref.whole cc0_stg5_0 : Memref sig .tc .vmem S3x1x6 .f32).view.writes (Elt F) g (bodyRun c fw fv f0 fs fb f3 f4 gi).1.1 = out5 c fw fv f0 fs fb f3 f4 gi := leave5_eq c g _ (cover5 c fw fv f0 fs fb f3 f4 gi)

/-- The pieces that the run leaves in window 6's buffer cover it. -/
theorem cover6 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x6.Idx) : ∃ pc ∈ (bodyRun c fw fv f0 fs fb f3 f4 gi).1.2.1, y ∈ pc.1.set :=
  View.cover_of_tiledL (bodyRun c fw fv f0 fs fb f3 f4 gi).1.2.1 S1x1x6.size (by sl_kernel_rfl) y

/-- What pieces that cover window 6's buffer leave there. -/
def leave6 (L : List (View.Piece (Elt F) S3x1x6 .f32)) : Vec F S3x1x6 .f32 :=
  (Memref.whole cc0_stg6_0 : Memref sig .tc .vmem S3x1x6 .f32).view.read (Elt F) ((Memref.whole cc0_stg6_0 : Memref sig .tc .vmem S3x1x6 .f32).view.writes (Elt F) (Memref.whole cc0_stg6_0 : Memref sig .tc .vmem S3x1x6 .f32).view.junk L)

theorem leave6_eq (c : Dev nD) (g : Cont (F := F) c cc0_stg6_0) (L : List (View.Piece (Elt F) S3x1x6 .f32)) (h : ∀ y : S3x1x6.Idx, ∃ pc ∈ L, y ∈ pc.1.set) :
    (Memref.whole cc0_stg6_0 : Memref sig .tc .vmem S3x1x6 .f32).view.writes (Elt F) g L = leave6 L :=
  (show _ = (Memref.whole cc0_stg6_0 : Memref sig .tc .vmem S3x1x6 .f32).view.read (Elt F) ((Memref.whole cc0_stg6_0 : Memref sig .tc .vmem S3x1x6 .f32).view.writes (Elt F) g L) from rfl).trans (View.read_writes_of_cover _ _ _ _ L h)

/-- What the run leaves there. -/
def out6 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x6 .f32 := leave6 (bodyRun c fw fv f0 fs fb f3 f4 gi).1.2.1

theorem out6_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg6_0) :
    (Memref.whole cc0_stg6_0 : Memref sig .tc .vmem S3x1x6 .f32).view.writes (Elt F) g (bodyRun c fw fv f0 fs fb f3 f4 gi).1.2.1 = out6 c fw fv f0 fs fb f3 f4 gi := leave6_eq c g _ (cover6 c fw fv f0 fs fb f3 f4 gi)

/-- The pieces that the run leaves in window 7's buffer cover it. -/
theorem cover7 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x6x8.Idx) : ∃ pc ∈ (bodyRun c fw fv f0 fs fb f3 f4 gi).1.2.2.1, y ∈ pc.1.set :=
  View.cover_of_tiledL (bodyRun c fw fv f0 fs fb f3 f4 gi).1.2.2.1 S1x1x6x8.size (by sl_kernel_rfl) y

/-- What pieces that cover window 7's buffer leave there. -/
def leave7 (L : List (View.Piece (Elt F) S3x1x6x8 .f32)) : Vec F S3x1x6x8 .f32 :=
  (Memref.whole cc0_stg7_0 : Memref sig .tc .vmem S3x1x6x8 .f32).view.read (Elt F) ((Memref.whole cc0_stg7_0 : Memref sig .tc .vmem S3x1x6x8 .f32).view.writes (Elt F) (Memref.whole cc0_stg7_0 : Memref sig .tc .vmem S3x1x6x8 .f32).view.junk L)

theorem leave7_eq (c : Dev nD) (g : Cont (F := F) c cc0_stg7_0) (L : List (View.Piece (Elt F) S3x1x6x8 .f32)) (h : ∀ y : S3x1x6x8.Idx, ∃ pc ∈ L, y ∈ pc.1.set) :
    (Memref.whole cc0_stg7_0 : Memref sig .tc .vmem S3x1x6x8 .f32).view.writes (Elt F) g L = leave7 L :=
  (show _ = (Memref.whole cc0_stg7_0 : Memref sig .tc .vmem S3x1x6x8 .f32).view.read (Elt F) ((Memref.whole cc0_stg7_0 : Memref sig .tc .vmem S3x1x6x8 .f32).view.writes (Elt F) g L) from rfl).trans (View.read_writes_of_cover _ _ _ _ L h)

/-- What the run leaves there. -/
def out7 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x6x8 .f32 := leave7 (bodyRun c fw fv f0 fs fb f3 f4 gi).1.2.2.1

theorem out7_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg7_0) :
    (Memref.whole cc0_stg7_0 : Memref sig .tc .vmem S3x1x6x8 .f32).view.writes (Elt F) g (bodyRun c fw fv f0 fs fb f3 f4 gi).1.2.2.1 = out7 c fw fv f0 fs fb f3 f4 gi := leave7_eq c g _ (cover7 c fw fv f0 fs fb f3 f4 gi)

/-- The pieces that the run leaves in window 8's buffer cover it. -/
theorem cover8 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x7168.Idx) : ∃ pc ∈ (bodyRun c fw fv f0 fs fb f3 f4 gi).1.2.2.2.1, y ∈ pc.1.set :=
  View.cover_of_tiledL (bodyRun c fw fv f0 fs fb f3 f4 gi).1.2.2.2.1 S1x1x512.size (by sl_kernel_rfl) y

/-- What pieces that cover window 8's buffer leave there. -/
def leave8 (L : List (View.Piece (Elt F) S3x1x7168 .fp8e4m3)) : Vec F S3x1x7168 .fp8e4m3 :=
  (Memref.whole cc0_stg8_0 : Memref sig .tc .vmem S3x1x7168 .fp8e4m3).view.read (Elt F) ((Memref.whole cc0_stg8_0 : Memref sig .tc .vmem S3x1x7168 .fp8e4m3).view.writes (Elt F) (Memref.whole cc0_stg8_0 : Memref sig .tc .vmem S3x1x7168 .fp8e4m3).view.junk L)

theorem leave8_eq (c : Dev nD) (g : Cont (F := F) c cc0_stg8_0) (L : List (View.Piece (Elt F) S3x1x7168 .fp8e4m3)) (h : ∀ y : S3x1x7168.Idx, ∃ pc ∈ L, y ∈ pc.1.set) :
    (Memref.whole cc0_stg8_0 : Memref sig .tc .vmem S3x1x7168 .fp8e4m3).view.writes (Elt F) g L = leave8 L :=
  (show _ = (Memref.whole cc0_stg8_0 : Memref sig .tc .vmem S3x1x7168 .fp8e4m3).view.read (Elt F) ((Memref.whole cc0_stg8_0 : Memref sig .tc .vmem S3x1x7168 .fp8e4m3).view.writes (Elt F) g L) from rfl).trans (View.read_writes_of_cover _ _ _ _ L h)

/-- What the run leaves there. -/
def out8 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x7168 .fp8e4m3 := leave8 (bodyRun c fw fv f0 fs fb f3 f4 gi).1.2.2.2.1

theorem out8_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg8_0) :
    (Memref.whole cc0_stg8_0 : Memref sig .tc .vmem S3x1x7168 .fp8e4m3).view.writes (Elt F) g (bodyRun c fw fv f0 fs fb f3 f4 gi).1.2.2.2.1 = out8 c fw fv f0 fs fb f3 f4 gi := leave8_eq c g _ (cover8 c fw fv f0 fs fb f3 f4 gi)

/-- The pieces that the run leaves in window 9's buffer cover it. -/
theorem cover9 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1.Idx) : ∃ pc ∈ (bodyRun c fw fv f0 fs fb f3 f4 gi).1.2.2.2.2.1, y ∈ pc.1.set :=
  View.cover_of_tiledL (bodyRun c fw fv f0 fs fb f3 f4 gi).1.2.2.2.2.1 S1x1.size (by sl_kernel_rfl) y

/-- What pieces that cover window 9's buffer leave there. -/
def leave9 (L : List (View.Piece (Elt F) S3x1 .f32)) : Vec F S3x1 .f32 :=
  (Memref.whole cc0_stg9_0 : Memref sig .tc .vmem S3x1 .f32).view.read (Elt F) ((Memref.whole cc0_stg9_0 : Memref sig .tc .vmem S3x1 .f32).view.writes (Elt F) (Memref.whole cc0_stg9_0 : Memref sig .tc .vmem S3x1 .f32).view.junk L)

theorem leave9_eq (c : Dev nD) (g : Cont (F := F) c cc0_stg9_0) (L : List (View.Piece (Elt F) S3x1 .f32)) (h : ∀ y : S3x1.Idx, ∃ pc ∈ L, y ∈ pc.1.set) :
    (Memref.whole cc0_stg9_0 : Memref sig .tc .vmem S3x1 .f32).view.writes (Elt F) g L = leave9 L :=
  (show _ = (Memref.whole cc0_stg9_0 : Memref sig .tc .vmem S3x1 .f32).view.read (Elt F) ((Memref.whole cc0_stg9_0 : Memref sig .tc .vmem S3x1 .f32).view.writes (Elt F) g L) from rfl).trans (View.read_writes_of_cover _ _ _ _ L h)

/-- What the run leaves there. -/
def out9 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1 .f32 := leave9 (bodyRun c fw fv f0 fs fb f3 f4 gi).1.2.2.2.2.1

theorem out9_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg9_0) :
    (Memref.whole cc0_stg9_0 : Memref sig .tc .vmem S3x1 .f32).view.writes (Elt F) g (bodyRun c fw fv f0 fs fb f3 f4 gi).1.2.2.2.2.1 = out9 c fw fv f0 fs fb f3 f4 gi := leave9_eq c g _ (cover9 c fw fv f0 fs fb f3 f4 gi)

/-- The pieces that the run leaves in window 10's buffer cover it. -/
theorem cover10 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x5x7168.Idx) : ∃ pc ∈ (bodyRun c fw fv f0 fs fb f3 f4 gi).1.2.2.2.2.2.1, y ∈ pc.1.set :=
  View.cover_of_tiledL (bodyRun c fw fv f0 fs fb f3 f4 gi).1.2.2.2.2.2.1 S1x1x5x512.size (by sl_kernel_rfl) y

/-- What pieces that cover window 10's buffer leave there. -/
def leave10 (L : List (View.Piece (Elt F) S3x1x5x7168 .fp8e4m3)) : Vec F S3x1x5x7168 .fp8e4m3 :=
  (Memref.whole cc0_stg10_0 : Memref sig .tc .vmem S3x1x5x7168 .fp8e4m3).view.read (Elt F) ((Memref.whole cc0_stg10_0 : Memref sig .tc .vmem S3x1x5x7168 .fp8e4m3).view.writes (Elt F) (Memref.whole cc0_stg10_0 : Memref sig .tc .vmem S3x1x5x7168 .fp8e4m3).view.junk L)

theorem leave10_eq (c : Dev nD) (g : Cont (F := F) c cc0_stg10_0) (L : List (View.Piece (Elt F) S3x1x5x7168 .fp8e4m3)) (h : ∀ y : S3x1x5x7168.Idx, ∃ pc ∈ L, y ∈ pc.1.set) :
    (Memref.whole cc0_stg10_0 : Memref sig .tc .vmem S3x1x5x7168 .fp8e4m3).view.writes (Elt F) g L = leave10 L :=
  (show _ = (Memref.whole cc0_stg10_0 : Memref sig .tc .vmem S3x1x5x7168 .fp8e4m3).view.read (Elt F) ((Memref.whole cc0_stg10_0 : Memref sig .tc .vmem S3x1x5x7168 .fp8e4m3).view.writes (Elt F) g L) from rfl).trans (View.read_writes_of_cover _ _ _ _ L h)

/-- What the run leaves there. -/
def out10 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x5x7168 .fp8e4m3 := leave10 (bodyRun c fw fv f0 fs fb f3 f4 gi).1.2.2.2.2.2.1

theorem out10_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg10_0) :
    (Memref.whole cc0_stg10_0 : Memref sig .tc .vmem S3x1x5x7168 .fp8e4m3).view.writes (Elt F) g (bodyRun c fw fv f0 fs fb f3 f4 gi).1.2.2.2.2.2.1 = out10 c fw fv f0 fs fb f3 f4 gi := leave10_eq c g _ (cover10 c fw fv f0 fs fb f3 f4 gi)

/-- The pieces that the run leaves in window 11's buffer cover it. -/
theorem cover11 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (y : S3x1x5.Idx) : ∃ pc ∈ (bodyRun c fw fv f0 fs fb f3 f4 gi).1.2.2.2.2.2.2, y ∈ pc.1.set :=
  View.cover_of_tiledL (bodyRun c fw fv f0 fs fb f3 f4 gi).1.2.2.2.2.2.2 S1x1x5.size (by sl_kernel_rfl) y

/-- What pieces that cover window 11's buffer leave there. -/
def leave11 (L : List (View.Piece (Elt F) S3x1x5 .f32)) : Vec F S3x1x5 .f32 :=
  (Memref.whole cc0_stg11_0 : Memref sig .tc .vmem S3x1x5 .f32).view.read (Elt F) ((Memref.whole cc0_stg11_0 : Memref sig .tc .vmem S3x1x5 .f32).view.writes (Elt F) (Memref.whole cc0_stg11_0 : Memref sig .tc .vmem S3x1x5 .f32).view.junk L)

theorem leave11_eq (c : Dev nD) (g : Cont (F := F) c cc0_stg11_0) (L : List (View.Piece (Elt F) S3x1x5 .f32)) (h : ∀ y : S3x1x5.Idx, ∃ pc ∈ L, y ∈ pc.1.set) :
    (Memref.whole cc0_stg11_0 : Memref sig .tc .vmem S3x1x5 .f32).view.writes (Elt F) g L = leave11 L :=
  (show _ = (Memref.whole cc0_stg11_0 : Memref sig .tc .vmem S3x1x5 .f32).view.read (Elt F) ((Memref.whole cc0_stg11_0 : Memref sig .tc .vmem S3x1x5 .f32).view.writes (Elt F) g L) from rfl).trans (View.read_writes_of_cover _ _ _ _ L h)

/-- What the run leaves there. -/
def out11 (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) : Vec F S3x1x5 .f32 := leave11 (bodyRun c fw fv f0 fs fb f3 f4 gi).1.2.2.2.2.2.2

theorem out11_eq (c : Dev nD) (fw : WresBuf (F := F) c) (fv : WvocBuf (F := F) c) (f0 : Cont (F := F) c cc0_stg0_0) (fs : Cont (F := F) c cc0_stg1_0) (fb : Cont (F := F) c cc0_stg2_0) (f3 : Cont (F := F) c cc0_stg3_0) (f4 : Cont (F := F) c cc0_stg4_0) (gi : Cont (F := F) c cc0_scratch6) (g : Cont (F := F) c cc0_stg11_0) :
    (Memref.whole cc0_stg11_0 : Memref sig .tc .vmem S3x1x5 .f32).view.writes (Elt F) g (bodyRun c fw fv f0 fs fb f3 f4 gi).1.2.2.2.2.2.2 = out11 c fw fv f0 fs fb f3 f4 gi := leave11_eq c g _ (cover11 c fw fv f0 fs fb f3 f4 gi)

end Cert.KernelIdeal.Hand
-- ==== Proof.Run.lean ====
module

public import proofs.«01_k».proof.Proof.Covers
public import proofs.«01_k».proof.Proof.Gen.KernelIdeal.Frame
public import Idealize.ShloMosaic.Lib.Pipeline.FrameBody
public import Idealize.ShloMosaic.Lib.Pipeline.ArrRel
public import proofs.«01_k».proof.Proof.Gen.KernelIdeal.Launch
public import Idealize.ShloMosaic.Lib.Pipeline.FrameBody
public import Idealize.ShloMosaic.Lib.Transfers
public import Idealize.ShloMosaic.Lib.Ring
public import Idealize.ShloMosaic.Lib.Ring.Trips
public import Idealize.ShloMosaic.Lib.Ring.AtN
public import Idealize.ShloMosaic.Lib.Tactic
public import Idealize.ShloMosaic.Lib.WordCmp

@[expose] public section

noncomputable section

/-! # The launch

The body's run is the pipeline's one grid point; every run of the program ends with the arguments as they were, the semaphores at
zero and each result at what the body left in its buffer. What the buffer for the picked logits held in rows that no result
reads is not determined, so the results are stated for some such contents. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat RDat Cfg Window cellOf)

variable (m : (ℓ : Loc nD τ sig) → Buf (Elt F) ℓ) (ρ : Dev nD → PrngReg)

/-- The body's nine DMA cells. -/
abbrev osem0 : Fin 9 → SemLoc sig := fun j => (![SemLoc.dma 12, SemLoc.dma 13, SemLoc.dma 14, SemLoc.dma 15, SemLoc.dma 16, SemLoc.dma 17, SemLoc.dma 18, SemLoc.dma 19, SemLoc.dma 20] : Fin 9 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8] (by decide) (by decide)]; rfl
/-- The two arrays that the body copies from itself. -/
def H0 : Finset (Ref sig .tc) := {main_arg1, main_arg4}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c main_arg1 (V m c main_arg1) ∗ pt c main_arg4 (V m c main_arg4)) := by
  rw [BI.bigSep_eq_bigSepL_of_eq [main_arg1, main_arg4] (by decide) (by decide)]; rfl

/-- What the body is handed beside the windows, and hands back. -/
theorem PhiD0_eq (c : Dev nD) :
    (Pipeline.ΦD osem0 spec0 H0 (V m) c : sProp 𝕄)
      = iprop(iprop((∃ f, pt c cc0_scratch0 f) ∗ (∃ f, pt c cc0_scratch1 f) ∗ (∃ f, pt c cc0_scratch4 f) ∗ (∃ f, pt c cc0_scratch5 f) ∗ (∃ f, pt c cc0_scratch6 f) ∗ (∃ f, pt c cc0_scratch7 f))
          ∗ (∃ r, prngReg c r)
          ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0)
          ∗ iprop(pt c main_arg1 (V m c main_arg1) ∗ pt c main_arg4 (V m c main_arg4))) := by
  rw [Pipeline.ΦD_eq, scopedRest0_eq, ownSems00_eq, hbmPts0_eq]; try rfl

/-- Window 0's block: x. -/
abbrev X0 (c : Dev nD) (t : Fin cfg0.N) : Cont (F := F) c cc0_stg0_0 := iblk m c 0 t
/-- Window 1's block: the heads' scales. -/
abbrev X1 (c : Dev nD) (t : Fin cfg0.N) : Cont (F := F) c cc0_stg1_0 := iblk m c 1 t
/-- Window 2's block: the biases. -/
abbrev X2 (c : Dev nD) (t : Fin cfg0.N) : Cont (F := F) c cc0_stg2_0 := iblk m c 2 t
/-- Window 3's block: the vocabulary's scales. -/
abbrev X3 (c : Dev nD) (t : Fin cfg0.N) : Cont (F := F) c cc0_stg3_0 := iblk m c 3 t
/-- Window 4's block: the candidates. -/
abbrev X4 (c : Dev nD) (t : Fin cfg0.N) : Cont (F := F) c cc0_stg4_0 := iblk m c 4 t

/-- The proof data: inputs stay, each result is what the body leaves at some contents of the buffer of token numbers. -/
def rdats (c : Dev nD) : RDat τ (Elt F) Unit ℕ (Pipeline.UD sig nD τ) ℕ cfg0 c where
  A w := V m c (Pipeline.arrRef spec0 w)
  after w := match w with
    | 0 => fun _ Y X => X = Y
    | 1 => fun _ Y X => X = Y
    | 2 => fun _ Y X => X = Y
    | 3 => fun _ Y X => X = Y
    | 4 => fun _ Y X => X = Y
    | 5 => fun t _ X => ∃ gi, X = out5 c (V m c main_arg1) (V m c main_arg4) (X0 m c t) (X1 m c t) (X2 m c t) (X3 m c t) (X4 m c t) gi
    | 6 => fun t _ X => ∃ gi, X = out6 c (V m c main_arg1) (V m c main_arg4) (X0 m c t) (X1 m c t) (X2 m c t) (X3 m c t) (X4 m c t) gi
    | 7 => fun t _ X => ∃ gi, X = out7 c (V m c main_arg1) (V m c main_arg4) (X0 m c t) (X1 m c t) (X2 m c t) (X3 m c t) (X4 m c t) gi
    | 8 => fun t _ X => ∃ gi, X = out8 c (V m c main_arg1) (V m c main_arg4) (X0 m c t) (X1 m c t) (X2 m c t) (X3 m c t) (X4 m c t) gi
    | 9 => fun t _ X => ∃ gi, X = out9 c (V m c main_arg1) (V m c main_arg4) (X0 m c t) (X1 m c t) (X2 m c t) (X3 m c t) (X4 m c t) gi
    | 10 => fun t _ X => ∃ gi, X = out10 c (V m c main_arg1) (V m c main_arg4) (X0 m c t) (X1 m c t) (X2 m c t) (X3 m c t) (X4 m c t) gi
    | 11 => fun t _ X => ∃ gi, X = out11 c (V m c main_arg1) (V m c main_arg4) (X0 m c t) (X1 m c t) (X2 m c t) (X3 m c t) (X4 m c t) gi
  Φ _ := Pipeline.ΦD osem0 spec0 H0 (V m) c
  q _ := fullShare
  owed _ := 0

theorem A_eq (c : Dev nD) (w : Fin cfg0.W) : (rdats m c).A w = V m c (Pipeline.arrRef spec0 w) := by dsimp only [rdats]

theorem finds0 (c : Dev nD) (t : Fin cfg0.N) (Y) (h : (rdats m c).Finds 0 t Y) : Y = X0 m c t := by
  obtain ⟨d, rfl⟩ := ((rdats m c).finds_of_fetch (fetch0_0 t) Y).mp h
  unfold RDat.fetched RDat.blockOf X0 iblk; rw [A_eq]; try rfl
theorem finds1 (c : Dev nD) (t : Fin cfg0.N) (Y) (h : (rdats m c).Finds 1 t Y) : Y = X1 m c t := by
  obtain ⟨d, rfl⟩ := ((rdats m c).finds_of_fetch (fetch0_1 t) Y).mp h
  unfold RDat.fetched RDat.blockOf X1 iblk; rw [A_eq]; try rfl
theorem finds2 (c : Dev nD) (t : Fin cfg0.N) (Y) (h : (rdats m c).Finds 2 t Y) : Y = X2 m c t := by
  obtain ⟨d, rfl⟩ := ((rdats m c).finds_of_fetch (fetch0_2 t) Y).mp h
  unfold RDat.fetched RDat.blockOf X2 iblk; rw [A_eq]; try rfl
theorem finds3 (c : Dev nD) (t : Fin cfg0.N) (Y) (h : (rdats m c).Finds 3 t Y) : Y = X3 m c t := by
  obtain ⟨d, rfl⟩ := ((rdats m c).finds_of_fetch (fetch0_3 t) Y).mp h
  unfold RDat.fetched RDat.blockOf X3 iblk; rw [A_eq]; try rfl
theorem finds4 (c : Dev nD) (t : Fin cfg0.N) (Y) (h : (rdats m c).Finds 4 t Y) : Y = X4 m c t := by
  obtain ⟨d, rfl⟩ := ((rdats m c).finds_of_fetch (fetch0_4 t) Y).mp h
  unfold RDat.fetched RDat.blockOf X4 iblk; rw [A_eq]; try rfl

theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body at the one grid point. -/
theorem body_obligation (c : Dev nD) : (rdats (F := F) m c).BodyObligation (defs₀ (F := F)) Variants.none () Set.univ := fun t Y hY => by
  rw [bigSep_W0, bigSep_W0, defs₀_row]
  have h0 := finds0 m c t _ (hY 0)
  have h1 := finds1 m c t _ (hY 1)
  have h2 := finds2 m c t _ (hY 2)
  have h3 := finds3 m c t _ (hY 3)
  have h4 := finds4 m c t _ (hY 4)
  rw [show (rdats m c).Φ t.succ = (rdats m c).Φ t.castSucc from rfl,
    show (rdats m c).owesAt () t.succ = (rdats m c).owesAt () t.castSucc from rfl,
    show (rdats m c).Φ t.castSucc = Pipeline.ΦD osem0 spec0 H0 (V m) c from rfl, PhiD0_eq]
  unfold RDat.owesAt Pipeline.owesWithin
  rw [show (rdats m c).owed t.castSucc = 0 from rfl]
  rw [h0]
  rw [h1]
  rw [h2]
  rw [h3]
  rw [h4]
  rw [show ((cfg0.win 0).stage (cfg0.slots t 0)) = Memref.whole cc0_stg0_0 from rfl]
  rw [show ((cfg0.win 1).stage (cfg0.slots t 1)) = Memref.whole cc0_stg1_0 from rfl]
  rw [show ((cfg0.win 2).stage (cfg0.slots t 2)) = Memref.whole cc0_stg2_0 from rfl]
  rw [show ((cfg0.win 3).stage (cfg0.slots t 3)) = Memref.whole cc0_stg3_0 from rfl]
  rw [show ((cfg0.win 4).stage (cfg0.slots t 4)) = Memref.whole cc0_stg4_0 from rfl]
  rw [show ((cfg0.win 5).stage (cfg0.slots t 5)) = Memref.whole cc0_stg5_0 from rfl]
  rw [show ((cfg0.win 6).stage (cfg0.slots t 6)) = Memref.whole cc0_stg6_0 from rfl]
  rw [show ((cfg0.win 7).stage (cfg0.slots t 7)) = Memref.whole cc0_stg7_0 from rfl]
  rw [show ((cfg0.win 8).stage (cfg0.slots t 8)) = Memref.whole cc0_stg8_0 from rfl]
  rw [show ((cfg0.win 9).stage (cfg0.slots t 9)) = Memref.whole cc0_stg9_0 from rfl]
  rw [show ((cfg0.win 10).stage (cfg0.slots t 10)) = Memref.whole cc0_stg10_0 from rfl]
  rw [show ((cfg0.win 11).stage (cfg0.slots t 11)) = Memref.whole cc0_stg11_0 from rfl]
  simp only [owns_whole]
  iintro ⟨⟨⟨S0, S1, S4, S5, ⟨%gi, S6⟩, S7⟩, Hp, ⟨q12, q13, q14, q15, q16, q17, q18, q19, q20⟩, ⟨A1, A4⟩⟩, ⟨%W, %hW, HO⟩, H0, H1, H2, H3, H4, H5, H6, H7, H8, H9, H10, H11⟩
  ihave HR := (rstart c (V m c main_arg1)) $$ [S0 A1 q12 q13 q14 q15 q16 q17]
  · isplitl [S0]; · iexact S0
    isplitl [A1]; · iexact A1
    isplitl [q12]; · iexact q12
    isplitl [q13]; · iexact q13
    isplitl [q14]; · iexact q14
    isplitl [q15]; · iexact q15
    isplitl [q16]; · iexact q16
    iexact q17
  icases HR with ⟨RD, R0, R1, R2, R3, R4, R5⟩
  ihave HV := (vstart c (V m c main_arg4)) $$ [S1 A4 q18 q19 q20]
  · isplitl [S1]; · iexact S1
    isplitl [A4]; · iexact A4
    isplitl [q18]; · iexact q18
    isplitl [q19]; · iexact q19
    iexact q20
  icases HV with ⟨VD, V0, V1, V2⟩
  iapply ((bodyRun c (V m c main_arg1) (V m c main_arg4) (X0 m c t) (X1 m c t) (X2 m c t) (X3 m c t) (X4 m c t) gi).2 W _)
  isplitl [H0]; · iexact H0
  isplitl [H1]; · iexact H1
  isplitl [H2]; · iexact H2
  isplitl [H3]; · iexact H3
  isplitl [H4]; · iexact H4
  isplitl [H5]; · (iexists _; iexact H5)
  isplitl [H6]; · (iexists _; iexact H6)
  isplitl [H7]; · (iexists _; iexact H7)
  isplitl [H8]; · (iexists _; iexact H8)
  isplitl [H9]; · (iexists _; iexact H9)
  isplitl [H10]; · (iexists _; iexact H10)
  isplitl [H11]; · (iexists _; iexact H11)
  isplitl [S4]; · iexact S4
  isplitl [S5]; · iexact S5
  isplitl [S6]; · iexact S6
  isplitl [S7]; · iexact S7
  isplitl [R0]; · iexact R0
  isplitl [R1]; · iexact R1
  isplitl [R2]; · iexact R2
  isplitl [R3]; · iexact R3
  isplitl [R4]; · iexact R4
  isplitl [R5]; · iexact R5
  isplitl [V0]; · iexact V0
  isplitl [V1]; · iexact V1
  isplitl [V2]; · iexact V2
  isplitl [HO]; · iexact HO
  iintro ⟨H0, H1, H2, H3, H4, ⟨%g5, H5⟩, ⟨%g6, H6⟩, ⟨%g7, H7⟩, ⟨%g8, H8⟩, ⟨%g9, H9⟩, ⟨%g10, H10⟩, ⟨%g11, H11⟩, S4, S5, S6, S7, R0, R1, R2, R3, R4, R5, V0, V1, V2, ⟨%W', HO⟩⟩
  ihave HR := (rfinish c (V m c main_arg1)) $$ [RD R0 R1 R2 R3 R4 R5]
  · isplitl [RD]; · iexact RD
    isplitl [R0]; · iexact R0
    isplitl [R1]; · iexact R1
    isplitl [R2]; · iexact R2
    isplitl [R3]; · iexact R3
    isplitl [R4]; · iexact R4
    iexact R5
  icases HR with ⟨S0, A1, q12, q13, q14, q15, q16, q17⟩
  ihave HV := (vfinish c (V m c main_arg4)) $$ [VD V0 V1 V2]
  · isplitl [VD]; · iexact VD
    isplitl [V0]; · iexact V0
    isplitl [V1]; · iexact V1
    iexact V2
  icases HV with ⟨S1, A4, q18, q19, q20⟩
  isplitl [S0 S1 S4 S5 S6 S7 Hp q12 q13 q14 q15 q16 q17 q18 q19 q20 A1 A4]
  · isplitl [S0 S1 S4 S5 S6 S7]
    · isplitl [S0]; · iexact S0
      isplitl [S1]; · iexact S1
      isplitl [S4]; · iexact S4
      isplitl [S5]; · iexact S5
      isplitl [S6]; · iexact S6
      iexact S7
    isplitl [Hp]; · iexact Hp
    isplitl [q12 q13 q14 q15 q16 q17 q18 q19 q20]
    · isplitl [q12]; · iexact q12
      isplitl [q13]; · iexact q13
      isplitl [q14]; · iexact q14
      isplitl [q15]; · iexact q15
      isplitl [q16]; · iexact q16
      isplitl [q17]; · iexact q17
      isplitl [q18]; · iexact q18
      isplitl [q19]; · iexact q19
      iexact q20
    isplitl [A1]; · iexact A1
    iexact A4
  isplitl [HO]
  · iexists W'; isplitr; · ipureintro; exact fun _ _ => Or.inl trivial
    iexact HO
  isplitl [H0]
  · iexists _; isplitr; · ipureintro; exact rfl
    iexact H0
  isplitl [H1]
  · iexists _; isplitr; · ipureintro; exact rfl
    iexact H1
  isplitl [H2]
  · iexists _; isplitr; · ipureintro; exact rfl
    iexact H2
  isplitl [H3]
  · iexists _; isplitr; · ipureintro; exact rfl
    iexact H3
  isplitl [H4]
  · iexists _; isplitr; · ipureintro; exact rfl
    iexact H4
  isplitl [H5]
  · iexists _; isplitr; swap; · iexact H5
    ipureintro; exact ⟨gi, out5_eq c (V m c main_arg1) (V m c main_arg4) (X0 m c t) (X1 m c t) (X2 m c t) (X3 m c t) (X4 m c t) gi g5⟩
  isplitl [H6]
  · iexists _; isplitr; swap; · iexact H6
    ipureintro; exact ⟨gi, out6_eq c (V m c main_arg1) (V m c main_arg4) (X0 m c t) (X1 m c t) (X2 m c t) (X3 m c t) (X4 m c t) gi g6⟩
  isplitl [H7]
  · iexists _; isplitr; swap; · iexact H7
    ipureintro; exact ⟨gi, out7_eq c (V m c main_arg1) (V m c main_arg4) (X0 m c t) (X1 m c t) (X2 m c t) (X3 m c t) (X4 m c t) gi g7⟩
  isplitl [H8]
  · iexists _; isplitr; swap; · iexact H8
    ipureintro; exact ⟨gi, out8_eq c (V m c main_arg1) (V m c main_arg4) (X0 m c t) (X1 m c t) (X2 m c t) (X3 m c t) (X4 m c t) gi g8⟩
  isplitl [H9]
  · iexists _; isplitr; swap; · iexact H9
    ipureintro; exact ⟨gi, out9_eq c (V m c main_arg1) (V m c main_arg4) (X0 m c t) (X1 m c t) (X2 m c t) (X3 m c t) (X4 m c t) gi g9⟩
  isplitl [H10]
  · iexists _; isplitr; swap; · iexact H10
    ipureintro; exact ⟨gi, out10_eq c (V m c main_arg1) (V m c main_arg4) (X0 m c t) (X1 m c t) (X2 m c t) (X3 m c t) (X4 m c t) gi g10⟩
  iexists _; isplitr; swap; · iexact H11
  ipureintro; exact ⟨gi, out11_eq c (V m c main_arg1) (V m c main_arg4) (X0 m c t) (X1 m c t) (X2 m c t) (X3 m c t) (X4 m c t) gi g11⟩

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run ends, with the arrays at contents the proof data allow and every semaphore at zero. -/
theorem run_main :
    θ_run defs (onTc (τ := τ) (main (F := F))) (s₀ m ρ)
      (fun r => RDat.FramePost (cfgs 0) (fun c => rdats m c) (V m) r ∧ r.2.sem = fun _ => 0) :=
  Pipeline.RDat.θ_run_frame_dma (Q' := _) cfgs (0 : Fin 1) launch0 osem0 defs₀ Variants.none (fun c => rdats m c) ownSemFacts0 H0 H0_sub m ρ main
    (hbody := fun c => body_obligation m c) (hshare := fun c => (rdats m c).share_full fun _ => rfl)
    (howed := fun _ _ => rfl) (V := V m) (hmain := hmain m Variants.none) (hA := A_eq m)
    (hin := fun _ => .rfl) (hout := fun _ => .rfl)

end Cert.KernelIdeal.Hand
-- ==== Proof.Frames.lean ====
module

public import proofs.«01_k».proof.Defs
public import proofs.«01_k».proof.Proof.Run
public import proofs.«01_k».proof.Proof.Gen.Kernel

@[expose] public section

noncomputable section

/-! # The frames of the kernel

Every run of the program ends, its arguments are as they were, and every semaphore is at zero: at any instance of the float
operations, so for the program read over the reals and for the program as it is printed, which is the same program. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]
variable (m : (ℓ : Loc nD τ sig) → Buf (Elt F) ℓ) (ρ : Dev nD → PrngReg)

/-- What the run leaves of the arguments. -/
theorem args_of {r : _} (h : Pipeline.RDat.FramePost (cfgs 0) (fun c => rdats m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      (Pipeline.RDat.FramePost.arr_in h c 1 rfl).trans ((A_eq m c 1).trans (V_main_arg2 m c)),
      (Pipeline.RDat.FramePost.arr_in h c 2 rfl).trans ((A_eq m c 2).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 4 rfl).trans ((A_eq m c 4).trans (V_main_arg6 m c))⟩

/-- THE FRAME, at any instance. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => args_of m h.1 c, h.2⟩) (run_main m ρ)

end Cert.KernelIdeal.Hand

namespace Cert.Proof

open Idealize.ShloMosaic Idealize.SL.Sem

theorem quiescent_KernelIdeal : @Cert.quiescent_KernelIdeal Cert.KernelIdeal.Gen.facts := fun m g _ => Cert.KernelIdeal.Hand.frame m g

end Cert.Proof
-- ==== Proof.FrameBits.lean ====
module

public import proofs.«01_k».proof.Proof.Frames
public import Idealize.ShloMosaic.Lib.Tactic

@[expose] public section

noncomputable section

namespace Cert.Proof

open Idealize.ShloMosaic Idealize.SL.Sem Idealize.ShloMosaic.TcCoe

/-- The frame of the idealised program's text read at the bits. -/
def FrameBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩
      (fun r => (∀ c : Dev Cert.KernelIdeal.nD, r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0) ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2) ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5) ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)) ∧ r.2.sem = fun _ => 0)

theorem frameBits : FrameBits := fun m g _ => Cert.KernelIdeal.Hand.frame m g

/-- The program as printed has the same text, so that is its frame too. -/
theorem frameBits_eq : FrameBits = @Cert.quiescent_Kernel Cert.Kernel.Gen.facts := by sl_kernel_rfl

theorem quiescent_Kernel : @Cert.quiescent_Kernel Cert.Kernel.Gen.facts := frameBits_eq.mp frameBits

end Cert.Proof
-- ==== Proof.ValX.lean ====
module

public import proofs.«01_k».proof.Proof.Covers

@[expose] public section

set_option maxRecDepth 20000

noncomputable section

/-! # The kernel's first pieces as families

The kernel writes its scratch buffers chunk by chunk in straight-line code. Here each list of chunks is one family, and the
running maximum is one recursion. Every equality holds by definition. -/

namespace Cert.KernelIdeal.Hand

open Cert.KernelIdeal Cert.KernelIdeal.Gen
open Idealize.ShloMosaic Idealize.ShloMosaic.TcCoe Idealize.ShloMosaic.Tactic

variable {F : FTy → Type} [FloatOps F]

theorem inb512 (k : Fin 14) : ∀ a, (![0, 512 * k.val] : Fin 2 → ℕ) a + S24x512.size a ≤ S24x7168.size a := by
  intro a; have := k.isLt; fin_cases a <;> simp [S24x512, S24x7168] <;> omega
theorem inb512x (k : Fin 14) : ∀ a, (![0, 512 * k.val] : Fin 2 → ℕ) a + S32x512.size a ≤ S32x7168.size a := by
  intro a; have := k.isLt; fin_cases a <;> simp [S32x512, S32x7168] <;> omega
theorem inb512s (b : Fin 3) (k : Fin 14) : ∀ a, (![b.val, 0, 512 * k.val] : Fin 3 → ℕ) a + S1x1x512.size a ≤ S3x1x7168.size a := by
  intro a; have := k.isLt; have := b.isLt; fin_cases a <;> simp [S1x1x512, S3x1x7168] <;> omega
theorem inb128 (n : ℕ) : ∀ a, (![0, 128 * min n 55] : Fin 2 → ℕ) a + S24x128.size a ≤ S24x7168.size a := by
  intro a; fin_cases a <;> simp [S24x128, S24x7168] <;> omega

/-- The chunks of columns, newest first. -/
def chunks : List (Fin 14) := [13, 12, 11, 10, 9, 8, 7, 6, 5, 4, 3, 2, 1, 0]

/-- The chunk of x in row `b`. -/
def xld (c : Dev nD) (f0 : Cont (F := F) c cc0_stg0_0) (b : Fin 3) (k : Fin 14) : Vec F S1x1x512 .bf16 :=
  View.readAt (Elt F) (Memref.whole cc0_stg0_0).view (Rect.unit (s := S3x1x7168) ![b.val, 0, 512 * k.val] S1x1x512.size (inb512s b k)).toLoadRect f0

/-- The chunk of the first h. -/
def hpiece (c : Dev nD) (f0 : Cont (F := F) c cc0_stg0_0) (k : Fin 14) : View.Piece (Elt F) S24x7168 .f32 :=
  ⟨Rect.unit (s := S24x7168) ![0, 512 * k.val] S24x512.size (inb512 k), k0_pay165 (k0_pay164 bodyRun.sl.r (xld c f0 0 k) (xld c f0 1 k) (xld c f0 2 k))⟩

theorem Hh_eq (c : Dev nD) (f0 : Cont (F := F) c cc0_stg0_0) : bodyRun.sl.Hh_14 c f0 = chunks.map (hpiece c f0) := by sl_kernel_rfl

/-- The running maximum of magnitudes over the 56 chunks of 128 columns. -/
def absMax (L : ℕ → Vec F S24x128 .f32) (n : ℕ) : FVec F S24x128 .f32 :=
  Nat.rec (broadcast S24x128 (FloatOps.ofBits .f32 0#32)) (fun n v => maximumf v (absf (L n))) n

/-- The largest magnitude of each row over 448. -/
def amaxScale (L : ℕ → Vec F S24x128 .f32) : FVec F S24x1 .f32 :=
  mulf (shapeCast S24x1 (multiReduction .maximumf [1] S24 (absMax L 56) 0xFF800000#32 reduces_S24x128_S24 (.inl rfl) rfl) shapeCasts_S24_S24x1)
    (broadcast S24x1 (FloatOps.ofBits .f32 991054117#32))

theorem r22_eq (c : Dev nD) (f0 : Cont (F := F) c cc0_stg0_0) : bodyRun.sl.r_22 c f0
    = amaxScale (fun n => (Memref.whole cc0_scratch4).view.readCov (bodyRun.sl.Hh_14 c f0) (Rect.unit (s := S24x7168) ![0, 128 * min n 55] S24x128.size (inb128 n)).toLoadRect) := by
  sl_kernel_rfl

/-- The chunk of the codes of the first h. -/
def xpiece (c : Dev nD) (f0 : Cont (F := F) c cc0_stg0_0) (k : Fin 14) : View.Piece (Elt F) S32x7168 .fp8e4m3 :=
  ⟨Rect.unit (s := S32x7168) ![0, 512 * k.val] S32x512.size (inb512x k), k0_pay196 (bodyRun.sl.r_24 c f0)
    ((Memref.whole cc0_scratch4).view.readCov (bodyRun.sl.Hh_14 c f0) (Rect.unit (s := S24x7168) ![0, 512 * k.val] S24x512.size (inb512 k)).toLoadRect)⟩

theorem Hx_eq (c : Dev nD) (f0 : Cont (F := F) c cc0_stg0_0) : bodyRun.sl.Hx_14 c f0 = chunks.map (xpiece c f0) := by sl_kernel_rfl

/-- The codes of one chunk, of all rows. -/
def xcld (c : Dev nD) (f0 : Cont (F := F) c cc0_stg0_0) (k : Fin 14) : Vec F S32x512 .fp8e4m3 :=
  (Memref.whole cc0_scratch5).view.readCov (bodyRun.sl.Hx_14 c f0) (Rect.unit (s := S32x7168) ![0, 512 * k.val] S32x512.size (inb512x k)).toLoadRect

/-- The chunk of the codes of row `b` of x. -/
def cpiece0 (c : Dev nD) (f0 : Cont (F := F) c cc0_stg0_0) (k : Fin 14) : View.Piece (Elt F) S3x1x7168 .fp8e4m3 :=
  ⟨Rect.unit (s := S3x1x7168) ![(0 : Fin 3).val, 0, 512 * k.val] S1x1x512.size (inb512s 0 k), k0_pay198 (xcld c f0 k)⟩
def cpiece1 (c : Dev nD) (f0 : Cont (F := F) c cc0_stg0_0) (k : Fin 14) : View.Piece (Elt F) S3x1x7168 .fp8e4m3 :=
  ⟨Rect.unit (s := S3x1x7168) ![(1 : Fin 3).val, 0, 512 * k.val] S1x1x512.size (inb512s 1 k), k0_pay214 (xcld c f0 k)⟩
def cpiece2 (c : Dev nD) (f0 : Cont (F := F) c cc0_stg0_0) (k : Fin 14) : View.Piece (Elt F) S3x1x7168 .fp8e4m3 :=
  ⟨Rect.unit (s := S3x1x7168) ![(2 : Fin 3).val, 0, 512 * k.val] S1x1x512.size (inb512s 2 k), k0_pay243 (xcld c f0 k)⟩

theorem H8_eq (c : Dev nD) (f0 : Cont (F := F) c cc0_stg0_0) : bodyRun.sl.H8_42 c f0
    = chunks.map (cpiece2 c f0) ++ (chunks.map (cpiece1 c f0) ++ chunks.map (cpiece0 c f0)) := by sl_kernel_rfl

end Cert.KernelIdeal.Hand

end

end
-- ==== Proof.ValH.lean ====
module

public import proofs.«01_k».proof.Proof.ValX

@[expose] public section

set_option maxRecDepth 20000

noncomputable section

/-! # The kernel's second pieces as families

After the loop over the heads' weight blocks the kernel quantises the hidden states again, chunk by chunk. Each list of chunks
is one family here. Every equality holds by definition. -/

namespace Cert.KernelIdeal.Hand

open Cert.KernelIdeal Cert.KernelIdeal.Gen
open Idealize.ShloMosaic Idealize.ShloMosaic.TcCoe Idealize.ShloMosaic.Tactic

variable {F : FTy → Type} [FloatOps F]

variable (c : Dev nD) (fw : WresBuf (F := F) c) (f0 : Cont (F := F) c cc0_stg0_0) (fs : Cont (F := F) c cc0_stg1_0) (fb : Cont (F := F) c cc0_stg2_0)

/-- The hidden states after the loop. -/
def hLoop : Cont (F := F) c cc0_scratch4 :=
  hAt c fw fs fb ((Memref.whole cc0_scratch5).view.writes (Elt F) (Memref.whole cc0_scratch5).view.junk (bodyRun.sl.Hx_14 c f0))
    (k0_pay130 bodyRun.sl.v42) (bodyRun.sl.r_30 c f0)
    ((Memref.whole cc0_scratch4).view.writes (Elt F) (Memref.whole cc0_scratch4).view.junk (bodyRun.sl.Hh_14 c f0)) 70

/-- The chunks of 128 columns of the hidden states. -/
def hld128 (n : ℕ) : Vec F S24x128 .f32 :=
  View.readAt (Elt F) (Memref.whole cc0_scratch4).view (Rect.unit (s := S24x7168) ![0, 128 * min n 55] S24x128.size (inb128 n)).toLoadRect (hLoop c fw f0 fs fb)

theorem r43_eq : bodyRun.sl.r_43 c fw f0 fs fb = amaxScale (hld128 c fw f0 fs fb) := by sl_kernel_rfl

theorem r46_eq : bodyRun.sl.r_46 c fw f0 fs fb = k0_pay177 (bodyRun.sl.r_43 c fw f0 fs fb) bodyRun.sl.v732 k0_pay175 := by sl_kernel_rfl

theorem r51_eq : bodyRun.sl.r_51 c fw f0 fs fb = k0_pay197 (k0_pay176 (bodyRun.sl.r_43 c fw f0 fs fb) bodyRun.sl.v732 k0_pay175) := by sl_kernel_rfl

/-- The chunk of the codes of the hidden states. -/
def ypiece (k : Fin 14) : View.Piece (Elt F) S32x7168 .fp8e4m3 :=
  ⟨Rect.unit (s := S32x7168) ![0, 512 * k.val] S32x512.size (inb512x k), k0_pay196 (bodyRun.sl.r_46 c fw f0 fs fb)
    (View.readAt (Elt F) (Memref.whole cc0_scratch4).view (Rect.unit (s := S24x7168) ![0, 512 * k.val] S24x512.size (inb512 k)).toLoadRect (hLoop c fw f0 fs fb))⟩

theorem Hy_eq : bodyRun.sl.Hx_28 c fw f0 fs fb = chunks.map (ypiece c fw f0 fs fb) ++ bodyRun.sl.Hx_14 c f0 := by sl_kernel_rfl

theorem inb512h (b : Fin 3) (k : Fin 14) : ∀ a, (![b.val, 0, 0, 512 * k.val] : Fin 4 → ℕ) a + S1x1x5x512.size a ≤ S3x1x5x7168.size a := by
  intro a; have := k.isLt; have := b.isLt; fin_cases a <;> simp [S1x1x5x512, S3x1x5x7168] <;> omega

/-- The codes of one chunk, of all rows, after the second quantisation. -/
def ycld (k : Fin 14) : Vec F S32x512 .fp8e4m3 :=
  (Memref.whole cc0_scratch5).view.readCov (bodyRun.sl.Hx_28 c fw f0 fs fb) (Rect.unit (s := S32x7168) ![0, 512 * k.val] S32x512.size (inb512x k)).toLoadRect

/-- The chunk of the codes of the hidden rows of row `b` of x. -/
def dpiece0 (k : Fin 14) : View.Piece (Elt F) S3x1x5x7168 .fp8e4m3 :=
  ⟨Rect.unit (s := S3x1x5x7168) ![(0 : Fin 3).val, 0, 0, 512 * k.val] S1x1x5x512.size (inb512h 0 k), k0_pay331 (ycld c fw f0 fs fb k)⟩
def dpiece1 (k : Fin 14) : View.Piece (Elt F) S3x1x5x7168 .fp8e4m3 :=
  ⟨Rect.unit (s := S3x1x5x7168) ![(1 : Fin 3).val, 0, 0, 512 * k.val] S1x1x5x512.size (inb512h 1 k), k0_pay354 (ycld c fw f0 fs fb k)⟩
def dpiece2 (k : Fin 14) : View.Piece (Elt F) S3x1x5x7168 .fp8e4m3 :=
  ⟨Rect.unit (s := S3x1x5x7168) ![(2 : Fin 3).val, 0, 0, 512 * k.val] S1x1x5x512.size (inb512h 2 k), k0_pay369 (ycld c fw f0 fs fb k)⟩

theorem H10_eq : bodyRun.sl.H10_28 c fw f0 fs fb = chunks.map (dpiece1 c fw f0 fs fb) ++ chunks.map (dpiece0 c fw f0 fs fb) := by sl_kernel_rfl

theorem L10_eq (fv : WvocBuf (F := F) c) (f3 : Cont (F := F) c cc0_stg3_0) (f4 : Cont (F := F) c cc0_stg4_0) (gi : Cont (F := F) c cc0_scratch6) :
    (bodyRun c fw fv f0 fs fb f3 f4 gi).1.2.2.2.2.2.1 = chunks.map (dpiece2 c fw f0 fs fb) ++ bodyRun.sl.H10_28 c fw f0 fs fb := by sl_kernel_rfl

theorem L11_eq (fv : WvocBuf (F := F) c) (f3 : Cont (F := F) c cc0_stg3_0) (f4 : Cont (F := F) c cc0_stg4_0) (gi : Cont (F := F) c cc0_scratch6) :
    (bodyRun c fw fv f0 fs fb f3 f4 gi).1.2.2.2.2.2.2 = bodyRun.sl.H11_3 c fw f0 fs fb := by sl_kernel_rfl

end Cert.KernelIdeal.Hand

end

end
-- ==== Proof.Scale.lean ====
module

public import Idealize.ShloMosaic.Lib.Pointwise

@[expose] public section

noncomputable section

/-! # The exponent of the quantiser

The kernel counts the powers of two that are at most the largest magnitude over 448 and builds the scale from its exponent field;
the reference takes the floor of a logarithm. The two scales are one number, and so are their inverses. -/

namespace Cert.Hand

open Idealize.ShloMosaic

/-- The reference's exponent of a row whose largest magnitude is `a`. -/
def rexp (a : EReal) : EReal :=
  Scalar.select
    (IntOp.ori
      (BitVec.ofBool (decide (a * Ideal.ofBits FTy.f32 991054117#32 < Ideal.ofBits FTy.f32 8388608#32)))
      (BitVec.ofBool (decide (a * Ideal.ofBits FTy.f32 991054117#32 = Ideal.ofBits FTy.f32 2139095040#32))))
    0
    (min (Ideal.ofBits FTy.f32 1123811328#32)
      (max (Ideal.ofBits FTy.f32 3271163904#32)
        (Ideal.liftRound Int.floor
            (Ideal.div (Ideal.log (a * Ideal.ofBits FTy.f32 991054117#32)) (Ideal.log (Ideal.ofBits FTy.f32 1073741824#32))) + 1)))

/-- The kernel's count of the powers of two at most `s`. -/
def kcount (s : EReal) : BitVec 32 :=
  Finset.fold IntOp.addi (0#32)
    (fun x : Fin 256 => BitVec.setWidth 32
      (IntOp.andi (IntOp.andi (IntOp.cmpi CmpIPredicate.sgt (BitVec.ofNat 32 ↑x) 0#32) (IntOp.cmpi CmpIPredicate.sle (BitVec.ofNat 32 ↑x) 252#32))
        (BitVec.ofBool (decide (Ideal.ofBits FTy.f32 (IntOp.shli ArithUnit.vector (BitVec.ofNat 32 ↑x) 23#32) ≤ s)))))
    Finset.univ

/-- The kernel's exponent field. -/
def kfield (s : EReal) : BitVec 32 := if s = Ideal.ofBits FTy.f32 2139095040#32 then 255#32 else kcount s

/-- The kernel's exponent. -/
def kexp (s : EReal) : BitVec 32 :=
  Scalar.select (IntOp.ori (IntOp.cmpi CmpIPredicate.eq (kfield s) 0#32) (IntOp.cmpi CmpIPredicate.eq (kfield s) 255#32))
    (0#32) (IntOp.subi (kfield s) 126#32)

/-- The power of two of an exponent, built from its bits. -/
def kpow (e : BitVec 32) : EReal := Ideal.ofBits FTy.f32 (IntOp.shli ArithUnit.vector (IntOp.addi e 127#32) 23#32)

theorem bits_field : ∀ p : Fin 255, (BitVec.ofNat 32 (p.val * 2 ^ 23)).extractLsb' (8 + 23) 1 = 0#1
    ∧ ((BitVec.ofNat 32 (p.val * 2 ^ 23)).extractLsb' 23 8).toNat = p.val ∧ ((BitVec.ofNat 32 (p.val * 2 ^ 23)).extractLsb' 0 23).toNat = 0 := by
  decide +kernel

theorem ofBits_field (p : ℕ) (h1 : 1 ≤ p) (h2 : p ≤ 254) :
    Ideal.ofBits FTy.f32 (BitVec.ofNat 32 (p * 2 ^ 23)) = (((2 : ℝ) ^ ((p : ℤ) - 127) : ℝ) : EReal) := by
  obtain ⟨a, b, c⟩ := bits_field ⟨p, by omega⟩
  show Ideal.ieee 8 23 _ = _
  unfold Ideal.ieee
  simp only [a, b, c]
  rw [if_neg (by omega), if_neg (by omega)]
  norm_num
  have : (2 : ℝ) ^ ((p : ℤ) - 127) = (2 : ℝ) ^ 23 * (2 : ℝ) ^ ((p : ℤ) - 127 - 23) := by
    rw [← zpow_natCast, ← zpow_add₀ (by norm_num)]; congr 1; omega
  rw [this]
  norm_num

theorem shl_eq : ∀ x : Fin 256, IntOp.shli ArithUnit.vector (BitVec.ofNat 32 x.val) 23#32 = BitVec.ofNat 32 (x.val * 2 ^ 23) := by decide +kernel

theorem range_eq : ∀ x : Fin 256, IntOp.andi (IntOp.cmpi CmpIPredicate.sgt (BitVec.ofNat 32 ↑x) 0#32) (IntOp.cmpi CmpIPredicate.sle (BitVec.ofNat 32 ↑x) 252#32)
    = if 1 ≤ x.val ∧ x.val ≤ 252 then 1#1 else 0#1 := by decide +kernel

theorem fold_count {α : Type} [DecidableEq α] (P : α → Prop) [DecidablePred P] (S : Finset α) :
    Finset.fold IntOp.addi (0#32) (fun x => if P x then 1#32 else 0#32) S = BitVec.ofNat 32 (S.filter P).card := by
  induction S using Finset.induction_on with
  | empty => rfl
  | insert a S ha ih =>
    rw [Finset.fold_insert ha, ih, Finset.filter_insert]
    by_cases h : P a
    · rw [if_pos h, if_pos h, Finset.card_insert_of_notMem (by simp [ha])]
      show 1#32 + _ = _
      rw [Nat.add_comm, BitVec.ofNat_add]
    · rw [if_neg h, if_neg h]
      show 0#32 + _ = _
      rw [BitVec.zero_add]

theorem kcount_eq (s : EReal) :
    kcount s = BitVec.ofNat 32 (Finset.univ.filter fun x : Fin 256 => (1 ≤ x.val ∧ x.val ≤ 252) ∧ (((2 : ℝ) ^ ((x.val : ℤ) - 127) : ℝ) : EReal) ≤ s).card := by
  classical
  rw [← fold_count]
  unfold kcount
  refine Finset.fold_congr fun x _ => ?_
  rw [range_eq, shl_eq]
  by_cases h : 1 ≤ x.val ∧ x.val ≤ 252
  · rw [if_pos h, ofBits_field x.val h.1 (by omega)]
    by_cases h2 : (((2 : ℝ) ^ ((x.val : ℤ) - 127) : ℝ) : EReal) ≤ s
    · rw [decide_eq_true h2, if_pos ⟨h, h2⟩]; rfl
    · rw [decide_eq_false h2, if_neg (fun hh => h2 hh.2)]; rfl
  · rw [if_neg h, if_neg (fun hh => h hh.1)]
    generalize BitVec.ofBool _ = b
    revert b; decide

theorem card_prefix : ∀ n : Fin 253, (Finset.univ.filter fun x : Fin 256 => 1 ≤ x.val ∧ x.val ≤ n.val).card = n.val := by decide +kernel

theorem inf_eq : Ideal.ofBits FTy.f32 2139095040#32 = ⊤ := by
  simp [Ideal.ofBits, Ideal.ieee]

theorem tiny_eq : Ideal.ofBits FTy.f32 8388608#32 = (((2 : ℝ) ^ ((1 : ℤ) - 127) : ℝ) : EReal) := ofBits_field 1 (by norm_num) (by norm_num)
theorem two_eq : Ideal.ofBits FTy.f32 1073741824#32 = ((2 : ℝ) : EReal) := by
  rw [show (1073741824#32) = BitVec.ofNat 32 (128 * 2 ^ 23) from rfl, ofBits_field 128 (by norm_num) (by norm_num)]; norm_num
theorem hi_eq : Ideal.ofBits FTy.f32 1123811328#32 = ((126 : ℝ) : EReal) := by
  simp [Ideal.ofBits, Ideal.ieee]; rw [← EReal.coe_mul]; norm_num
theorem lo_eq : Ideal.ofBits FTy.f32 3271163904#32 = ((-125 : ℝ) : EReal) := by
  simp [Ideal.ofBits, Ideal.ieee]; rw [← EReal.coe_mul]; norm_num

theorem sel_or (a b : Bool) {α : Type} (x y : α) : Scalar.select (IntOp.ori (BitVec.ofBool a) (BitVec.ofBool b)) x y = if a || b then x else y := by
  cases a <;> cases b <;> rfl

/-- The kernel's exponent of a count `n`. -/
theorem kexp_of : ∀ n : Fin 253, 1 ≤ n.val →
    Scalar.select (IntOp.ori (IntOp.cmpi CmpIPredicate.eq (BitVec.ofNat 32 n.val) 0#32) (IntOp.cmpi CmpIPredicate.eq (BitVec.ofNat 32 n.val) 255#32))
      (0#32) (IntOp.subi (BitVec.ofNat 32 n.val) 126#32) = BitVec.ofNat 32 n.val - 126#32 := by decide +kernel

theorem kbits_of : ∀ n : Fin 253, 1 ≤ n.val →
    IntOp.shli ArithUnit.vector (IntOp.addi (BitVec.ofNat 32 n.val - 126#32) 127#32) 23#32 = BitVec.ofNat 32 ((n.val + 1) * 2 ^ 23)
    ∧ IntOp.shli ArithUnit.vector (IntOp.addi (IntOp.subi 0#32 (BitVec.ofNat 32 n.val - 126#32)) 127#32) 23#32 = BitVec.ofNat 32 ((253 - n.val) * 2 ^ 23) := by
  decide +kernel

/-- A power of two is at most a number when its exponent is at most the floor of the number's logarithm. -/
theorem zpow_le_iff (r : ℝ) (h : 0 < r) (z : ℤ) : (2 : ℝ) ^ z ≤ r ↔ z ≤ ⌊Real.log r * (1 / Real.log 2)⌋ := by
  have h2 : 0 < Real.log 2 := Real.log_pos (by norm_num)
  rw [Int.le_floor, mul_one_div, le_div_iff₀ h2, ← Real.log_zpow, Real.log_le_log_iff (by positivity) h]

/-- Both exponents are an integer, or both are zero. -/
theorem exps (a : EReal) :
    (kexp (a * Ideal.ofBits FTy.f32 991054117#32) = 0#32 ∧ rexp a = 0)
    ∨ ∃ n : Fin 253, 1 ≤ n.val ∧ kexp (a * Ideal.ofBits FTy.f32 991054117#32) = BitVec.ofNat 32 n.val - 126#32
        ∧ rexp a = ((((n.val : ℤ) - 126 : ℤ) : ℝ) : EReal) := by
  unfold rexp kexp kfield
  generalize a * Ideal.ofBits FTy.f32 991054117#32 = s
  rw [inf_eq, tiny_eq, two_eq, hi_eq, lo_eq, sel_or]
  by_cases ht : s = ⊤
  · left
    subst ht
    refine ⟨by rw [if_pos rfl]; rfl, by simp⟩
  rw [if_neg ht, kcount_eq]
  by_cases hs : s < (((2 : ℝ) ^ ((1 : ℤ) - 127) : ℝ) : EReal)
  · left
    have hc : (Finset.univ.filter fun x : Fin 256 => (1 ≤ x.val ∧ x.val ≤ 252) ∧ (((2 : ℝ) ^ ((x.val : ℤ) - 127) : ℝ) : EReal) ≤ s) = ∅ := by
      rw [Finset.filter_eq_empty_iff]
      rintro x - ⟨⟨h1, _⟩, h2⟩
      refine absurd (lt_of_le_of_lt h2 hs) (not_lt.mpr ?_)
      rw [EReal.coe_le_coe_iff]
      exact zpow_le_zpow_right₀ (by norm_num) (by omega)
    refine ⟨by rw [hc]; rfl, ?_⟩
    rw [decide_eq_true hs]; rfl
  · right
    rw [decide_eq_false hs, decide_eq_false ht, if_neg (by decide)]
    induction s with
    | bot => exact absurd (EReal.bot_lt_coe _) hs
    | top => exact absurd rfl ht
    | coe r =>
      have hr : (2 : ℝ) ^ ((1 : ℤ) - 127) ≤ r := by
        have := not_lt.mp hs; rwa [EReal.coe_le_coe_iff] at this
      have h0 : 0 < r := lt_of_lt_of_le (by positivity) hr
      have hl : (1 : ℤ) - 127 ≤ ⌊Real.log r * (1 / Real.log 2)⌋ := (zpow_le_iff r h0 _).mp hr
      refine ⟨⟨(min 252 (⌊Real.log r * (1 / Real.log 2)⌋ + 127)).toNat, by omega⟩, by show 1 ≤ (min 252 (⌊Real.log r * (1 / Real.log 2)⌋ + 127)).toNat; omega, ?_, ?_⟩
      · have hc : (Finset.univ.filter fun x : Fin 256 => (1 ≤ x.val ∧ x.val ≤ 252) ∧ (((2 : ℝ) ^ ((x.val : ℤ) - 127) : ℝ) : EReal) ≤ (r : EReal))
            = Finset.univ.filter fun x : Fin 256 => 1 ≤ x.val ∧ x.val ≤ (min 252 (⌊Real.log r * (1 / Real.log 2)⌋ + 127)).toNat := by
          refine Finset.filter_congr fun x _ => ?_
          rw [EReal.coe_le_coe_iff]
          rw [zpow_le_iff r h0]
          omega
        rw [hc, card_prefix ⟨(min 252 (⌊Real.log r * (1 / Real.log 2)⌋ + 127)).toNat, by omega⟩]
        exact kexp_of ⟨(min 252 (⌊Real.log r * (1 / Real.log 2)⌋ + 127)).toNat, by omega⟩ (by show 1 ≤ (min 252 (⌊Real.log r * (1 / Real.log 2)⌋ + 127)).toNat; omega)
      · rw [Ideal.log_coe, if_neg (not_le.mpr h0), Ideal.log_coe, if_neg (by norm_num),
          Ideal.div_coe (by positivity), ← EReal.coe_mul, Ideal.liftRound_coe]
        rw [show (1 : EReal) = ((1 : ℝ) : EReal) from rfl, ← EReal.coe_add, ← EReal.coe_strictMono.monotone.map_max, ← EReal.coe_strictMono.monotone.map_min, EReal.coe_eq_coe_iff]
        have hz : (((min 252 (⌊Real.log r * (1 / Real.log 2)⌋ + 127)).toNat : ℤ) - 126) = min 126 (max (-125) (⌊Real.log r * (1 / Real.log 2)⌋ + 1)) := by omega
        rw [hz]
        push_cast
        rfl

theorem exp2_int (z : ℤ) : Ideal.exp2 (((z : ℤ) : ℝ) : EReal) = (((2 : ℝ) ^ z : ℝ) : EReal) := by
  rw [Ideal.exp2_coe]; exact congrArg _ (Real.rpow_intCast 2 z)

/-- The kernel's scale is the reference's. -/
theorem kpow_scale (a : EReal) : kpow (kexp (a * Ideal.ofBits FTy.f32 991054117#32)) = Ideal.exp2 (rexp a) := by
  rcases exps a with ⟨h1, h2⟩ | ⟨n, hn, h1, h2⟩
  · rw [h1, h2, show (0 : EReal) = (((0 : ℤ) : ℝ) : EReal) by norm_num, exp2_int]
    exact ofBits_field 127 (by norm_num) (by norm_num)
  · rw [h1, h2, exp2_int, kpow, (kbits_of n hn).1, ofBits_field _ (by omega) (by omega),
      show ((n.val + 1 : ℕ) : ℤ) - 127 = (n.val : ℤ) - 126 by omega]

/-- And so is its inverse. -/
theorem kpow_inv (a : EReal) : kpow (IntOp.subi 0#32 (kexp (a * Ideal.ofBits FTy.f32 991054117#32))) = Ideal.exp2 (0 - rexp a) := by
  rcases exps a with ⟨h1, h2⟩ | ⟨n, hn, h1, h2⟩
  · rw [h1, h2, show (0 : EReal) - 0 = (((0 : ℤ) : ℝ) : EReal) by norm_num, exp2_int]
    exact ofBits_field 127 (by norm_num) (by norm_num)
  · rw [h1, h2, show (0 : EReal) - ((((n.val : ℤ) - 126 : ℤ) : ℝ) : EReal) = (((126 - (n.val : ℤ) : ℤ) : ℝ) : EReal) by
        rw [show (0 : EReal) = ((0 : ℝ) : EReal) from rfl, ← EReal.coe_sub]; congr 1; push_cast; linarith,
      exp2_int, kpow, (kbits_of n hn).2, ofBits_field _ (by omega) (by omega),
      show ((253 - n.val : ℕ) : ℤ) - 127 = 126 - (n.val : ℤ) by omega]

end Cert.Hand
-- ==== Proof.Spec.lean ====
module

public import Idealize.ShloMosaic.Lib.Pointwise
public import proofs.«01_k».proof.Proof.Scale

@[expose] public section

noncomputable section

/-! # What one row of the quantiser gives, over the extended reals -/

namespace Cert.Hand

open Idealize.ShloMosaic

/-- The largest magnitude of a row, as the reference folds it. -/
def rowMax {n : ℕ} (f : Fin n → EReal) : EReal :=
  Finset.fold max (Ideal.ofBits FTy.f32 4286578688#32) (fun j => (FloatOps.absf (F := Ideal) (φ := .f32) (f j) : EReal)) Finset.univ

/-- The scale of a row. -/
def rowScale {n : ℕ} (f : Fin n → EReal) : EReal := Ideal.exp2 (rexp (rowMax f))

/-- The code of entry `j` of a row. -/
def rowCode {n : ℕ} (f : Fin n → EReal) (j : Fin n) : EReal :=
  min (Ideal.ofBits FTy.f32 1138753536#32) (max (Ideal.ofBits FTy.f32 3286237184#32) (f j * Ideal.exp2 (0 - rexp (rowMax f))))

/-- What a head makes of a row `x` of the hidden states before its activation: the row's codes times the head's weights `w`,
    scaled back by the row's scale and the weights' scales `s`, plus the bias `b`. -/
def headZ {n : ℕ} (x : Fin n → EReal) (w : Fin n → Fin n → EReal) (s b : Fin n → EReal) (j : Fin n) : EReal :=
  (∑ d, rowCode x d * w d j) * rowScale x * s j + b j

/-- A head's hidden row: the row itself plus the activation of what the head makes of it. -/
def headRow {n : ℕ} (x : Fin n → EReal) (w : Fin n → Fin n → EReal) (s b : Fin n → EReal) (j : Fin n) : EReal :=
  x j + headZ x w s b j * Ideal.logistic (headZ x w s b j)

end Cert.Hand

end

end
-- ==== Proof.ValXI.lean ====
module

public import Idealize.ShloMosaic.Lib.Pointwise
public import Idealize.ShloMosaic.Lib.Pipeline.Value
public import proofs.«01_k».proof.Proof.Spec
public import proofs.«01_k».proof.Proof.ValX

@[expose] public section

set_option maxRecDepth 20000

noncomputable section

/-! # The codes and scales of x that the kernel writes, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (f0 : Cont (F := Ideal) c cc0_stg0_0)

theorem eta4 {s1 s2 s3 s4 : ℕ} (x : (⟨4, ![s1, s2, s3, s4]⟩ : Shape).Idx) : ∃ a b c d, x = ix4 a b c d :=
  ⟨x 0, x 1, x 2, x 3, by funext a; fin_cases a <;> rfl⟩
theorem eta3 {s1 s2 s3 : ℕ} (x : (⟨3, ![s1, s2, s3]⟩ : Shape).Idx) : ∃ a b c, x = ix3 a b c :=
  ⟨x 0, x 1, x 2, by funext a; fin_cases a <;> rfl⟩
theorem eta2 {s1 s2 : ℕ} (x : (⟨2, ![s1, s2]⟩ : Shape).Idx) : ∃ a b, x = ix2 a b :=
  ⟨x 0, x 1, by funext a; fin_cases a <;> rfl⟩

/-- The staged x, as an array. -/
def xK : Vec Ideal S3x1x7168 .bf16 := fun y => f0 y

/-- A column of chunk `k`. -/
abbrev col (k : Fin 14) (j : Fin 512) : Fin 7168 := ⟨512 * k.val + j.val, by have := k.isLt; have := j.isLt; omega⟩

theorem xld_apply (b : Fin 3) (k : Fin 14) (j : Fin 512) : xld c f0 b k (ix3 0 0 j) = xK c f0 (ix3 b 0 (col k j)) := by
  unfold xld xK
  rw [View.readAt_apply]
  show f0 _ = f0 _
  congr 1
  funext a; apply Fin.ext
  fin_cases a
  · show b.val + 1 * 0 = b.val; omega
  · rfl
  · show 512 * k.val + 1 * j.val = 512 * k.val + j.val; omega

/-- Row `r` belongs to batch row `r / 6`. -/
theorem tok (r : Fin 24) : bodyRun.sl.r (ix2 r 0) = BitVec.ofNat 32 (r.val / 6) := by
  unfold bodyRun.sl.r bodyRun.sl.v58 bodyRun.sl.v62 bodyRun.sl.v57
  pointwise [k0_pay129, bodyRun.sl.v42, bodyRun.sl.v43]
  revert r
  decide +kernel

/-- The first h: row `r` is the row `r / 6` of x, and zero from row 18 on. -/
def hRow (x : Vec Ideal S3x1x7168 .bf16) (r : Fin 24) : Fin 7168 → EReal :=
  fun j => if h : r.val / 6 < 3 then x (ix3 ⟨r.val / 6, h⟩ 0 j) else 0

theorem hpiece_apply (k : Fin 14) (r : Fin 24) (j : Fin 512) : (hpiece c f0 k).2 (ix2 r j) = hRow (xK c f0) r (col k j) := by
  show k0_pay165 (k0_pay164 bodyRun.sl.r (xld c f0 0 k) (xld c f0 1 k) (xld c f0 2 k)) (ix2 r j) = _
  pointwise [k0_pay165, k0_pay164, xld_apply, tok]
  have hr := r.isLt
  unfold hRow
  by_cases h : r.val / 6 < 3
  · rw [dif_pos h]
    have h' : r.val / 6 = 0 ∨ r.val / 6 = 1 ∨ r.val / 6 = 2 := by omega
    rcases h' with h' | h' | h' <;> simp only [h'] <;> rfl
  · rw [dif_neg h]
    have h' : r.val / 6 = 3 := by omega
    simp only [h']
    rfl

theorem idx24 (k : Fin 14) (r : Fin 24) (j : Fin 512) :
    (Rect.unit (s := S24x7168) ![0, 512 * k.val] S24x512.size (inb512 k)).toLoadRect.idx (ix2 r j) = ix2 r (col k j) := by
  funext a; apply Fin.ext
  fin_cases a
  · show 0 + 1 * r.val = r.val; omega
  · show 512 * k.val + 1 * j.val = 512 * k.val + j.val; omega

theorem idx32 (k : Fin 14) (r : Fin 32) (j : Fin 512) :
    (Rect.unit (s := S32x7168) ![0, 512 * k.val] S32x512.size (inb512x k)).toLoadRect.idx (ix2 r j) = ix2 r (col k j) := by
  funext a; apply Fin.ext
  fin_cases a
  · show 0 + 1 * r.val = r.val; omega
  · show 512 * k.val + 1 * j.val = 512 * k.val + j.val; omega

theorem idx128 (n : Fin 56) (r : Fin 24) (j : Fin 128) :
    (Rect.unit (s := S24x7168) ![0, 128 * min n.val 55] S24x128.size (inb128 n.val)).toLoadRect.idx (ix2 r j)
      = ix2 r (⟨128 * n.val + j.val, by have := n.isLt; have := j.isLt; omega⟩ : Fin 7168) := by
  have := n.isLt
  funext a; apply Fin.ext
  fin_cases a
  · show 0 + 1 * r.val = r.val; omega
  · show 128 * min n.val 55 + 1 * j.val = 128 * n.val + j.val; omega

/-- The first h, as an array. -/
def Gh (x : Vec Ideal S3x1x7168 .bf16) : Vec Ideal S24x7168 .f32 := fun y => hRow x (y 0) (y 1)

theorem Hh_canon (y : S24x7168.Idx) : View.canon (Val := Elt Ideal) (e := .f32) (bodyRun.sl.Hh_14 c f0) y = Gh (xK c f0) y := by
  refine View.canon_apply_of_pieces (Val := Elt Ideal) (e := .f32) (Gh (xK c f0)) _ ?_ y (View.cover_of_tiledL (bodyRun.sl.Hh_14 c f0) S24x512.size (by sl_kernel_rfl) y)
  intro p hp
  rw [Hh_eq] at hp
  obtain ⟨k, -, rfl⟩ := List.mem_map.mp hp
  intro x
  obtain ⟨r, j, rfl⟩ := eta2 (s1 := 24) (s2 := 512) x
  refine (hpiece_apply c f0 k r j).trans ?_
  show Gh (xK c f0) (ix2 r (col k j)) = Gh (xK c f0) ((Rect.unit (s := S24x7168) ![0, 512 * k.val] S24x512.size (inb512 k)).toLoadRect.idx (ix2 r j))
  rw [idx24]

theorem absMax_succ (L : ℕ → Vec Ideal S24x128 .f32) (n : ℕ) (y : S24x128.Idx) :
    absMax L (n + 1) y = max (absMax L n y : EReal) (FloatOps.absf (F := Ideal) (φ := .f32) (L n y)) := rfl

theorem absMax_le (L : ℕ → Vec Ideal S24x128 .f32) (n : ℕ) (y : S24x128.Idx) (t : EReal) :
    (absMax L n y : EReal) ≤ t ↔ 0 ≤ t ∧ ∀ i < n, (FloatOps.absf (F := Ideal) (φ := .f32) (L i y) : EReal) ≤ t := by
  induction n with
  | zero =>
    have : (absMax L 0 y : EReal) = 0 := by
      show Ideal.ofBits .f32 0#32 = 0
      simp [Ideal.ofBits, Ideal.ieee]
    rw [this]; simp
  | succ n ih =>
    rw [absMax_succ, max_le_iff, ih]
    constructor
    · rintro ⟨⟨h0, h1⟩, h2⟩
      refine ⟨h0, fun i hi => ?_⟩
      rcases Nat.lt_succ_iff_lt_or_eq.mp hi with h | rfl
      · exact h1 i h
      · exact h2
    · rintro ⟨h0, h1⟩
      exact ⟨⟨h0, fun i hi => h1 i (by omega)⟩, h1 n (by omega)⟩

theorem absf_nonneg (x : EReal) : 0 ≤ (FloatOps.absf (F := Ideal) (φ := .f32) x : EReal) := by
  show (0 : EReal) ≤ max x (-x)
  rcases le_total 0 x with h | h
  · exact le_max_of_le_left h
  · exact le_max_of_le_right (EReal.neg_nonneg.mpr h)

/-- The kernel's running maximum is the largest magnitude of the row. -/
theorem amaxScale_apply (L : ℕ → Vec Ideal S24x128 .f32) (row : Fin 24 → Fin 7168 → EReal)
    (hL : ∀ (n : Fin 56) (r : Fin 24) (j : Fin 128), L n.val (ix2 r j) = row r ⟨128 * n.val + j.val, by have := n.isLt; have := j.isLt; omega⟩)
    (r : Fin 24) : amaxScale L (ix2 r 0) = rowMax (row r) * Ideal.ofBits FTy.f32 991054117#32 := by
  pointwise [amaxScale]
  congr 1
  refine eq_of_forall_ge_iff fun t => ?_
  unfold rowMax
  rw [Finset.fold_max_le, Finset.fold_max_le]
  simp only [Finset.mem_univ, true_implies, absMax_le]
  refine and_congr_right fun _ => ⟨fun h j => ?_, fun h x => ⟨(absf_nonneg _).trans (h ⟨0, by norm_num⟩), fun i hi => ?_⟩⟩
  · have hj := j.isLt
    have := (h ⟨j.val % 128, by omega⟩).2 (j.val / 128) (by omega)
    rw [hL ⟨j.val / 128, by omega⟩] at this
    convert this using 3
    apply Fin.ext; show j.val = 128 * (j.val / 128) + j.val % 128; omega
  · rw [hL ⟨i, hi⟩]; exact h _

theorem r22_apply (r : Fin 24) : bodyRun.sl.r_22 c f0 (ix2 r 0) = rowMax (hRow (xK c f0) r) * Ideal.ofBits FTy.f32 991054117#32 := by
  rw [r22_eq]
  refine amaxScale_apply _ (hRow (xK c f0)) (fun n r j => ?_) r
  rw [View.readCov_eq_canon']
  refine (Hh_canon c f0 _).trans ?_
  rw [idx128]
  rfl

theorem pay177_apply (s : FVec Ideal S24x1 .f32) (r : Fin 24) : k0_pay177 s bodyRun.sl.v732 k0_pay175 (ix2 r 0) = kpow (IntOp.subi 0#32 (kexp (s (ix2 r 0)))) := by
  pointwise [k0_pay177, k0_pay176, k0_pay175, bodyRun.sl.v732]
  rfl

theorem pay197_apply (s : FVec Ideal S24x1 .f32) (r : Fin 24) : (k0_pay197 (k0_pay176 s bodyRun.sl.v732 k0_pay175) : FVec Ideal S24x1 .f32) (ix2 r 0) = kpow (kexp (s (ix2 r 0))) := by
  pointwise [k0_pay197, k0_pay176, k0_pay175, bodyRun.sl.v732]
  rfl

/-- The inverse scale of the first h. -/
theorem r24_apply (r : Fin 24) : bodyRun.sl.r_24 c f0 (ix2 r 0) = Ideal.exp2 (0 - rexp (rowMax (hRow (xK c f0) r))) := by
  refine (pay177_apply _ r).trans ?_
  rw [r22_apply]
  exact kpow_inv _

/-- The scale of the first h. -/
theorem r30_apply (r : Fin 24) : bodyRun.sl.r_30 c f0 (ix2 r 0) = rowScale (hRow (xK c f0) r) := by
  refine (pay197_apply _ r).trans ?_
  rw [r22_apply]
  exact kpow_scale _

/-- Codes of the first h, as an array. -/
def Gx (x : Vec Ideal S3x1x7168 .bf16) : Vec Ideal S32x7168 .fp8e4m3 := fun y => if h : (y 0).val < 24 then rowCode (hRow x ⟨(y 0).val, h⟩) (y 1) else (0 : EReal)

theorem pay196_apply (inv : FVec Ideal S24x1 .f32) (v : Vec Ideal S24x512 .f32) (r : Fin 32) (j : Fin 512) :
    k0_pay196 inv v (ix2 r j) = if h : r.val < 24 then min (Ideal.ofBits .f32 1138753536#32) (max (Ideal.ofBits .f32 3286237184#32) (v (ix2 ⟨r.val, h⟩ j) * inv (ix2 ⟨r.val, h⟩ 0))) else (0 : EReal) := by
  pointwise [k0_pay196]

theorem Hx_canon (y : S32x7168.Idx) : View.canon (Val := Elt Ideal) (e := .fp8e4m3) (bodyRun.sl.Hx_14 c f0) y = Gx (xK c f0) y := by
  refine View.canon_apply_of_pieces (Val := Elt Ideal) (e := .fp8e4m3) (Gx (xK c f0)) _ ?_ y (View.cover_of_tiledL (bodyRun.sl.Hx_14 c f0) S32x512.size (by sl_kernel_rfl) y)
  intro p hp
  rw [Hx_eq] at hp
  obtain ⟨k, -, rfl⟩ := List.mem_map.mp hp
  intro x
  obtain ⟨r, j, rfl⟩ := eta2 (s1 := 32) (s2 := 512) x
  refine (pay196_apply _ _ r j).trans ?_
  show _ = Gx (xK c f0) ((Rect.unit (s := S32x7168) ![0, 512 * k.val] S32x512.size (inb512x k)).toLoadRect.idx (ix2 r j))
  rw [idx32]
  show _ = if h : r.val < 24 then rowCode (hRow (xK c f0) ⟨r.val, h⟩) (col k j) else (0 : EReal)
  split
  · rename_i h
    rw [r24_apply, View.readCov_eq_canon']
    show min _ (max _ (View.canon (Val := Elt Ideal) (e := .f32) (bodyRun.sl.Hh_14 c f0) _ * _)) = _
    rw [Hh_canon, idx24]
    rfl
  · rfl

theorem xcld_apply (k : Fin 14) (r : Fin 32) (j : Fin 512) (h : r.val < 24) : xcld c f0 k (ix2 r j) = rowCode (hRow (xK c f0) ⟨r.val, h⟩) (col k j) := by
  unfold xcld
  rw [View.readCov_eq_canon']
  refine (Hx_canon c f0 _).trans ?_
  rw [idx32]
  exact dif_pos h

end Cert.KernelIdeal.Hand

end

end
-- ==== Proof.ValXO.lean ====
module

public import proofs.«01_k».proof.Proof.ValXI

@[expose] public section

set_option maxRecDepth 20000

noncomputable section

/-! # Results 4 and 5 of the kernel, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

/-- Row `b` of x. -/
def xrow (x : Vec Ideal S3x1x7168 .bf16) (b : Fin 3) : Fin 7168 → EReal := fun j => x (ix3 b 0 j)

theorem hRow_head (x : Vec Ideal S3x1x7168 .bf16) (b : Fin 3) (h : 6 * b.val < 24) : hRow x ⟨6 * b.val, h⟩ = xrow x b := by
  funext j
  have : 6 * b.val / 6 = b.val := by omega
  unfold hRow xrow
  simp only [this]
  exact dif_pos b.isLt

theorem pay198_apply (v : Vec Ideal S32x512 .fp8e4m3) (j : Fin 512) : k0_pay198 v (ix3 0 0 j) = v (ix2 0 j) := by
  pointwise [k0_pay198]
theorem pay214_apply (v : Vec Ideal S32x512 .fp8e4m3) (j : Fin 512) : k0_pay214 v (ix3 0 0 j) = v (ix2 6 j) := by
  pointwise [k0_pay214]
theorem pay243_apply (v : Vec Ideal S32x512 .fp8e4m3) (j : Fin 512) : k0_pay243 v (ix3 0 0 j) = v (ix2 12 j) := by
  pointwise [k0_pay243]

theorem idx512s (b : Fin 3) (k : Fin 14) (j : Fin 512) :
    (Rect.unit (s := S3x1x7168) ![b.val, 0, 512 * k.val] S1x1x512.size (inb512s b k)).toLoadRect.idx (ix3 0 0 j) = ix3 b 0 (col k j) := by
  funext a; apply Fin.ext
  fin_cases a
  · show b.val + 1 * 0 = b.val; omega
  · rfl
  · show 512 * k.val + 1 * j.val = 512 * k.val + j.val; omega

/-- Codes of x, as an array. -/
def GK8 (x : Vec Ideal S3x1x7168 .bf16) : Vec Ideal S3x1x7168 .fp8e4m3 := fun y => rowCode (xrow x (y 0)) (y 2)

/-- Scales of x, as an array. -/
def GK9 (x : Vec Ideal S3x1x7168 .bf16) : Vec Ideal S3x1 .f32 := fun y => rowScale (xrow x (y 0))

variable (c : Dev nD) (f0 : Cont (F := Ideal) c cc0_stg0_0)

theorem H8_canon (y : S3x1x7168.Idx) : View.canon (Val := Elt Ideal) (e := .fp8e4m3) (bodyRun.sl.H8_42 c f0) y = GK8 (xK c f0) y := by
  refine View.canon_apply_of_pieces (Val := Elt Ideal) (e := .fp8e4m3) (GK8 (xK c f0)) _ ?_ y (View.cover_of_tiledL (bodyRun.sl.H8_42 c f0) S1x1x512.size (by sl_kernel_rfl) y)
  intro p hp
  rw [H8_eq] at hp
  simp only [List.mem_append] at hp
  rcases hp with hp | hp | hp <;> obtain ⟨k, -, rfl⟩ := List.mem_map.mp hp <;> intro x <;>
    obtain ⟨a, b, j, rfl⟩ := eta3 (s1 := 1) (s2 := 1) (s3 := 512) x <;>
    obtain rfl := Subsingleton.elim a (0 : Fin 1) <;> obtain rfl := Subsingleton.elim b (0 : Fin 1)
  · refine (pay243_apply _ j).trans ((xcld_apply c f0 k 12 j (by decide)).trans ?_)
    show _ = GK8 (xK c f0) ((Rect.unit (s := S3x1x7168) ![(2 : Fin 3).val, 0, 512 * k.val] S1x1x512.size (inb512s 2 k)).toLoadRect.idx (ix3 0 0 j))
    rw [idx512s]
    exact congrArg (fun f => rowCode f (col k j)) (hRow_head (xK c f0) 2 (by decide))
  · refine (pay214_apply _ j).trans ((xcld_apply c f0 k 6 j (by decide)).trans ?_)
    show _ = GK8 (xK c f0) ((Rect.unit (s := S3x1x7168) ![(1 : Fin 3).val, 0, 512 * k.val] S1x1x512.size (inb512s 1 k)).toLoadRect.idx (ix3 0 0 j))
    rw [idx512s]
    exact congrArg (fun f => rowCode f (col k j)) (hRow_head (xK c f0) 1 (by decide))
  · refine (pay198_apply _ j).trans ((xcld_apply c f0 k 0 j (by decide)).trans ?_)
    show _ = GK8 (xK c f0) ((Rect.unit (s := S3x1x7168) ![(0 : Fin 3).val, 0, 512 * k.val] S1x1x512.size (inb512s 0 k)).toLoadRect.idx (ix3 0 0 j))
    rw [idx512s]
    exact congrArg (fun f => rowCode f (col k j)) (hRow_head (xK c f0) 0 (by decide))

/-- Result 4 of the kernel. -/
theorem out8_val (fw : WresBuf (F := Ideal) c) (fv : WvocBuf (F := Ideal) c) (fs : Cont (F := Ideal) c cc0_stg1_0) (fb : Cont (F := Ideal) c cc0_stg2_0) (f3 : Cont (F := Ideal) c cc0_stg3_0) (f4 : Cont (F := Ideal) c cc0_stg4_0) (gi : Cont (F := Ideal) c cc0_scratch6) :
    out8 c fw fv f0 fs fb f3 f4 gi = GK8 (xK c f0) := by
  refine funext fun y => ?_
  unfold out8 leave8
  rw [View.read_writes_junk_apply_eq_canon]
  exact H8_canon c f0 y

theorem sel0 : ∀ r : Fin 24, r ≠ 0 → IntOp.andi (IntOp.cmpi CmpIPredicate.eq (IntOp.subi (BitVec.ofNat 32 r.val) 0#32) 0#32)
    (IntOp.cmpi CmpIPredicate.eq (BitVec.ofNat 32 (r.val / 6)) 0#32) = 0#1 := by decide +kernel

theorem pay313_apply (v : FVec Ideal S24x1 .f32) : k0_pay313 bodyRun.sl.v42 bodyRun.sl.r v bodyRun.sl.v1644 (ix2 0 0) = v (ix2 0 0) := by
  pointwise [k0_pay313, bodyRun.sl.v42, bodyRun.sl.v1644, tok]
  rw [Finset.sum_eq_single (0 : Fin 24)]
  · rfl
  · intro r _ hr
    rw [sel0 r hr]; rfl
  · simp

theorem sel1 : ∀ r : Fin 24, r ≠ 6 → IntOp.andi (IntOp.cmpi CmpIPredicate.eq (IntOp.subi (BitVec.ofNat 32 r.val) 6#32) 0#32)
    (IntOp.cmpi CmpIPredicate.eq (BitVec.ofNat 32 (r.val / 6)) 1#32) = 0#1 := by decide +kernel

theorem pay335_apply (v : FVec Ideal S24x1 .f32) : k0_pay335 bodyRun.sl.v42 bodyRun.sl.r v bodyRun.sl.v1644 (ix2 0 0) = v (ix2 6 0) := by
  pointwise [k0_pay335, bodyRun.sl.v42, bodyRun.sl.v1644, tok]
  rw [Finset.sum_eq_single (6 : Fin 24)]
  · rfl
  · intro r _ hr
    rw [sel1 r hr]; rfl
  · simp

theorem sel2 : ∀ r : Fin 24, r ≠ 12 → IntOp.andi (IntOp.cmpi CmpIPredicate.eq (IntOp.subi (BitVec.ofNat 32 r.val) 12#32) 0#32)
    (IntOp.cmpi CmpIPredicate.eq (BitVec.ofNat 32 (r.val / 6)) 2#32) = 0#1 := by decide +kernel

theorem pay358_apply (v : FVec Ideal S24x1 .f32) : k0_pay358 bodyRun.sl.v42 bodyRun.sl.r v bodyRun.sl.v1644 (ix2 0 0) = v (ix2 12 0) := by
  pointwise [k0_pay358, bodyRun.sl.v42, bodyRun.sl.v1644, tok]
  rw [Finset.sum_eq_single (12 : Fin 24)]
  · rfl
  · intro r _ hr
    rw [sel2 r hr]; rfl
  · simp

theorem H9_canon (y : S3x1.Idx) : View.canon (Val := Elt Ideal) (e := .f32) (bodyRun.sl.H9_3 c f0) y = GK9 (xK c f0) y := by
  refine View.canon_apply_of_pieces (Val := Elt Ideal) (e := .f32) (GK9 (xK c f0)) _ ?_ y (View.cover_of_tiledL (bodyRun.sl.H9_3 c f0) S1x1.size (by sl_kernel_rfl) y)
  intro p hp
  unfold bodyRun.sl.H9_3 bodyRun.sl.H9_2 bodyRun.sl.H9_1 at hp
  simp only [List.mem_cons, List.not_mem_nil, or_false] at hp
  rcases hp with rfl | rfl | rfl <;> intro x <;>
    obtain ⟨a, b, rfl⟩ := eta2 (s1 := 1) (s2 := 1) x <;>
    obtain rfl := Subsingleton.elim a (0 : Fin 1) <;> obtain rfl := Subsingleton.elim b (0 : Fin 1)
  · refine (pay358_apply _).trans ((r30_apply c f0 12).trans ?_)
    exact congrArg rowScale (hRow_head (xK c f0) 2 (by decide))
  · refine (pay335_apply _).trans ((r30_apply c f0 6).trans ?_)
    exact congrArg rowScale (hRow_head (xK c f0) 1 (by decide))
  · refine (pay313_apply _).trans ((r30_apply c f0 0).trans ?_)
    exact congrArg rowScale (hRow_head (xK c f0) 0 (by decide))

/-- Result 5 of the kernel. -/
theorem out9_val (fw : WresBuf (F := Ideal) c) (fv : WvocBuf (F := Ideal) c) (fs : Cont (F := Ideal) c cc0_stg1_0) (fb : Cont (F := Ideal) c cc0_stg2_0) (f3 : Cont (F := Ideal) c cc0_stg3_0) (f4 : Cont (F := Ideal) c cc0_stg4_0) (gi : Cont (F := Ideal) c cc0_scratch6) :
    out9 c fw fv f0 fs fb f3 f4 gi = GK9 (xK c f0) := by
  refine funext fun y => ?_
  unfold out9 leave9
  rw [View.read_writes_junk_apply_eq_canon]
  exact H9_canon c f0 y

end Cert.KernelIdeal.Hand

end

end
-- ==== Proof.ValL.lean ====
module

public import Idealize.ShloMosaic.Lib.WritesUnit
public import Idealize.ShloMosaic.Lib.WholeRead
public import Idealize.ShloMosaic.Lib.ValueLayout
public import proofs.«01_k».proof.Proof.ValXO

@[expose] public section

set_option maxRecDepth 20000

noncomputable section

/-! # What the loop over the heads' weight blocks makes of the hidden states, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (fw : WresBuf (F := Ideal) c) (fs : Cont (F := Ideal) c cc0_stg1_0) (fb : Cont (F := Ideal) c cc0_stg2_0)
variable (fx : Cont (F := Ideal) c cc0_scratch5) (fh : Cont (F := Ideal) c cc0_scratch4)

/-- The heads' weights, scales and biases, the hidden states and the codes, as arrays. -/
def wK : Vec Ideal S5x7168x7168 .fp8e4m3 := fun y => fw y
def sK : Vec Ideal S5x7168 .f32 := fun y => fs y
def bK : Vec Ideal S5x7168 .f32 := fun y => fb y
def hK : Vec Ideal S24x7168 .f32 := fun y => fh y
def cK : Vec Ideal S32x7168 .fp8e4m3 := fun y => fx y

/-- The head and the chunk of columns of trip `k`'s block. -/
abbrev khead (k : Fin k0_t1_loop.trips) : Fin 5 := ⟨k.val / 14, by have : k.val < 70 := k.isLt; omega⟩
abbrev kchunk (k : Fin k0_t1_loop.trips) : Fin 14 := ⟨k.val % 14, by omega⟩

theorem slot_read (k : ℕ) (g : Cont (F := Ideal) c cc0_scratch0) (d : Fin 7168) (j : Fin 512) :
    View.read (Elt Ideal) (rslot k).view g (ix2 d j)
      = View.readAt (Elt Ideal) (Memref.whole cc0_scratch0).view (Rect.unit (s := S6x7168x512) ![k % 6, 0, 0] S1x7168x512.size (rslot_inb k)).toLoadRect g (ix3 0 d j) := by
  refine (congrFun (Memref.read_squeeze_slice (Val := Elt Ideal) (Memref.whole cc0_scratch0) (Rect.unit ![k % 6, 0, 0] S1x7168x512.size (rslot_inb k)) (fun _ => rfl) squeezes_S1x7168x512_S7168x512 shapeCasts_S1x7168x512_S7168x512 g) (ix2 d j)).trans ?_
  show View.readAt _ _ _ _ (Shape.reshapeEquiv _ (ix2 d j)) = _
  exact congrArg _ (ValueIdx.reshapeEquiv_ix2_1ab _ d j)

theorem slot_ld (k : ℕ) (off : Fin 3 → ℕ) (ho : off = ![k % 6, 0, 0]) (p : ∀ a, off a + S1x7168x512.size a ≤ S6x7168x512.size a) (g : Cont (F := Ideal) c cc0_scratch0) (d : Fin 7168) (j : Fin 512) :
    View.readAt (Elt Ideal) (Memref.whole cc0_scratch0).view (Rect.unit (s := S6x7168x512) off S1x7168x512.size p).toLoadRect g (ix3 0 d j) = View.read (Elt Ideal) (rslot k).view g (ix2 d j) := by
  subst ho
  exact (slot_read c k g d j).symm

theorem src_read (k : Fin k0_t1_loop.trips) (d : Fin 7168) (j : Fin 512) :
    View.read (Elt Ideal) (rsrc k).view fw (ix2 d j) = wK c fw (ix3 (khead k) d (col (kchunk k) j)) := by
  refine (congrFun (Memref.read_squeeze_slice (Val := Elt Ideal) (Memref.whole main_arg1) (Rect.unit ![k.val / 14, 0, 512 * (k.val % 14)] S1x7168x512.size (rsrc_inb k)) (fun _ => rfl) squeezes_S1x7168x512_S7168x512 shapeCasts_S1x7168x512_S7168x512 fw) (ix2 d j)).trans ?_
  show View.readAt _ _ _ _ (Shape.reshapeEquiv _ (ix2 d j)) = _
  refine (congrArg _ (ValueIdx.reshapeEquiv_ix2_1ab _ d j)).trans ?_
  rw [View.readAt_apply]
  show fw _ = fw _
  congr 1
  funext a; apply Fin.ext
  fin_cases a
  · show k.val / 14 + 1 * 0 = k.val / 14; omega
  · show 0 + 1 * d.val = d.val; omega
  · show 512 * (k.val % 14) + 1 * j.val = 512 * (k.val % 14) + j.val; omega

/-- Trip `k` reads its block of the weights. -/
theorem rblk_apply (k : Fin k0_t1_loop.trips) (d : Fin 7168) (j : Fin 512) :
    rblk c fw k (ix3 0 d j) = wK c fw (ix3 (khead k) d (col (kchunk k) j)) := by
  unfold rblk
  refine (slot_ld c k.val _ (off4_eq k) _ _ d j).trans ?_
  refine (View.read_writes_cons_hit _ _ (Rect.whole S7168x512) _ [] (ix2 d j) (ix2 d j) (Rect.emb_whole_apply _ _)).trans ?_
  exact src_read c fw k d j

theorem sld_apply (k : Fin k0_t1_loop.trips) (j : Fin 512) :
    View.readAt (Elt Ideal) (Memref.whole cc0_stg1_0).view (Rect.unit (s := S5x7168) (k0_off5 k) S1x512.size (k0_off5_inb k)).toLoadRect fs (ix2 0 j)
      = sK c fs (ix2 (khead k) (col (kchunk k) j)) := by
  rw [View.readAt_unit_congr_cast _ (off5_eq k), View.readAt_apply]
  show fs _ = fs _
  congr 1
  funext a; apply Fin.ext
  fin_cases a
  · show k.val / 14 + 1 * 0 = k.val / 14; omega
  · show 512 * (k.val % 14) + 1 * j.val = 512 * (k.val % 14) + j.val; omega

theorem bld_apply (k : Fin k0_t1_loop.trips) (j : Fin 512) :
    View.readAt (Elt Ideal) (Memref.whole cc0_stg2_0).view (Rect.unit (s := S5x7168) (k0_off5 k) S1x512.size (k0_off5_inb k)).toLoadRect fb (ix2 0 j)
      = bK c fb (ix2 (khead k) (col (kchunk k) j)) := by
  rw [View.readAt_unit_congr_cast _ (off5_eq k), View.readAt_apply]
  show fb _ = fb _
  congr 1
  funext a; apply Fin.ext
  fin_cases a
  · show k.val / 14 + 1 * 0 = k.val / 14; omega
  · show 512 * (k.val % 14) + 1 * j.val = 512 * (k.val % 14) + j.val; omega

theorem hld_apply (k : Fin k0_t1_loop.trips) (r : Fin 24) (j : Fin 512) :
    View.readAt (Elt Ideal) (Memref.whole cc0_scratch4).view (Rect.unit (s := S24x7168) (k0_off6 k) S24x512.size (k0_off6_inb k)).toLoadRect fh (ix2 r j)
      = hK c fh (ix2 r (col (kchunk k) j)) := by
  rw [View.readAt_unit_congr_cast _ (off6_eq k), View.readAt_apply]
  show fh _ = fh _
  congr 1
  funext a; apply Fin.ext
  fin_cases a
  · show 0 + 1 * r.val = r.val; omega
  · show 512 * (k.val % 14) + 1 * j.val = 512 * (k.val % 14) + j.val; omega

theorem cld_apply (r : Fin 32) (d : Fin 7168) :
    View.readAt (Elt Ideal) (Memref.whole cc0_scratch5).view (Rect.unit (s := S32x7168) ![0, 0] S32x7168.size inb_S32x7168_S32x7168_0_0).toLoadRect fx (ix2 r d)
      = cK c fx (ix2 r d) := by
  rw [View.readAt_apply]
  show fx _ = fx _
  congr 1
  funext a; apply Fin.ext
  fin_cases a
  · show 0 + 1 * r.val = r.val; omega
  · show 0 + 1 * d.val = d.val; omega

/-- The row's head, as the kernel computes it. -/
theorem headw (r : Fin 24) : k0_pay130 bodyRun.sl.v42 (ix2 r 0) = BitVec.ofNat 32 (r.val % 6) := by
  pointwise [k0_pay130, bodyRun.sl.v42]
  revert r
  decide +kernel

/-- What row `r` has before the activation at column `j`, from head `k`. -/
def zK (W : Vec Ideal S5x7168x7168 .fp8e4m3) (S B : Vec Ideal S5x7168 .f32) (C : Vec Ideal S32x7168 .fp8e4m3) (sc : FVec Ideal S24x1 .f32) (k : Fin 5) (r : Fin 24) (j : Fin 7168) : EReal :=
  (∑ d : Fin 7168, C (ix2 ⟨r.val, by have := r.isLt; omega⟩ d) * W (ix3 k d j)) * sc (ix2 r 0) * S (ix2 k j) + B (ix2 k j)

theorem pay246_apply (w : BitVec 32) (sc : FVec Ideal S24x1 .f32) (C : Vec Ideal S32x7168 .fp8e4m3) (Wb : Vec Ideal S1x7168x512 .fp8e4m3) (Sb Bb : Vec Ideal S1x512 .f32) (H : Vec Ideal S24x512 .f32) (r : Fin 24) (j : Fin 512) :
    k0_pay246 (k0_pay130 bodyRun.sl.v42) sc w C Wb Sb Bb H (ix2 r j)
      = if IntOp.cmpi CmpIPredicate.eq (BitVec.ofNat 32 (r.val % 6)) (IntOp.addi w 1#32) = 1#1 then
          H (ix2 r j) + ((∑ d : Fin 7168, C (ix2 ⟨r.val, by have := r.isLt; omega⟩ d) * Wb (ix3 0 d j)) * sc (ix2 r 0) * Sb (ix2 0 j) + Bb (ix2 0 j))
            * Ideal.logistic ((∑ d : Fin 7168, C (ix2 ⟨r.val, by have := r.isLt; omega⟩ d) * Wb (ix3 0 d j)) * sc (ix2 r 0) * Sb (ix2 0 j) + Bb (ix2 0 j))
        else H (ix2 r j) := by
  pointwise [k0_pay246, headw]
  rfl

/-- The same, from what the operands read. -/
theorem pay246_reads (w : BitVec 32) (sc : FVec Ideal S24x1 .f32) (C : Vec Ideal S32x7168 .fp8e4m3) (Wb : Vec Ideal S1x7168x512 .fp8e4m3) (Sb Bb : Vec Ideal S1x512 .f32) (H : Vec Ideal S24x512 .f32) (r : Fin 24) (j : Fin 512)
    (h s b : EReal) (w' c' : Fin 7168 → EReal) (eh : H (ix2 r j) = h) (es : Sb (ix2 0 j) = s) (eb : Bb (ix2 0 j) = b)
    (ew : ∀ d, Wb (ix3 0 d j) = w' d) (ec : ∀ d, C (ix2 ⟨r.val, by have := r.isLt; omega⟩ d) = c' d) :
    k0_pay246 (k0_pay130 bodyRun.sl.v42) sc w C Wb Sb Bb H (ix2 r j)
      = if IntOp.cmpi CmpIPredicate.eq (BitVec.ofNat 32 (r.val % 6)) (IntOp.addi w 1#32) = 1#1 then
          h + ((∑ d : Fin 7168, c' d * w' d) * sc (ix2 r 0) * s + b) * Ideal.logistic ((∑ d : Fin 7168, c' d * w' d) * sc (ix2 r 0) * s + b)
        else h := by
  rw [pay246_apply, eh, es, eb, funext fun d => congrArg₂ (fun a b : EReal => a * b) (ec d) (ew d)]

theorem headsel (r : Fin 24) (k : Fin 70) : IntOp.cmpi CmpIPredicate.eq (BitVec.ofNat 32 (r.val % 6)) (IntOp.addi (BitVec.ofNat 32 (k.val / 14)) 1#32) = 1#1 ↔ r.val % 6 = k.val / 14 + 1 := by
  revert r k
  decide +kernel

variable (sc : FVec Ideal S24x1 .f32)

/-- One trip, at one place. -/
theorem hstep_apply (k : Fin k0_t1_loop.trips) (r : Fin 24) (j : Fin 7168) :
    hK c (hstep c fw fs fb fx (k0_pay130 bodyRun.sl.v42) sc k fh) (ix2 r j)
      = if r.val % 6 = k.val / 14 + 1 ∧ j.val / 512 = k.val % 14 then
          hK c fh (ix2 r j) + zK (wK c fw) (sK c fs) (bK c fb) (cK c fx) sc (khead k) r j * Ideal.logistic (zK (wK c fw) (sK c fs) (bK c fb) (cK c fx) sc (khead k) r j)
        else hK c fh (ix2 r j) := by
  unfold hstep
  have e : ∀ (g : Cont (F := Ideal) c cc0_scratch4) (y : S24x7168.Idx), hK c g y = View.read (Elt Ideal) (Memref.whole cc0_scratch4).view g y := fun _ _ => rfl
  by_cases hj : j.val / 512 = k.val % 14
  · obtain ⟨j', rfl⟩ : ∃ j' : Fin 512, j = col (kchunk k) j' := ⟨⟨j.val % 512, by omega⟩, by apply Fin.ext; show j.val = 512 * (k.val % 14) + j.val % 512; omega⟩
    refine (e _ _).trans ((View.read_writes_cons_unit_of_mem (Memref.whole cc0_scratch4).view fh (k0_off6_inb k) _ [] (ix2 r (col (kchunk k) j')) (ix2 r j') (off6_eq k) ?_).trans ?_)
    · intro a; fin_cases a
      · show r.val = 0 + r.val; omega
      · rfl
    · have eH := hld_apply c fh k r j'
      have eS := sld_apply c fs k j'
      have eB := bld_apply c fb k j'
      refine (pay246_reads _ sc _ _ _ _ _ r j' _ _ _ _ _ eH eS eB (fun d => rblk_apply c fw k d j') (fun d => cld_apply c fx _ d)).trans ?_
      refine if_congr ?_ rfl rfl
      exact (headsel r k).trans ⟨fun h => ⟨h, hj⟩, fun h => h.1⟩
  · rw [if_neg (fun h => hj h.2)]
    refine (e _ _).trans ((View.read_writes_cons_unit_of_not_mem (Memref.whole cc0_scratch4).view fh (k0_off6_inb k) _ [] (ix2 r j) (off6_eq k) (1 : Fin 2) ?_).trans ?_)
    · show j.val < 512 * (k.val % 14) ∨ 512 * (k.val % 14) + 512 ≤ j.val
      omega
    · rfl

/-- The hidden states when every head has done its part: a row past its token's first has the activation added. -/
def hEnd (W : Vec Ideal S5x7168x7168 .fp8e4m3) (S B : Vec Ideal S5x7168 .f32) (C : Vec Ideal S32x7168 .fp8e4m3) (sc : FVec Ideal S24x1 .f32) (H : Vec Ideal S24x7168 .f32) (r : Fin 24) (j : Fin 7168) : EReal :=
  if 1 ≤ r.val % 6 then
    H (ix2 r j) + zK W S B C sc ⟨r.val % 6 - 1, by omega⟩ r j * Ideal.logistic (zK W S B C sc ⟨r.val % 6 - 1, by omega⟩ r j)
  else H (ix2 r j)

/-- The hidden states after `n` trips, at one place: done if the place's block has come up. -/
theorem hAt_apply (n : ℕ) (hn : n ≤ 70) (r : Fin 24) (j : Fin 7168) :
    hK c (hAt c fw fs fb fx (k0_pay130 bodyRun.sl.v42) sc fh n) (ix2 r j)
      = if 14 * (r.val % 6 - 1) + j.val / 512 < n then hEnd (wK c fw) (sK c fs) (bK c fb) (cK c fx) sc (hK c fh) r j else hK c fh (ix2 r j) := by
  induction n with
  | zero => rfl
  | succ n ih =>
    have hn' : n < 70 := by omega
    have hj := j.isLt
    show hK c (if h : n < 70 then hstep c fw fs fb fx (k0_pay130 bodyRun.sl.v42) sc ⟨n, h⟩ (hAt c fw fs fb fx (k0_pay130 bodyRun.sl.v42) sc fh n) else _) (ix2 r j) = _
    rw [dif_pos hn']
    refine (hstep_apply c fw fs fb fx _ sc ⟨n, hn'⟩ r j).trans ?_
    rw [ih (by omega)]
    show (if r.val % 6 = n / 14 + 1 ∧ j.val / 512 = n % 14 then _ else _) = _
    by_cases h1 : r.val % 6 = n / 14 + 1 ∧ j.val / 512 = n % 14
    · rw [if_pos h1, if_neg (by omega), if_pos (by omega)]
      unfold hEnd
      rw [if_pos (by omega)]
      have : khead ⟨n, hn'⟩ = ⟨r.val % 6 - 1, by omega⟩ := Fin.ext (by show n / 14 = r.val % 6 - 1; omega)
      rw [this]
    · rw [if_neg h1]
      by_cases h2 : 1 ≤ r.val % 6
      · have : 14 * (r.val % 6 - 1) + j.val / 512 ≠ n := by intro h; apply h1; omega
        by_cases h3 : 14 * (r.val % 6 - 1) + j.val / 512 < n
        · rw [if_pos h3, if_pos (by omega)]
        · rw [if_neg h3, if_neg (by omega)]
      · have : hEnd (wK c fw) (sK c fs) (bK c fb) (cK c fx) sc (hK c fh) r j = hK c fh (ix2 r j) := if_neg h2
        rw [this, ite_self, ite_self]

/-- The hidden states after the loop. -/
theorem hAt_end (r : Fin 24) (j : Fin 7168) :
    hK c (hAt c fw fs fb fx (k0_pay130 bodyRun.sl.v42) sc fh 70) (ix2 r j) = hEnd (wK c fw) (sK c fs) (bK c fb) (cK c fx) sc (hK c fh) r j := by
  have := j.isLt
  rw [hAt_apply c fw fs fb fx fh sc 70 le_rfl r j, if_pos (by omega)]

end Cert.KernelIdeal.Hand

end

end
-- ==== Proof.ValHO.lean ====
module

public import Idealize.ShloMosaic.Lib.Pipeline.CanonAppend
public import proofs.«01_k».proof.Proof.ValH
public import proofs.«01_k».proof.Proof.ValL

@[expose] public section

set_option maxRecDepth 20000

noncomputable section

/-! # Results 6 and 7 of the kernel, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (fw : WresBuf (F := Ideal) c) (f0 : Cont (F := Ideal) c cc0_stg0_0) (fs : Cont (F := Ideal) c cc0_stg1_0) (fb : Cont (F := Ideal) c cc0_stg2_0)

theorem hK_junk : hK c ((Memref.whole cc0_scratch4).view.writes (Elt Ideal) (Memref.whole cc0_scratch4).view.junk (bodyRun.sl.Hh_14 c f0)) = Gh (xK c f0) := by
  funext y
  exact (View.read_writes_junk_apply_eq_canon (Val := Elt Ideal) (Memref.whole cc0_scratch4).view y (bodyRun.sl.Hh_14 c f0)).trans (Hh_canon c f0 y)

theorem cK_junk : cK c ((Memref.whole cc0_scratch5).view.writes (Elt Ideal) (Memref.whole cc0_scratch5).view.junk (bodyRun.sl.Hx_14 c f0)) = Gx (xK c f0) := by
  funext y
  exact (View.read_writes_junk_apply_eq_canon (Val := Elt Ideal) (Memref.whole cc0_scratch5).view y (bodyRun.sl.Hx_14 c f0)).trans (Hx_canon c f0 y)

/-- Row `r` of the hidden states after the loop. -/
def yRow (r : Fin 24) : Fin 7168 → EReal :=
  fun j => hEnd (wK c fw) (sK c fs) (bK c fb) (Gx (xK c f0)) (bodyRun.sl.r_30 c f0) (Gh (xK c f0)) r j

theorem hLoop_apply (r : Fin 24) (j : Fin 7168) : hK c (hLoop c fw f0 fs fb) (ix2 r j) = yRow c fw f0 fs fb r j := by
  unfold hLoop yRow
  rw [hAt_end, hK_junk, cK_junk]

/-- Row `k` of the hidden rows of row `b` of x. -/
def hidden (x : Vec Ideal S3x1x7168 .bf16) (W : Vec Ideal S5x7168x7168 .fp8e4m3) (S B : Vec Ideal S5x7168 .f32) (b : Fin 3) (k : Fin 5) : Fin 7168 → EReal :=
  headRow (xrow x b) (fun d j => W (ix3 k d j)) (fun j => S (ix2 k j)) (fun j => B (ix2 k j))

theorem hRow_any (x : Vec Ideal S3x1x7168 .bf16) (b : Fin 3) (r : Fin 24) (h : r.val / 6 = b.val) : hRow x r = xrow x b := by
  funext j
  unfold hRow xrow
  simp only [h]
  exact dif_pos b.isLt

theorem yRow_eq (b : Fin 3) (k : Fin 5) (r : Fin 24) (hr : r.val = 6 * b.val + 1 + k.val) :
    yRow c fw f0 fs fb r = hidden (xK c f0) (wK c fw) (sK c fs) (bK c fb) b k := by
  have hk := k.isLt
  have e := hRow_any (xK c f0) b r (by omega)
  have ez : ∀ j, zK (wK c fw) (sK c fs) (bK c fb) (Gx (xK c f0)) (bodyRun.sl.r_30 c f0) k r j
      = headZ (xrow (xK c f0) b) (fun d j => wK c fw (ix3 k d j)) (fun j => sK c fs (ix2 k j)) (fun j => bK c fb (ix2 k j)) j := by
    intro j
    have eC : ∀ d : Fin 7168, Gx (xK c f0) (ix2 ⟨r.val, by have := r.isLt; omega⟩ d) = rowCode (xrow (xK c f0) b) d := fun d => by
      refine (dif_pos r.isLt).trans ?_
      exact congrArg (fun f => rowCode f d) e
    unfold zK headZ
    rw [r30_apply, e, funext fun d => congrArg (fun a : EReal => a * wK c fw (ix3 k d j)) (eC d)]
  funext j
  unfold yRow hEnd
  rw [if_pos (by omega)]
  have e5 : (⟨r.val % 6 - 1, by omega⟩ : Fin 5) = k := Fin.ext (by show r.val % 6 - 1 = k.val; omega)
  rw [e5, ez]
  show hRow (xK c f0) r j + _ = _
  rw [e]
  rfl

theorem r43_apply (r : Fin 24) : bodyRun.sl.r_43 c fw f0 fs fb (ix2 r 0) = rowMax (yRow c fw f0 fs fb r) * Ideal.ofBits FTy.f32 991054117#32 := by
  rw [r43_eq]
  refine amaxScale_apply _ (yRow c fw f0 fs fb) (fun n r j => ?_) r
  unfold hld128
  rw [View.readAt_apply]
  show hK c (hLoop c fw f0 fs fb) _ = _
  rw [← hLoop_apply]
  exact congrArg _ (idx128 n r j)

/-- The inverse scale of a row of the hidden states. -/
theorem r46_apply (r : Fin 24) : bodyRun.sl.r_46 c fw f0 fs fb (ix2 r 0) = Ideal.exp2 (0 - rexp (rowMax (yRow c fw f0 fs fb r))) := by
  rw [r46_eq]
  refine (pay177_apply _ r).trans ?_
  rw [r43_apply]
  exact kpow_inv _

/-- The scale of a row of the hidden states. -/
theorem r51_apply (r : Fin 24) : bodyRun.sl.r_51 c fw f0 fs fb (ix2 r 0) = rowScale (yRow c fw f0 fs fb r) := by
  rw [r51_eq]
  refine (pay197_apply _ r).trans ?_
  rw [r43_apply]
  exact kpow_scale _

/-- Codes of the hidden states, as an array. -/
def Gy : Vec Ideal S32x7168 .fp8e4m3 := fun y => if h : (y 0).val < 24 then rowCode (yRow c fw f0 fs fb ⟨(y 0).val, h⟩) (y 1) else (0 : EReal)

theorem Hy_canon (y : S32x7168.Idx) : View.canon (Val := Elt Ideal) (e := .fp8e4m3) (bodyRun.sl.Hx_28 c fw f0 fs fb) y = Gy c fw f0 fs fb y := by
  rw [Hy_eq]
  refine View.canon_append_of_pieces (Val := Elt Ideal) (e := .fp8e4m3) (Gy c fw f0 fs fb) _ _ ?_ y (View.cover_of_tiledL (chunks.map (ypiece c fw f0 fs fb)) S32x512.size (by sl_kernel_rfl) y)
  intro p hp
  obtain ⟨k, -, rfl⟩ := List.mem_map.mp hp
  intro x
  obtain ⟨r, j, rfl⟩ := eta2 (s1 := 32) (s2 := 512) x
  refine (pay196_apply _ _ r j).trans ?_
  show _ = Gy c fw f0 fs fb ((Rect.unit (s := S32x7168) ![0, 512 * k.val] S32x512.size (inb512x k)).toLoadRect.idx (ix2 r j))
  rw [idx32]
  show _ = if h : r.val < 24 then rowCode (yRow c fw f0 fs fb ⟨r.val, h⟩) (col k j) else (0 : EReal)
  split
  · rename_i h
    have e : hK c (hLoop c fw f0 fs fb) ((Rect.unit (s := S24x7168) ![0, 512 * k.val] S24x512.size (inb512 k)).toLoadRect.idx (ix2 ⟨r.val, h⟩ j)) = yRow c fw f0 fs fb ⟨r.val, h⟩ (col k j) :=
      (congrArg _ (idx24 k ⟨r.val, h⟩ j)).trans (hLoop_apply c fw f0 fs fb _ _)
    rw [r46_apply, View.readAt_apply]
    exact congrArg (fun a : EReal => min (Ideal.ofBits .f32 1138753536#32) (max (Ideal.ofBits .f32 3286237184#32) (a * Ideal.exp2 (0 - rexp (rowMax (yRow c fw f0 fs fb ⟨r.val, h⟩)))))) e
  · rfl

theorem ycld_apply (k : Fin 14) (r : Fin 32) (j : Fin 512) (h : r.val < 24) : ycld c fw f0 fs fb k (ix2 r j) = rowCode (yRow c fw f0 fs fb ⟨r.val, h⟩) (col k j) := by
  unfold ycld
  rw [View.readCov_eq_canon']
  refine (Hy_canon c fw f0 fs fb _).trans ?_
  rw [idx32]
  exact dif_pos h

/-- Codes of the hidden rows, as an array. -/
def GK10 (x : Vec Ideal S3x1x7168 .bf16) (W : Vec Ideal S5x7168x7168 .fp8e4m3) (S B : Vec Ideal S5x7168 .f32) : Vec Ideal S3x1x5x7168 .fp8e4m3 := fun y => rowCode (hidden x W S B (y 0) (y 2)) (y 3)

/-- Scales of the hidden rows, as an array. -/
def GK11 (x : Vec Ideal S3x1x7168 .bf16) (W : Vec Ideal S5x7168x7168 .fp8e4m3) (S B : Vec Ideal S5x7168 .f32) : Vec Ideal S3x1x5 .f32 := fun y => rowScale (hidden x W S B (y 0) (y 2))

theorem pay331_apply (v : Vec Ideal S32x512 .fp8e4m3) (i : Fin 5) (j : Fin 512) : k0_pay331 v (ix4 0 0 i j) = v (ix2 ⟨1 + i.val, by omega⟩ j) := by
  pointwise [k0_pay331]
theorem pay354_apply (v : Vec Ideal S32x512 .fp8e4m3) (i : Fin 5) (j : Fin 512) : k0_pay354 v (ix4 0 0 i j) = v (ix2 ⟨7 + i.val, by omega⟩ j) := by
  pointwise [k0_pay354]
theorem pay369_apply (v : Vec Ideal S32x512 .fp8e4m3) (i : Fin 5) (j : Fin 512) : k0_pay369 v (ix4 0 0 i j) = v (ix2 ⟨13 + i.val, by omega⟩ j) := by
  pointwise [k0_pay369]

theorem idx512h (b : Fin 3) (k : Fin 14) (i : Fin 5) (j : Fin 512) :
    (Rect.unit (s := S3x1x5x7168) ![b.val, 0, 0, 512 * k.val] S1x1x5x512.size (inb512h b k)).toLoadRect.idx (ix4 0 0 i j) = ix4 b 0 i (col k j) := by
  funext a; apply Fin.ext
  fin_cases a
  · show b.val + 1 * 0 = b.val; omega
  · rfl
  · show 0 + 1 * i.val = i.val; omega
  · show 512 * k.val + 1 * j.val = 512 * k.val + j.val; omega

/-- One chunk of the codes of the hidden rows of row `b`. -/
theorem dcode (b : Fin 3) (k : Fin 14) (i : Fin 5) (j : Fin 512) (r : Fin 32) (hr : r.val = 6 * b.val + 1 + i.val) :
    ycld c fw f0 fs fb k (ix2 r j) = GK10 (xK c f0) (wK c fw) (sK c fs) (bK c fb) ((Rect.unit (s := S3x1x5x7168) ![b.val, 0, 0, 512 * k.val] S1x1x5x512.size (inb512h b k)).toLoadRect.idx (ix4 0 0 i j)) := by
  have hb := b.isLt
  have hi := i.isLt
  rw [idx512h]
  refine (ycld_apply c fw f0 fs fb k r j (by omega)).trans ?_
  exact congrArg (fun f => rowCode f (col k j)) (yRow_eq c fw f0 fs fb b i ⟨r.val, by omega⟩ hr)

/-- Result 6 of the kernel. -/
theorem out10_val (fv : WvocBuf (F := Ideal) c) (f3 : Cont (F := Ideal) c cc0_stg3_0) (f4 : Cont (F := Ideal) c cc0_stg4_0) (gi : Cont (F := Ideal) c cc0_scratch6) :
    out10 c fw fv f0 fs fb f3 f4 gi = GK10 (xK c f0) (wK c fw) (sK c fs) (bK c fb) := by
  refine funext fun y => ?_
  unfold out10 leave10
  rw [View.read_writes_junk_apply_eq_canon, L10_eq, H10_eq]
  refine View.canon_apply_of_pieces (Val := Elt Ideal) (e := .fp8e4m3) (GK10 (xK c f0) (wK c fw) (sK c fs) (bK c fb)) _ ?_ y
    (View.cover_of_tiledL (chunks.map (dpiece2 c fw f0 fs fb) ++ (chunks.map (dpiece1 c fw f0 fs fb) ++ chunks.map (dpiece0 c fw f0 fs fb))) S1x1x5x512.size (by sl_kernel_rfl) y)
  intro p hp
  simp only [List.mem_append] at hp
  rcases hp with hp | hp | hp <;> obtain ⟨k, -, rfl⟩ := List.mem_map.mp hp <;> intro x <;>
    obtain ⟨a, b, i, j, rfl⟩ := eta4 (s1 := 1) (s2 := 1) (s3 := 5) (s4 := 512) x <;>
    obtain rfl := Subsingleton.elim a (0 : Fin 1) <;> obtain rfl := Subsingleton.elim b (0 : Fin 1)
  · exact (pay369_apply _ i j).trans (dcode c fw f0 fs fb 2 k i j _ rfl)
  · exact (pay354_apply _ i j).trans (dcode c fw f0 fs fb 1 k i j _ rfl)
  · exact (pay331_apply _ i j).trans (dcode c fw f0 fs fb 0 k i j _ (by show 1 + i.val = 6 * 0 + 1 + i.val; omega))

theorem hsel0 : ∀ (i : Fin 5) (r : Fin 24), r.val ≠ 1 + i.val → IntOp.andi (IntOp.cmpi CmpIPredicate.eq (IntOp.subi (BitVec.ofNat 32 r.val) 1#32) (BitVec.ofNat 32 i.val))
    (IntOp.cmpi CmpIPredicate.eq (BitVec.ofNat 32 (r.val / 6)) 0#32) = 0#1 := by decide +kernel
theorem hsel1 : ∀ (i : Fin 5) (r : Fin 24), r.val ≠ 7 + i.val → IntOp.andi (IntOp.cmpi CmpIPredicate.eq (IntOp.subi (BitVec.ofNat 32 r.val) 7#32) (BitVec.ofNat 32 i.val))
    (IntOp.cmpi CmpIPredicate.eq (BitVec.ofNat 32 (r.val / 6)) 1#32) = 0#1 := by decide +kernel
theorem hsel2 : ∀ (i : Fin 5) (r : Fin 24), r.val ≠ 13 + i.val → IntOp.andi (IntOp.cmpi CmpIPredicate.eq (IntOp.subi (BitVec.ofNat 32 r.val) 13#32) (BitVec.ofNat 32 i.val))
    (IntOp.cmpi CmpIPredicate.eq (BitVec.ofNat 32 (r.val / 6)) 2#32) = 0#1 := by decide +kernel

theorem pay314_apply (v : FVec Ideal S24x1 .f32) (i : Fin 5) : k0_pay314 bodyRun.sl.v42 bodyRun.sl.r v bodyRun.sl.v1644 (ix3 0 0 i) = v (ix2 ⟨1 + i.val, by omega⟩ 0) := by
  pointwise [k0_pay314, bodyRun.sl.v42, bodyRun.sl.v1644, tok]
  rw [Finset.sum_eq_single (⟨1 + i.val, by omega⟩ : Fin 24)]
  · fin_cases i <;> rfl
  · intro r _ hr
    rw [hsel0 i r (fun h => hr (Fin.ext h))]; rfl
  · simp
theorem pay336_apply (v : FVec Ideal S24x1 .f32) (i : Fin 5) : k0_pay336 bodyRun.sl.v42 bodyRun.sl.r v bodyRun.sl.v1644 (ix3 0 0 i) = v (ix2 ⟨7 + i.val, by omega⟩ 0) := by
  pointwise [k0_pay336, bodyRun.sl.v42, bodyRun.sl.v1644, tok]
  rw [Finset.sum_eq_single (⟨7 + i.val, by omega⟩ : Fin 24)]
  · fin_cases i <;> rfl
  · intro r _ hr
    rw [hsel1 i r (fun h => hr (Fin.ext h))]; rfl
  · simp
theorem pay360_apply (v : FVec Ideal S24x1 .f32) (i : Fin 5) : k0_pay360 (k0_pay359 bodyRun.sl.v42 bodyRun.sl.r v bodyRun.sl.v1644) (ix3 0 0 i) = v (ix2 ⟨13 + i.val, by omega⟩ 0) := by
  pointwise [k0_pay360, k0_pay359, bodyRun.sl.v42, bodyRun.sl.v1644, tok]
  rw [Finset.sum_eq_single (⟨13 + i.val, by omega⟩ : Fin 24)]
  · fin_cases i <;> rfl
  · intro r _ hr
    rw [hsel2 i r (fun h => hr (Fin.ext h))]; rfl
  · simp

theorem inb5 (b : Fin 3) : ∀ a, (![b.val, 0, 0] : Fin 3 → ℕ) a + S1x1x5.size a ≤ S3x1x5.size a := by
  intro a; have := b.isLt; fin_cases a <;> simp [S1x1x5, S3x1x5] <;> omega

theorem idx5 (b : Fin 3) (i : Fin 5) : (Rect.unit (s := S3x1x5) ![b.val, 0, 0] S1x1x5.size (inb5 b)).toLoadRect.idx (ix3 0 0 i) = ix3 b 0 i := by
  funext a; apply Fin.ext
  fin_cases a
  · show b.val + 1 * 0 = b.val; omega
  · rfl
  · show 0 + 1 * i.val = i.val; omega

/-- The scales of the hidden rows of row `b`. -/
theorem dscale (b : Fin 3) (i : Fin 5) (r : Fin 24) (hr : r.val = 6 * b.val + 1 + i.val) :
    bodyRun.sl.r_51 c fw f0 fs fb (ix2 r 0) = GK11 (xK c f0) (wK c fw) (sK c fs) (bK c fb) ((Rect.unit (s := S3x1x5) ![b.val, 0, 0] S1x1x5.size (inb5 b)).toLoadRect.idx (ix3 0 0 i)) := by
  rw [idx5]
  refine (r51_apply c fw f0 fs fb r).trans ?_
  exact congrArg rowScale (yRow_eq c fw f0 fs fb b i r hr)

/-- Result 7 of the kernel. -/
theorem out11_val (fv : WvocBuf (F := Ideal) c) (f3 : Cont (F := Ideal) c cc0_stg3_0) (f4 : Cont (F := Ideal) c cc0_stg4_0) (gi : Cont (F := Ideal) c cc0_scratch6) :
    out11 c fw fv f0 fs fb f3 f4 gi = GK11 (xK c f0) (wK c fw) (sK c fs) (bK c fb) := by
  refine funext fun y => ?_
  unfold out11 leave11
  rw [View.read_writes_junk_apply_eq_canon, L11_eq]
  refine View.canon_apply_of_pieces (Val := Elt Ideal) (e := .f32) (GK11 (xK c f0) (wK c fw) (sK c fs) (bK c fb)) _ ?_ y
    (View.cover_of_tiledL (bodyRun.sl.H11_3 c fw f0 fs fb) S1x1x5.size (by sl_kernel_rfl) y)
  intro p hp
  unfold bodyRun.sl.H11_3 bodyRun.sl.H11_2 bodyRun.sl.H11_1 at hp
  simp only [List.mem_cons, List.not_mem_nil, or_false] at hp
  rcases hp with rfl | rfl | rfl <;> intro x <;>
    obtain ⟨a, b, i, rfl⟩ := eta3 (s1 := 1) (s2 := 1) (s3 := 5) x <;>
    obtain rfl := Subsingleton.elim a (0 : Fin 1) <;> obtain rfl := Subsingleton.elim b (0 : Fin 1)
  · exact (pay360_apply _ i).trans (dscale c fw f0 fs fb 2 i _ rfl)
  · exact (pay336_apply _ i).trans (dscale c fw f0 fs fb 1 i _ rfl)
  · exact (pay314_apply _ i).trans (dscale c fw f0 fs fb 0 i _ (by show 1 + i.val = 6 * 0 + 1 + i.val; omega))

end Cert.KernelIdeal.Hand

end

end
-- ==== Proof.MemK.lean ====
module

public import proofs.«01_k».proof.Proof.Run

@[expose] public section

set_option maxRecDepth 20000

noncomputable section

/-! # What the run leaves in the kernel's results

Each result's array holds what the body leaves in its window, as a function of the argument arrays. -/

namespace Cert.KernelIdeal.Hand

open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem X0_eq (c : Dev nD) (t : Fin cfg0.N) : X0 m c t = m ((c.tc : Thread nD τ).loc main_arg0) := by
  rw [← V_main_arg0 m c]
  refine funext fun y : S3x1x7168.Idx => ?_
  show V m c main_arg0 _ = V m c main_arg0 y
  congr 1
  funext a; apply Fin.ext
  fin_cases a <;> · show 0 * _ + 1 * _ = _; omega

theorem X1_eq (c : Dev nD) (t : Fin cfg0.N) : X1 m c t = m ((c.tc : Thread nD τ).loc main_arg2) := by
  rw [← V_main_arg2 m c]
  refine funext fun y : S5x7168.Idx => ?_
  show V m c main_arg2 _ = V m c main_arg2 y
  congr 1
  funext a; apply Fin.ext
  fin_cases a <;> · show 0 * _ + 1 * _ = _; omega

theorem X2_eq (c : Dev nD) (t : Fin cfg0.N) : X2 m c t = m ((c.tc : Thread nD τ).loc main_arg3) := by
  rw [← V_main_arg3 m c]
  refine funext fun y : S5x7168.Idx => ?_
  show V m c main_arg3 _ = V m c main_arg3 y
  congr 1
  funext a; apply Fin.ext
  fin_cases a <;> · show 0 * _ + 1 * _ = _; omega

theorem X4_eq (c : Dev nD) (t : Fin cfg0.N) : X4 m c t = m ((c.tc : Thread nD τ).loc main_arg6) := by
  rw [← V_main_arg6 m c]
  refine funext fun y : S3x1x6x8.Idx => ?_
  show V m c main_arg6 _ = V m c main_arg6 y
  congr 1
  funext a; apply Fin.ext
  fin_cases a <;> · show 0 * _ + 1 * _ = _; omega

theorem V_main_v0 (c : Dev nD) : V m c main_v0 = fun i : S250x128.Idx => (m ((c.tc : Thread nD τ).loc main_arg5) : Vec F S32000 .f32) (Shape.reshapeEquiv shapeCasts_S32000_S250x128 i) := by
  unfold V
  unfold hostOps0
  rfl

theorem X3_eq (c : Dev nD) (t : Fin cfg0.N) : X3 m c t = V m c main_v0 := by
  refine funext fun y : S250x128.Idx => ?_
  show V m c main_v0 _ = V m c main_v0 y
  congr 1
  funext a; apply Fin.ext
  fin_cases a <;> · show 0 * _ + 1 * _ = _; omega

theorem whole5 : (cfg0.win 5).WholeAt ⟨0, by decide⟩ := by decide

/-- What the run leaves in result 1. -/
theorem mem5 {r : _} (h : Pipeline.RDat.FramePost (cfgs 0) (fun c => rdats m c) (V m) r) (c : Dev nD) :
    ∃ t gi, r.2.mem ((c.tc : Thread nD τ).loc main_v1_0) = out5 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 5) whole5
  exact ⟨_, gi, (funext fun j => hj j).trans hX⟩

theorem whole6 : (cfg0.win 6).WholeAt ⟨0, by decide⟩ := by decide

/-- What the run leaves in result 2. -/
theorem mem6 {r : _} (h : Pipeline.RDat.FramePost (cfgs 0) (fun c => rdats m c) (V m) r) (c : Dev nD) :
    ∃ t gi, r.2.mem ((c.tc : Thread nD τ).loc main_v1_1) = out6 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 6) whole6
  exact ⟨_, gi, (funext fun j => hj j).trans hX⟩

theorem whole7 : (cfg0.win 7).WholeAt ⟨0, by decide⟩ := by decide

/-- What the run leaves in result 3. -/
theorem mem7 {r : _} (h : Pipeline.RDat.FramePost (cfgs 0) (fun c => rdats m c) (V m) r) (c : Dev nD) :
    ∃ t gi, r.2.mem ((c.tc : Thread nD τ).loc main_v1_2) = out7 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 7) whole7
  exact ⟨_, gi, (funext fun j => hj j).trans hX⟩

theorem whole8 : (cfg0.win 8).WholeAt ⟨0, by decide⟩ := by decide

/-- What the run leaves in result 4. -/
theorem mem8 {r : _} (h : Pipeline.RDat.FramePost (cfgs 0) (fun c => rdats m c) (V m) r) (c : Dev nD) :
    ∃ t gi, r.2.mem ((c.tc : Thread nD τ).loc main_v1_3) = out8 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 8) whole8
  exact ⟨_, gi, (funext fun j => hj j).trans hX⟩

theorem whole9 : (cfg0.win 9).WholeAt ⟨0, by decide⟩ := by decide

/-- What the run leaves in result 5. -/
theorem mem9 {r : _} (h : Pipeline.RDat.FramePost (cfgs 0) (fun c => rdats m c) (V m) r) (c : Dev nD) :
    ∃ t gi, r.2.mem ((c.tc : Thread nD τ).loc main_v1_4) = out9 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 9) whole9
  exact ⟨_, gi, (funext fun j => hj j).trans hX⟩

theorem whole10 : (cfg0.win 10).WholeAt ⟨0, by decide⟩ := by decide

/-- What the run leaves in result 6. -/
theorem mem10 {r : _} (h : Pipeline.RDat.FramePost (cfgs 0) (fun c => rdats m c) (V m) r) (c : Dev nD) :
    ∃ t gi, r.2.mem ((c.tc : Thread nD τ).loc main_v1_5) = out10 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 10) whole10
  exact ⟨_, gi, (funext fun j => hj j).trans hX⟩

theorem whole11 : (cfg0.win 11).WholeAt ⟨0, by decide⟩ := by decide

/-- What the run leaves in result 7. -/
theorem mem11 {r : _} (h : Pipeline.RDat.FramePost (cfgs 0) (fun c => rdats m c) (V m) r) (c : Dev nD) :
    ∃ t gi, r.2.mem ((c.tc : Thread nD τ).loc main_v1_6) = out11 c (V m c main_arg1) (V m c main_arg4) (X0 m c t) (X1 m c t) (X2 m c t) (X3 m c t) (X4 m c t) gi := by
  obtain ⟨X, ⟨Y, -, gi, hX⟩, hj⟩ := Pipeline.RDat.ArrAt.emb_eq_of_wholeAt ((h c).1 11) whole11
  exact ⟨_, gi, (funext fun j => hj j).trans hX⟩

end Cert.KernelIdeal.Hand

end

end
-- ==== Proof.MemR.lean ====
module

public import proofs.«01_k».proof.Proof.Gen.ReferenceIdeal.Value
public import Idealize.ShloMosaic.Lib.Pipeline.ValueKit.Geometry

@[expose] public section

set_option maxRecDepth 20000

noncomputable section

/-! # What the run leaves in the reference's results -/

namespace Cert.ReferenceIdeal.Hand

open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

theorem iblk0_eq (c : Dev nD) (t : Fin cfg0.N) : (iblk m c 0 t : Vec F S3x1x7168 _) = m ((c.tc : Thread nD τ).loc main_arg0) := by
  rw [← V_main_arg0 m c]
  refine funext fun y : S3x1x7168.Idx => ?_
  show V m c main_arg0 _ = V m c main_arg0 y
  congr 1
  funext a; apply Fin.ext
  fin_cases a <;> · show 0 * _ + 1 * _ = _; omega

theorem iblk1_eq (c : Dev nD) (t : Fin cfg0.N) : (iblk m c 1 t : Vec F S5x7168x7168 _) = m ((c.tc : Thread nD τ).loc main_arg1) := by
  rw [← V_main_arg1 m c]
  refine funext fun y : S5x7168x7168.Idx => ?_
  show V m c main_arg1 _ = V m c main_arg1 y
  congr 1
  funext a; apply Fin.ext
  fin_cases a <;> · show 0 * _ + 1 * _ = _; omega

theorem iblk2_eq (c : Dev nD) (t : Fin cfg0.N) : (iblk m c 2 t : Vec F S5x7168 _) = m ((c.tc : Thread nD τ).loc main_arg2) := by
  rw [← V_main_arg2 m c]
  refine funext fun y : S5x7168.Idx => ?_
  show V m c main_arg2 _ = V m c main_arg2 y
  congr 1
  funext a; apply Fin.ext
  fin_cases a <;> · show 0 * _ + 1 * _ = _; omega

theorem iblk3_eq (c : Dev nD) (t : Fin cfg0.N) : (iblk m c 3 t : Vec F S5x7168 _) = m ((c.tc : Thread nD τ).loc main_arg3) := by
  rw [← V_main_arg3 m c]
  refine funext fun y : S5x7168.Idx => ?_
  show V m c main_arg3 _ = V m c main_arg3 y
  congr 1
  funext a; apply Fin.ext
  fin_cases a <;> · show 0 * _ + 1 * _ = _; omega

theorem iblk4_eq (c : Dev nD) (t : Fin cfg0.N) : (iblk m c 4 t : Vec F S32000x7168 _) = m ((c.tc : Thread nD τ).loc main_arg4) := by
  rw [← V_main_arg4 m c]
  refine funext fun y : S32000x7168.Idx => ?_
  show V m c main_arg4 _ = V m c main_arg4 y
  congr 1
  funext a; apply Fin.ext
  fin_cases a <;> · show 0 * _ + 1 * _ = _; omega

theorem iblk6_eq (c : Dev nD) (t : Fin cfg0.N) : (iblk m c 6 t : Vec F S3x1x6x8 _) = m ((c.tc : Thread nD τ).loc main_arg6) := by
  rw [← V_main_arg6 m c]
  refine funext fun y : S3x1x6x8.Idx => ?_
  show V m c main_arg6 _ = V m c main_arg6 y
  congr 1
  funext a; apply Fin.ext
  fin_cases a <;> · show 0 * _ + 1 * _ = _; omega

theorem V_main_v0 (c : Dev nD) : V m c main_v0 = fun i : S1x32000.Idx => (m ((c.tc : Thread nD τ).loc main_arg5) : Vec F S32000 .f32) (Shape.reshapeEquiv shapeCasts_S32000_S1x32000 i) := by
  unfold V
  unfold hostOps0
  rfl

theorem iblk5_eq (c : Dev nD) (t : Fin cfg0.N) : (iblk m c 5 t : Vec F S1x32000 _) = V m c main_v0 := by
  refine funext fun y : S1x32000.Idx => ?_
  show V m c main_v0 _ = V m c main_v0 y
  congr 1
  funext a; apply Fin.ext
  fin_cases a <;> · show 0 * _ + 1 * _ = _; omega

theorem whole7 : (cfg0.win 7).WholeAt ⟨0, by decide⟩ := by decide

/-- What the run leaves in result 1. -/
theorem mem7 (c : Dev nD) : ∃ t : Fin cfg0.N, (dats m 0 c).arrAt 7 cfg0.N = out0_7 (iblk m c 0 t) (iblk m c 1 t) (iblk m c 2 t) (iblk m c 3 t) (iblk m c 4 t) (iblk m c 5 t) (iblk m c 6 t) :=
  ⟨_, (funext fun j => Pipeline.Dat.arrAt_emb_eq_after_last _ 7 _ whole7 j).trans (after0_7 m c _)⟩

theorem whole8 : (cfg0.win 8).WholeAt ⟨0, by decide⟩ := by decide

/-- What the run leaves in result 2. -/
theorem mem8 (c : Dev nD) : ∃ t : Fin cfg0.N, (dats m 0 c).arrAt 8 cfg0.N = out0_8 (iblk m c 0 t) (iblk m c 1 t) (iblk m c 2 t) (iblk m c 3 t) (iblk m c 4 t) (iblk m c 5 t) (iblk m c 6 t) :=
  ⟨_, (funext fun j => Pipeline.Dat.arrAt_emb_eq_after_last _ 8 _ whole8 j).trans (after0_8 m c _)⟩

theorem whole9 : (cfg0.win 9).WholeAt ⟨0, by decide⟩ := by decide

/-- What the run leaves in result 3. -/
theorem mem9 (c : Dev nD) : ∃ t : Fin cfg0.N, (dats m 0 c).arrAt 9 cfg0.N = out0_9 (iblk m c 0 t) (iblk m c 1 t) (iblk m c 2 t) (iblk m c 3 t) (iblk m c 4 t) (iblk m c 5 t) (iblk m c 6 t) :=
  ⟨_, (funext fun j => Pipeline.Dat.arrAt_emb_eq_after_last _ 9 _ whole9 j).trans (after0_9 m c _)⟩

theorem whole10 : (cfg0.win 10).WholeAt ⟨0, by decide⟩ := by decide

/-- What the run leaves in result 4. -/
theorem mem10 (c : Dev nD) : ∃ t : Fin cfg0.N, (dats m 0 c).arrAt 10 cfg0.N = out0_10 (iblk m c 0 t) (iblk m c 1 t) (iblk m c 2 t) (iblk m c 3 t) (iblk m c 4 t) (iblk m c 5 t) (iblk m c 6 t) :=
  ⟨_, (funext fun j => Pipeline.Dat.arrAt_emb_eq_after_last _ 10 _ whole10 j).trans (after0_10 m c _)⟩

theorem whole11 : (cfg0.win 11).WholeAt ⟨0, by decide⟩ := by decide

/-- What the run leaves in result 5. -/
theorem mem11 (c : Dev nD) : ∃ t : Fin cfg0.N, (dats m 0 c).arrAt 11 cfg0.N = out0_11 (iblk m c 0 t) (iblk m c 1 t) (iblk m c 2 t) (iblk m c 3 t) (iblk m c 4 t) (iblk m c 5 t) (iblk m c 6 t) :=
  ⟨_, (funext fun j => Pipeline.Dat.arrAt_emb_eq_after_last _ 11 _ whole11 j).trans (after0_11 m c _)⟩

theorem whole12 : (cfg0.win 12).WholeAt ⟨0, by decide⟩ := by decide

/-- What the run leaves in result 6. -/
theorem mem12 (c : Dev nD) : ∃ t : Fin cfg0.N, (dats m 0 c).arrAt 12 cfg0.N = out0_12 (iblk m c 0 t) (iblk m c 1 t) (iblk m c 2 t) (iblk m c 3 t) (iblk m c 4 t) (iblk m c 5 t) (iblk m c 6 t) :=
  ⟨_, (funext fun j => Pipeline.Dat.arrAt_emb_eq_after_last _ 12 _ whole12 j).trans (after0_12 m c _)⟩

theorem whole13 : (cfg0.win 13).WholeAt ⟨0, by decide⟩ := by decide

/-- What the run leaves in result 7. -/
theorem mem13 (c : Dev nD) : ∃ t : Fin cfg0.N, (dats m 0 c).arrAt 13 cfg0.N = out0_13 (iblk m c 0 t) (iblk m c 1 t) (iblk m c 2 t) (iblk m c 3 t) (iblk m c 4 t) (iblk m c 5 t) (iblk m c 6 t) :=
  ⟨_, (funext fun j => Pipeline.Dat.arrAt_emb_eq_after_last _ 13 _ whole13 j).trans (after0_13 m c _)⟩

end Cert.ReferenceIdeal.Hand

end

end
-- ==== Proof.RefX.lean ====
module

public import Idealize.ShloMosaic.Lib.Pointwise
public import proofs.«01_k».proof.Proof.Spec
public import proofs.«01_k».proof.Proof.Gen.ReferenceIdeal.Frame
public import Idealize.ShloMosaic.Lib.Pipeline.Value

@[expose] public section

set_option maxRecDepth 10000

noncomputable section

/-! # The reference's codes and scales of the rows of x -/

namespace Cert.ReferenceIdeal.Hand

open Cert.ReferenceIdeal Cert.ReferenceIdeal.Gen Idealize.ShloMosaic Idealize.ShloMosaic.Pointwise Cert.Hand

variable (x0 : Vec Ideal S3x1x7168 .bf16) (x1 : Vec Ideal S5x7168x7168 .fp8e4m3) (x2 : Vec Ideal S5x7168 .f32) (x3 : Vec Ideal S5x7168 .f32) (x4 : Vec Ideal S32000x7168 .fp8e4m3) (x5 : Vec Ideal S1x32000 .f32) (x6 : Vec Ideal S3x1x6x8 .i32)

/-- Row `b` of x. -/
def xrow (x0 : Vec Ideal S3x1x7168 .bf16) (b : Fin 3) : Fin 7168 → EReal := fun j => x0 (ix3 b 0 j)

theorem code0 (j : Fin 7168) : k0_pay96 x0 x1 x2 x3 x4 x5 x6 (ix2 0 j) = rowCode (xrow x0 0) j := by
  unfold k0_pay96
  pointwise [k0_pay4, k0_pay3, k0_pay2]
  rfl

theorem scale0 : k0_pay97 x0 x1 x2 x3 x4 x5 x6 (ix2 0 0) = rowScale (xrow x0 0) := by
  unfold k0_pay97
  pointwise [k0_pay5, k0_pay4, k0_pay3, k0_pay2]
  rfl

theorem code1 (j : Fin 7168) : k0_pay108 x0 x1 x2 x3 x4 x5 x6 (ix2 0 j) = rowCode (xrow x0 1) j := by
  unfold k0_pay108 k0_pay107 k0_pay106 k0_pay105
  pointwise [k0_pay35, k0_pay34, k0_pay33, k0_pay32, k0_pay31]
  rfl

theorem scale1 : k0_pay109 x0 x1 x2 x3 x4 x5 x6 (ix2 0 0) = rowScale (xrow x0 1) := by
  unfold k0_pay109 k0_pay107 k0_pay106
  pointwise [k0_pay36, k0_pay35, k0_pay34, k0_pay33, k0_pay32, k0_pay31]
  rfl

theorem code2 (j : Fin 7168) : k0_pay122 x0 x1 x2 x3 x4 x5 x6 (ix2 0 j) = rowCode (xrow x0 2) j := by
  unfold k0_pay122 k0_pay121 k0_pay120 k0_pay119
  pointwise [k0_pay70, k0_pay69, k0_pay68, k0_pay67, k0_pay66, k0_pay65]
  rfl

theorem scale2 : k0_pay123 x0 x1 x2 x3 x4 x5 x6 (ix2 0 0) = rowScale (xrow x0 2) := by
  unfold k0_pay123 k0_pay121 k0_pay120
  pointwise [k0_pay71, k0_pay69, k0_pay68, k0_pay67, k0_pay66, k0_pay65]
  rfl

theorem eta4 {s1 s2 s3 s4 : ℕ} (x : (⟨4, ![s1, s2, s3, s4]⟩ : Shape).Idx) : ∃ a b c d, x = ix4 a b c d :=
  ⟨x 0, x 1, x 2, x 3, by funext a; fin_cases a <;> rfl⟩
theorem eta3 {s1 s2 s3 : ℕ} (x : (⟨3, ![s1, s2, s3]⟩ : Shape).Idx) : ∃ a b c, x = ix3 a b c :=
  ⟨x 0, x 1, x 2, by funext a; fin_cases a <;> rfl⟩
theorem eta2 {s1 s2 : ℕ} (x : (⟨2, ![s1, s2]⟩ : Shape).Idx) : ∃ a b, x = ix2 a b :=
  ⟨x 0, x 1, by funext a; fin_cases a <;> rfl⟩

/-- Codes of x, as an array. -/
def G10 : Vec Ideal S3x1x7168 .fp8e4m3 := fun y => rowCode (xrow x0 (y 0)) (y 2)

/-- Scales of x, as an array. -/
def G11 : Vec Ideal S3x1 .f32 := fun y => rowScale (xrow x0 (y 0))

/-- Result 4: the codes of the rows of x. -/
theorem out10 : out0_10 x0 x1 x2 x3 x4 x5 x6 = G10 x0 := by
  funext y
  unfold out0_10
  refine View.canon_apply_of_pieces (G10 x0) _ ?_ y (cover0_10 _ _ _ _)
  intro p hp
  simp only [List.mem_cons, List.not_mem_nil, or_false] at hp
  rcases hp with rfl | rfl | rfl <;> intro x <;> obtain ⟨a, b, c, rfl⟩ := eta3 x <;>
    obtain rfl := Subsingleton.elim a (0 : Fin 1) <;> obtain rfl := Subsingleton.elim b (0 : Fin 1)
  · show _ = View.ld (G10 x0) r0_34 (ix3 0 0 c)
    pointwise [k0_pay80, code2]
    rfl
  · show _ = View.ld (G10 x0) r0_21 (ix3 0 0 c)
    pointwise [k0_pay49, code1]
    rfl
  · show _ = View.ld (G10 x0) r0_0 (ix3 0 0 c)
    pointwise [k0_pay16, code0]
    rfl

/-- Result 5: the scales of the rows of x. -/
theorem out11 : out0_11 x0 x1 x2 x3 x4 x5 x6 = G11 x0 := by
  funext y
  unfold out0_11
  refine View.canon_apply_of_pieces (G11 x0) _ ?_ y (cover0_11 _ _ _ _)
  intro p hp
  simp only [List.mem_cons, List.not_mem_nil, or_false] at hp
  rcases hp with rfl | rfl | rfl <;> intro x <;> obtain ⟨a, b, rfl⟩ := eta2 x <;>
    obtain rfl := Subsingleton.elim a (0 : Fin 1) <;> obtain rfl := Subsingleton.elim b (0 : Fin 1)
  · show _ = View.ld (G11 x0) r0_36 (ix2 0 0)
    pointwise [scale2]
    rfl
  · show _ = View.ld (G11 x0) r0_23 (ix2 0 0)
    pointwise [scale1]
    rfl
  · show _ = View.ld (G11 x0) r0_10 (ix2 0 0)
    pointwise [scale0]
    rfl

end Cert.ReferenceIdeal.Hand

end

end
-- ==== Proof.RefH.lean ====
module

public import proofs.«01_k».proof.Proof.RefX

@[expose] public section

set_option maxRecDepth 10000

noncomputable section

/-! # The reference's hidden rows, their codes and their scales -/

namespace Cert.ReferenceIdeal.Hand

open Cert.ReferenceIdeal Cert.ReferenceIdeal.Gen Idealize.ShloMosaic Idealize.ShloMosaic.Pointwise Cert.Hand

variable (x0 : Vec Ideal S3x1x7168 .bf16) (x1 : Vec Ideal S5x7168x7168 .fp8e4m3) (x2 : Vec Ideal S5x7168 .f32) (x3 : Vec Ideal S5x7168 .f32) (x4 : Vec Ideal S32000x7168 .fp8e4m3) (x5 : Vec Ideal S1x32000 .f32) (x6 : Vec Ideal S3x1x6x8 .i32)

/-- Head `k`'s hidden row of row `b` of x. -/
def hrow (b : Fin 3) (k : Fin 5) : Fin 7168 → EReal :=
  headRow (xrow x0 b) (fun d j => x1 (ix3 k d j)) (fun j => x2 (ix2 k j)) (fun j => x3 (ix2 k j))

theorem codeg0 (i : Fin 1) (j : Fin 7168) : k0_pay96 x0 x1 x2 x3 x4 x5 x6 (ix2 i j) = rowCode (xrow x0 0) j := by
  obtain rfl := Subsingleton.elim i 0; exact code0 x0 x1 x2 x3 x4 x5 x6 j
theorem codeg0' (i : Fin 1) (j : Fin 7168) : k0_pay4 (View.ld x0 r0_0) (ix2 i j) = rowCode (xrow x0 0) j :=
  codeg0 x0 (fun _ => (0 : EReal)) (fun _ => (0 : EReal)) (fun _ => (0 : EReal)) (fun _ => (0 : EReal)) (fun _ => (0 : EReal)) (fun _ => (0 : BitVec 32)) i j
theorem codeg1 (i : Fin 1) (j : Fin 7168) : k0_pay108 x0 x1 x2 x3 x4 x5 x6 (ix2 i j) = rowCode (xrow x0 1) j := by
  obtain rfl := Subsingleton.elim i 0; exact code1 x0 x1 x2 x3 x4 x5 x6 j
theorem codeg1' (i : Fin 1) (j : Fin 7168) : k0_pay35 (k0_pay105 x0 x1 x2 x3 x4 x5 x6) (k0_pay106 x0 x1 x2 x3 x4 x5 x6) (k0_pay107 x0 x1 x2 x3 x4 x5 x6) (ix2 i j) = rowCode (xrow x0 1) j := codeg1 x0 x1 x2 x3 x4 x5 x6 i j
theorem codeg2 (i : Fin 1) (j : Fin 7168) : k0_pay122 x0 x1 x2 x3 x4 x5 x6 (ix2 i j) = rowCode (xrow x0 2) j := by
  obtain rfl := Subsingleton.elim i 0; exact code2 x0 x1 x2 x3 x4 x5 x6 j
theorem zero_bits : (Scalar.ofBits .f32 0x00000000#32 : Ideal .f32) = (0 : EReal) := by
  show Ideal.ofBits .f32 0#32 = 0
  simp [Ideal.ofBits, Ideal.ieee]
theorem codeg2' (i : Fin 1) (j : Fin 7168) : k0_pay70 (k0_pay119 x0 x1 x2 x3 x4 x5 x6) (k0_pay120 x0 x1 x2 x3 x4 x5 x6) (k0_pay121 x0 x1 x2 x3 x4 x5 x6) (0 : EReal) (ix2 i j) = rowCode (xrow x0 2) j := by
  rw [← zero_bits]; exact codeg2 x0 x1 x2 x3 x4 x5 x6 i j
theorem scale2' : k0_pay71 (k0_pay120 x0 x1 x2 x3 x4 x5 x6) (k0_pay121 x0 x1 x2 x3 x4 x5 x6) (0 : EReal) (ix2 0 0) = rowScale (xrow x0 2) := by
  rw [← zero_bits]; exact scale2 x0 x1 x2 x3 x4 x5 x6

theorem x0row (j : Fin 7168) : k0_pay95 x0 x1 x2 x3 x4 x5 x6 (ix2 0 j) = xrow x0 0 j := by
  unfold k0_pay95; pointwise [k0_pay2]; rfl
theorem x1row (j : Fin 7168) : k0_pay105 x0 x1 x2 x3 x4 x5 x6 (ix2 0 j) = xrow x0 1 j := by
  unfold k0_pay105; pointwise [k0_pay31]; rfl
theorem x2row (j : Fin 7168) : k0_pay119 x0 x1 x2 x3 x4 x5 x6 (ix2 0 j) = xrow x0 2 j := by
  unfold k0_pay119; pointwise [k0_pay65]; rfl

/-- The hidden rows of row 0. -/
theorem h0 (k : Fin 5) (j : Fin 7168) : k0_pay99 x0 x1 x2 x3 x4 x5 x6 (ix2 k j) = hrow x0 x1 x2 x3 0 k j := by
  unfold k0_pay99
  pointwise [k0_pay7, k0_pay98, k0_pay6, codeg0, codeg0', scale0, x0row]
  fin_cases k <;> rfl

/-- The hidden rows of row 1. -/
theorem h1 (k : Fin 5) (j : Fin 7168) : k0_pay114 x0 x1 x2 x3 x4 x5 x6 (ix2 k j) = hrow x0 x1 x2 x3 1 k j := by
  unfold k0_pay114
  pointwise [k0_pay41, k0_pay110, k0_pay111, k0_pay112, k0_pay113, k0_pay40, k0_pay39, k0_pay38, k0_pay37, codeg1, codeg1', scale1, x1row]
  fin_cases k <;> rfl

/-- The hidden rows of row 2. -/
theorem h2 (k : Fin 5) (j : Fin 7168) : k0_pay73 (k0_pay119 x0 x1 x2 x3 x4 x5 x6) (k0_pay124 x0 x1 x2 x3 x4 x5 x6) (View.ld x3 r0_6) (ix2 k j) = hrow x0 x1 x2 x3 2 k j := by
  unfold k0_pay124
  pointwise [k0_pay73, k0_pay72, codeg2', scale2', x2row]
  fin_cases k <;> rfl

/-- The codes and scales of row 0's hidden rows. -/
theorem hcode0 (k : Fin 5) (j : Fin 7168) : k0_pay11 (k0_pay99 x0 x1 x2 x3 x4 x5 x6) (k0_pay100 x0 x1 x2 x3 x4 x5 x6) (k0_pay101 x0 x1 x2 x3 x4 x5 x6) (Ideal.ofBits FTy.f32 3271163904#32) (Ideal.ofBits FTy.f32 1123811328#32) (ix2 k j) = rowCode (hrow x0 x1 x2 x3 0 k) j := by
  have h0' : ∀ k j, k0_pay7 (k0_pay95 x0 x1 x2 x3 x4 x5 x6) (k0_pay96 x0 x1 x2 x3 x4 x5 x6) (k0_pay97 x0 x1 x2 x3 x4 x5 x6) (k0_pay98 x0 x1 x2 x3 x4 x5 x6) (View.ld x1 r0_2) (View.ld x1 r0_3) (View.ld x1 r0_4) (View.ld x1 r0_5) (View.ld x2 r0_6) (View.ld x3 r0_6) (ix2 k j) = hrow x0 x1 x2 x3 0 k j := h0 x0 x1 x2 x3 x4 x5 x6
  pointwise [k0_pay11, k0_pay10, k0_pay100, k0_pay101, k0_pay9, k0_pay8, h0, h0']
  rfl
theorem hscale0 (k : Fin 5) : k0_pay12 (k0_pay100 x0 x1 x2 x3 x4 x5 x6) (k0_pay101 x0 x1 x2 x3 x4 x5 x6) (Ideal.ofBits FTy.f32 3271163904#32) (Ideal.ofBits FTy.f32 1123811328#32) (ix2 k 0) = rowScale (hrow x0 x1 x2 x3 0 k) := by
  have h0' : ∀ k j, k0_pay7 (k0_pay95 x0 x1 x2 x3 x4 x5 x6) (k0_pay96 x0 x1 x2 x3 x4 x5 x6) (k0_pay97 x0 x1 x2 x3 x4 x5 x6) (k0_pay98 x0 x1 x2 x3 x4 x5 x6) (View.ld x1 r0_2) (View.ld x1 r0_3) (View.ld x1 r0_4) (View.ld x1 r0_5) (View.ld x2 r0_6) (View.ld x3 r0_6) (ix2 k j) = hrow x0 x1 x2 x3 0 k j := h0 x0 x1 x2 x3 x4 x5 x6
  pointwise [k0_pay12, k0_pay10, k0_pay100, k0_pay101, k0_pay9, k0_pay8, h0, h0']
  rfl

/-- The codes and scales of row 1's hidden rows. -/
theorem hcode1 (k : Fin 5) (j : Fin 7168) : k0_pay44 (k0_pay114 x0 x1 x2 x3 x4 x5 x6) (k0_pay116 x0 x1 x2 x3 x4 x5 x6) (ix2 k j) = rowCode (hrow x0 x1 x2 x3 1 k) j := by
  have h1' : ∀ k j, k0_pay41 (k0_pay105 x0 x1 x2 x3 x4 x5 x6) (k0_pay108 x0 x1 x2 x3 x4 x5 x6) (k0_pay109 x0 x1 x2 x3 x4 x5 x6) (k0_pay110 x0 x1 x2 x3 x4 x5 x6) (k0_pay111 x0 x1 x2 x3 x4 x5 x6) (k0_pay112 x0 x1 x2 x3 x4 x5 x6) (k0_pay113 x0 x1 x2 x3 x4 x5 x6) (View.ld x1 r0_5) (View.ld x2 r0_6) (View.ld x3 r0_6) (ix2 k j) = hrow x0 x1 x2 x3 1 k j := h1 x0 x1 x2 x3 x4 x5 x6
  pointwise [k0_pay44, k0_pay116, k0_pay43, k0_pay42, h1, h1']
  rfl
theorem hscale1 (k : Fin 5) : k0_pay45 (k0_pay115 x0 x1 x2 x3 x4 x5 x6) (ix2 k 0) = rowScale (hrow x0 x1 x2 x3 1 k) := by
  have h1' : ∀ k j, k0_pay41 (k0_pay105 x0 x1 x2 x3 x4 x5 x6) (k0_pay108 x0 x1 x2 x3 x4 x5 x6) (k0_pay109 x0 x1 x2 x3 x4 x5 x6) (k0_pay110 x0 x1 x2 x3 x4 x5 x6) (k0_pay111 x0 x1 x2 x3 x4 x5 x6) (k0_pay112 x0 x1 x2 x3 x4 x5 x6) (k0_pay113 x0 x1 x2 x3 x4 x5 x6) (View.ld x1 r0_5) (View.ld x2 r0_6) (View.ld x3 r0_6) (ix2 k j) = hrow x0 x1 x2 x3 1 k j := h1 x0 x1 x2 x3 x4 x5 x6
  pointwise [k0_pay45, k0_pay115, k0_pay42, h1']
  rfl

/-- The codes and scales of row 2's hidden rows. -/
theorem hcode2 (k : Fin 5) (j : Fin 7168) : k0_pay125 x0 x1 x2 x3 x4 x5 x6 (ix2 k j) = rowCode (hrow x0 x1 x2 x3 2 k) j := by
  unfold k0_pay125
  pointwise [k0_pay75, k0_pay74, h2]
  rfl
theorem hscale2 (k : Fin 5) : k0_pay126 x0 x1 x2 x3 x4 x5 x6 (ix2 k 0) = rowScale (hrow x0 x1 x2 x3 2 k) := by
  unfold k0_pay126
  pointwise [k0_pay76, k0_pay74, h2]
  rfl

/-- Codes of the hidden rows, as an array. -/
def G12 : Vec Ideal S3x1x5x7168 .fp8e4m3 := fun y => rowCode (hrow x0 x1 x2 x3 (y 0) (y 2)) (y 3)

/-- Scales of the hidden rows, as an array. -/
def G13 : Vec Ideal S3x1x5 .f32 := fun y => rowScale (hrow x0 x1 x2 x3 (y 0) (y 2))

/-- Result 6: the codes of the hidden rows. -/
theorem out12 : out0_12 x0 x1 x2 x3 x4 x5 x6 = G12 x0 x1 x2 x3 := by
  funext y
  unfold out0_12
  refine View.canon_apply_of_pieces (G12 x0 x1 x2 x3) _ ?_ y (cover0_12 _ _ _ _)
  intro p hp
  simp only [List.mem_cons, List.not_mem_nil, or_false] at hp
  rcases hp with rfl | rfl | rfl <;> intro x <;> obtain ⟨a, b, c, d, rfl⟩ := eta4 x <;>
    obtain rfl := Subsingleton.elim a (0 : Fin 1) <;> obtain rfl := Subsingleton.elim b (0 : Fin 1)
  · show _ = View.ld (G12 x0 x1 x2 x3) r0_35 (ix4 0 0 c d)
    pointwise [k0_pay81, hcode2]
    rfl
  · show _ = View.ld (G12 x0 x1 x2 x3) r0_22 (ix4 0 0 c d)
    pointwise [k0_pay50, hcode1]
    rfl
  · show _ = View.ld (G12 x0 x1 x2 x3) r0_9 (ix4 0 0 c d)
    pointwise [k0_pay17, hcode0]
    rfl

/-- Result 7: the scales of the hidden rows. -/
theorem out13 : out0_13 x0 x1 x2 x3 x4 x5 x6 = G13 x0 x1 x2 x3 := by
  funext y
  unfold out0_13
  refine View.canon_apply_of_pieces (G13 x0 x1 x2 x3) _ ?_ y (cover0_13 _ _ _ _)
  intro p hp
  simp only [List.mem_cons, List.not_mem_nil, or_false] at hp
  rcases hp with rfl | rfl | rfl <;> intro x <;> obtain ⟨a, b, c, rfl⟩ := eta3 x <;>
    obtain rfl := Subsingleton.elim a (0 : Fin 1) <;> obtain rfl := Subsingleton.elim b (0 : Fin 1)
  · show _ = View.ld (G13 x0 x1 x2 x3) r0_37 (ix3 0 0 c)
    pointwise [k0_pay82, hscale2]
    rfl
  · show _ = View.ld (G13 x0 x1 x2 x3) r0_24 (ix3 0 0 c)
    pointwise [k0_pay51, hscale1]
    rfl
  · show _ = View.ld (G13 x0 x1 x2 x3) r0_11 (ix3 0 0 c)
    pointwise [k0_pay18, hscale0]
    rfl

end Cert.ReferenceIdeal.Hand

end

end
-- ==== Proof.VocMath.lean ====
module

public import proofs.«01_k».proof.Proof.Spec

@[expose] public section

noncomputable section

/-! # The running maximum and the running sum of exponentials

A row of numbers is gone through in blocks.  At each place a running maximum and a running sum of exponentials are kept;
whenever the maximum grows, the sum is scaled down.  In the end this gives the row's maximum and its sum of exponentials. -/

namespace Cert.Hand

open Idealize.ShloMosaic

/-- The smallest finite number of the format, where the maxima begin. -/
def fmin : EReal := Ideal.ofBits FTy.f32 4286578687#32

theorem fmin_ne_bot : fmin ≠ ⊥ := by
  unfold fmin
  simp [Ideal.ofBits, Ideal.ieee]
  have h : (((16777215 : ℝ) * 2 ^ 104 : ℝ) : EReal) ≠ ⊤ := EReal.coe_ne_top _
  push_cast at h
  exact h

/-- The maximum of a row, at least the smallest finite number. -/
def vocMax {n : ℕ} (l : Fin n → EReal) : EReal := max (Finset.fold max (Ideal.ofBits FTy.f32 4286578688#32) l Finset.univ) fmin

/-- The logarithm of the sum of the exponentials of a row. -/
def vocLse {n : ℕ} (l : Fin n → EReal) : EReal := vocMax l + Ideal.log (∑ v, Ideal.exp (l v - vocMax l))

/-- The running maximum after `n` numbers. -/
def mx (L : ℕ → EReal) : ℕ → EReal
  | 0 => fmin
  | n + 1 => max (mx L n) (L n)

/-- The running maximum and sum after `i` pairs of numbers. -/
def onl (L : ℕ → EReal) : ℕ → EReal × EReal
  | 0 => (fmin, 0)
  | i + 1 =>
    (max (max (onl L i).1 (L (2 * i))) (L (2 * i + 1)),
      ((onl L i).2 * Ideal.exp ((onl L i).1 - max (max (onl L i).1 (L (2 * i))) (L (2 * i + 1)))
        + Ideal.exp (L (2 * i) - max (max (onl L i).1 (L (2 * i))) (L (2 * i + 1))))
        + Ideal.exp (L (2 * i + 1) - max (max (onl L i).1 (L (2 * i))) (L (2 * i + 1))))

theorem mx_le (L : ℕ → EReal) (n : ℕ) (t : EReal) : mx L n ≤ t ↔ fmin ≤ t ∧ ∀ i < n, L i ≤ t := by
  induction n with
  | zero => simp [mx]
  | succ n ih =>
    show max (mx L n) (L n) ≤ t ↔ _
    rw [max_le_iff, ih]
    constructor
    · rintro ⟨⟨h1, h2⟩, h3⟩
      refine ⟨h1, fun i hi => ?_⟩
      rcases Nat.lt_succ_iff_lt_or_eq.mp hi with h | rfl
      · exact h2 i h
      · exact h3
    · rintro ⟨h1, h2⟩
      exact ⟨⟨h1, fun i hi => h2 i (by omega)⟩, h2 n (by omega)⟩

theorem exp_nonneg (x : EReal) : 0 ≤ Ideal.exp x := by
  induction x with
  | bot => exact le_refl _
  | top => exact le_top
  | coe r => exact EReal.coe_nonneg.mpr (Real.exp_pos r).le

/-- Scaling an exponential down to a larger maximum. -/
theorem exp_rescale (l m m' : EReal) (hl : l ≤ m) (hm : m ≤ m') (hb : m ≠ ⊥) : Ideal.exp (l - m) * Ideal.exp (m - m') = Ideal.exp (l - m') := by
  have hb' : m' ≠ ⊥ := fun h => hb (le_bot_iff.mp (h ▸ hm))
  induction m' with
  | bot => exact absurd rfl hb'
  | top => rw [EReal.sub_top, EReal.sub_top]; exact mul_zero _
  | coe r' =>
    induction m with
    | bot => exact absurd rfl hb
    | top => exact absurd (top_le_iff.mp hm) (EReal.coe_ne_top _)
    | coe r =>
      induction l with
      | bot => rw [EReal.bot_sub, EReal.bot_sub]; exact zero_mul _
      | top => exact absurd (top_le_iff.mp hl) (EReal.coe_ne_top _)
      | coe q =>
        rw [← EReal.coe_sub, ← EReal.coe_sub, ← EReal.coe_sub]
        show ((Real.exp (q - r) : ℝ) : EReal) * ((Real.exp (r - r') : ℝ) : EReal) = ((Real.exp (q - r') : ℝ) : EReal)
        rw [← EReal.coe_mul, ← Real.exp_add]
        congr 2
        linarith

theorem sum_mul_nonneg {ι : Type} (s : Finset ι) (f : ι → EReal) (hf : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (hf a) (Finset.sum_nonneg fun i _ => hf i), ih]

/-- Scaling a sum of exponentials down to a larger maximum. -/
theorem sum_rescale {ι : Type} (s : Finset ι) (l : ι → EReal) (m m' : EReal) (hl : ∀ i ∈ s, l i ≤ m) (hm : m ≤ m') (hb : m ≠ ⊥) :
    (∑ i ∈ s, Ideal.exp (l i - m)) * Ideal.exp (m - m') = ∑ i ∈ s, Ideal.exp (l i - m') := by
  rw [sum_mul_nonneg s _ (fun i => exp_nonneg _)]
  exact Finset.sum_congr rfl fun i hi => exp_rescale _ _ _ (hl i hi) hm hb

theorem mx_ne_bot (L : ℕ → EReal) (n : ℕ) : mx L n ≠ ⊥ := fun h =>
  fmin_ne_bot (le_bot_iff.mp (h ▸ ((mx_le L n _).mp le_rfl).1))

/-- What the two running rows hold. -/
theorem onl_eq (L : ℕ → EReal) (i : ℕ) : onl L i = (mx L (2 * i), ∑ n ∈ Finset.range (2 * i), Ideal.exp (L n - mx L (2 * i))) := by
  induction i with
  | zero => rfl
  | succ i ih =>
    have e : onl L (i + 1) = (max (max (onl L i).1 (L (2 * i))) (L (2 * i + 1)),
      ((onl L i).2 * Ideal.exp ((onl L i).1 - max (max (onl L i).1 (L (2 * i))) (L (2 * i + 1)))
        + Ideal.exp (L (2 * i) - max (max (onl L i).1 (L (2 * i))) (L (2 * i + 1))))
        + Ideal.exp (L (2 * i + 1) - max (max (onl L i).1 (L (2 * i))) (L (2 * i + 1)))) := rfl
    have em : max (max (mx L (2 * i)) (L (2 * i))) (L (2 * i + 1)) = mx L (2 * (i + 1)) := rfl
    rw [e, ih]
    show (max (max (mx L (2 * i)) (L (2 * i))) (L (2 * i + 1)), _) = _
    simp only [em]
    rw [sum_rescale _ _ _ _ (fun n hn => ((mx_le L _ _).mp le_rfl).2 n (Finset.mem_range.mp hn)) ?_ (mx_ne_bot _ _)]
    · rw [show 2 * (i + 1) = 2 * i + 1 + 1 from by omega, Finset.sum_range_succ, Finset.sum_range_succ]
    · rw [← em]; exact (le_max_left _ _).trans (le_max_left _ _)

/-- The lanes' maxima together are the row's. -/
theorem lanes_max {N K n : ℕ} (l : Fin n → EReal) (L : Fin K → ℕ → EReal) (at_ : Fin K → Fin N → Fin n) (hL : ∀ q (i : Fin N), L q i = l (at_ q i)) (hs : ∀ v, ∃ q i, at_ q i = v) (h0 : 0 < K) :
    Finset.fold max (Ideal.ofBits FTy.f32 4286578688#32) (fun q => mx (L q) N) Finset.univ = vocMax l := by
  refine eq_of_forall_ge_iff fun t => ?_
  unfold vocMax
  rw [max_le_iff, Finset.fold_max_le, Finset.fold_max_le]
  constructor
  · rintro ⟨hb, h⟩
    refine ⟨⟨hb, fun v _ => ?_⟩, ((mx_le _ _ _).mp (h ⟨0, h0⟩ (Finset.mem_univ _))).1⟩
    obtain ⟨q, i, rfl⟩ := hs v
    rw [← hL]
    exact ((mx_le _ _ _).mp (h q (Finset.mem_univ _))).2 i i.isLt
  · rintro ⟨⟨hb, h⟩, hf⟩
    refine ⟨hb, fun q _ => (mx_le _ _ _).mpr ⟨hf, fun i hi => ?_⟩⟩
    rw [hL q ⟨i, hi⟩]
    exact h _ (Finset.mem_univ _)

/-- The row of token `t`: the row of x itself, then the heads' hidden rows. -/
def tokRow {n : ℕ} (x : Fin n → EReal) (h : Fin 5 → Fin n → EReal) (t : Fin 6) : Fin n → EReal := if e : t.val = 0 then x else h ⟨t.val - 1, by omega⟩

/-- The logits of a row: its codes times the vocabulary's, scaled back by the row's scale and the vocabulary's scales. -/
def vocRow {n : ℕ} (y : Fin n → EReal) (V : Fin 32000 → Fin n → EReal) (S : Fin 32000 → EReal) (v : Fin 32000) : EReal := (∑ d, rowCode y d * V v d) * rowScale y * S v

/-- The place of lane `q` of block `i`. -/
def vat (q : Fin 128) (i : Fin 250) : Fin 32000 := ⟨128 * i.val + q.val, by omega⟩

theorem vat_surj (v : Fin 32000) : ∃ q i, vat q i = v :=
  ⟨⟨v.val % 128, by omega⟩, ⟨v.val / 128, by omega⟩, Fin.ext (by show 128 * (v.val / 128) + v.val % 128 = v.val; omega)⟩

/-- A sum over the row, lane by lane. -/
theorem sum_vat (f : Fin 32000 → EReal) : ∑ q, ∑ i, f (vat q i) = ∑ v, f v := by
  rw [← Fintype.sum_prod_type' (f := fun q i => f (vat q i))]
  refine Fintype.sum_bijective (fun p : Fin 128 × Fin 250 => vat p.1 p.2) ⟨?_, ?_⟩ _ _ fun _ => rfl
  · rintro ⟨q, i⟩ ⟨q', i'⟩ h
    have e : 128 * i.val + q.val = 128 * i'.val + q'.val := congrArg Fin.val h
    have := q.isLt; have := q'.isLt
    exact Prod.ext (Fin.ext (by show q.val = q'.val; omega)) (Fin.ext (by show i.val = i'.val; omega))
  · intro v
    obtain ⟨q, i, h⟩ := vat_surj v
    exact ⟨(q, i), h⟩

/-- The lanes' sums, scaled to the row's maximum, add up to the row's sum. -/
theorem lanes_sum (l : Fin 32000 → EReal) (L : Fin 128 → ℕ → EReal) (hL : ∀ q (i : Fin 250), L q i = l (vat q i)) :
    ∑ q, (onl (L q) 125).2 * Ideal.exp ((onl (L q) 125).1 - vocMax l) = ∑ v, Ideal.exp (l v - vocMax l) := by
  rw [← sum_vat]
  refine Finset.sum_congr rfl fun q _ => ?_
  rw [onl_eq]
  show (∑ n ∈ Finset.range 250, Ideal.exp (L q n - mx (L q) 250)) * Ideal.exp (mx (L q) 250 - vocMax l) = _
  rw [sum_rescale _ _ _ _ (fun n hn => ((mx_le (L q) _ _).mp le_rfl).2 n (Finset.mem_range.mp hn)) ?_ (mx_ne_bot _ _), Finset.sum_range]
  · exact Finset.sum_congr rfl fun i _ => by rw [hL]
  · rw [← lanes_max l L vat hL vat_surj (by decide)]
    exact (Finset.le_fold_max _).mpr (Or.inr ⟨q, Finset.mem_univ _, le_rfl⟩)

end Cert.Hand

end

end
-- ==== Proof.ValV.lean ====
module

public import proofs.«01_k».proof.Proof.ValHO
public import proofs.«01_k».proof.Proof.VocMath

@[expose] public section

set_option maxRecDepth 20000

noncomputable section

/-! # What the loop over the vocabulary makes of the codes, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

theorem off16_eq : ∀ k : Fin k0_t2_loop.trips, k0_off16 k = ![k.val % 3, 256 * 0, 0] := by decide +kernel
theorem off18_eq : ∀ k : Fin k0_t2_loop.trips, k0_off18 k = ![k.val % 3, 256 * 1, 0] := by decide +kernel
theorem off19_eq : ∀ k : Fin k0_t2_loop.trips, k0_off19 k = ![k.val % 3, 256 * 2, 0] := by decide +kernel
theorem off20_eq : ∀ k : Fin k0_t2_loop.trips, k0_off20 k = ![k.val % 3, 256 * 3, 0] := by decide +kernel
theorem off21_eq : ∀ k : Fin k0_t2_loop.trips, k0_off21 k = ![k.val % 3, 256 * 4, 0] := by decide +kernel
theorem off17_eq : ∀ (k : Fin k0_t2_loop.trips) (r : Fin 10), k0_off17 k (BitVec.ofNat 32 r.val) = ![10 * k.val + r.val, 0] := by decide +kernel

variable (c : Dev nD) (fv : WvocBuf (F := Ideal) c) (f3 : Cont (F := Ideal) c cc0_stg3_0) (fx : Cont (F := Ideal) c cc0_scratch5) (sc : FVec Ideal S24x1 .f32)

/-- The vocabulary's codes and scales, as arrays. -/
def vK : Vec Ideal S32000x7168 .fp8e4m3 := fun y => fv y
def svK : Vec Ideal S250x128 .f32 := fun y => f3 y

/-- Block `b` of trip `k`, among all 250 blocks. -/
abbrev blk (k : Fin k0_t2_loop.trips) (b : Fin 10) : Fin 250 := ⟨10 * k.val + b.val, by have : k.val < 25 := k.isLt; omega⟩

theorem casts1280 : S1x1280x7168.ShapeCasts S1280x7168 := by decide

theorem vslot_read (k : ℕ) (g : Cont (F := Ideal) c cc0_scratch1) (d : Fin 1280) (j : Fin 7168) :
    View.read (Elt Ideal) (vslot k).view g (ix2 d j)
      = View.readAt (Elt Ideal) (Memref.whole cc0_scratch1).view (Rect.unit (s := S3x1280x7168) ![k % 3, 0, 0] S1x1280x7168.size (vslot_inb k)).toLoadRect g (ix3 0 d j) := by
  refine (congrFun (Memref.read_squeeze_slice (Val := Elt Ideal) (Memref.whole cc0_scratch1) (Rect.unit ![k % 3, 0, 0] S1x1280x7168.size (vslot_inb k)) (fun _ => rfl) squeezes_S1x1280x7168_S1280x7168 casts1280 g) (ix2 d j)).trans ?_
  show View.readAt _ _ _ _ (Shape.reshapeEquiv _ (ix2 d j)) = _
  exact congrArg _ (ValueIdx.reshapeEquiv_ix2_1ab _ d j)

theorem vslot_ld (k : ℕ) (i : Fin 5) (off : Fin 3 → ℕ) (ho : off = ![k % 3, 256 * i.val, 0]) (p : ∀ a, off a + S1x256x7168.size a ≤ S3x1280x7168.size a) (g : Cont (F := Ideal) c cc0_scratch1) (q : Fin 256) (j : Fin 7168) :
    View.readAt (Elt Ideal) (Memref.whole cc0_scratch1).view (Rect.unit (s := S3x1280x7168) off S1x256x7168.size p).toLoadRect g (ix3 0 q j)
      = View.read (Elt Ideal) (vslot k).view g (ix2 ⟨256 * i.val + q.val, by omega⟩ j) := by
  subst ho
  rw [vslot_read, View.readAt_apply, View.readAt_apply]
  congr 1
  funext a; apply Fin.ext
  fin_cases a
  · rfl
  · show 256 * i.val + 1 * q.val = 0 + 1 * (256 * i.val + q.val); omega
  · rfl

theorem vsrc_read (k : Fin 25) (d : Fin 1280) (j : Fin 7168) :
    View.read (Elt Ideal) (vsrc k).view fv (ix2 d j) = vK c fv (ix2 ⟨1280 * k.val + d.val, by omega⟩ j) := by
  show fv _ = fv _
  congr 1
  funext a; apply Fin.ext
  fin_cases a
  · show 1280 * k.val + 1 * d.val = 1280 * k.val + d.val; omega
  · show 0 + 1 * j.val = j.val; omega

/-- Trip `k` reads its block of the vocabulary. -/
theorem vtile_apply (k : Fin k0_t2_loop.trips) (i : Fin 5) (off : Fin 3 → ℕ) (ho : off = ![k.val % 3, 256 * i.val, 0]) (p : ∀ a, off a + S1x256x7168.size a ≤ S3x1280x7168.size a) (q : Fin 256) (j : Fin 7168)
    (v : Fin 32000) (hv : v.val = 1280 * k.val + 256 * i.val + q.val) :
    vtile c fv k off p (ix3 0 q j) = vK c fv (ix2 v j) := by
  unfold vtile
  refine (vslot_ld c k.val i off ho p _ q j).trans ?_
  refine (View.read_writes_cons_hit _ _ (Rect.whole S1280x7168) _ [] _ (ix2 ⟨256 * i.val + q.val, by omega⟩ j) (Rect.emb_whole_apply _ _)).trans ?_
  refine (vsrc_read c fv k _ j).trans ?_
  refine congrArg (fun v => vK c fv (ix2 v j)) (Fin.ext ?_)
  show 1280 * k.val + (256 * i.val + q.val) = v.val
  omega

theorem vsc_apply (k : Fin k0_t2_loop.trips) (b : Fin 10) (q : Fin 128) : vsc c f3 k b (ix2 0 q) = svK c f3 (ix2 (blk k b) q) := by
  unfold vsc
  rw [View.readAt_unit_congr_cast _ (off17_eq k b), View.readAt_apply]
  show f3 _ = f3 _
  congr 1
  funext a; apply Fin.ext
  fin_cases a
  · show 10 * k.val + b.val + 1 * 0 = 10 * k.val + b.val; omega
  · show 0 + 1 * q.val = q.val; omega

theorem lgt0_apply (X : Vec Ideal S32x7168 .fp8e4m3) (B : Vec Ideal S1x256x7168 .fp8e4m3) (sv : Vec Ideal S1x128 .f32) (r : Fin 24) (q : Fin 128) :
    lgt0 sc (vdot X B) sv (ix2 r q) = (∑ d : Fin 7168, X (ix2 ⟨r.val, by have := r.isLt; omega⟩ d) * B (ix3 0 ⟨q.val, by omega⟩ d)) * sc (ix2 r 0) * sv (ix2 0 q) := by
  pointwise [lgt0, vdot]
theorem lgt1_apply (X : Vec Ideal S32x7168 .fp8e4m3) (B : Vec Ideal S1x256x7168 .fp8e4m3) (sv : Vec Ideal S1x128 .f32) (r : Fin 24) (q : Fin 128) :
    lgt1 sc (vdot X B) sv (ix2 r q) = (∑ d : Fin 7168, X (ix2 ⟨r.val, by have := r.isLt; omega⟩ d) * B (ix3 0 ⟨128 + q.val, by omega⟩ d)) * sc (ix2 r 0) * sv (ix2 0 q) := by
  pointwise [lgt1, vdot]

theorem lgt0_reads (X : Vec Ideal S32x7168 .fp8e4m3) (B : Vec Ideal S1x256x7168 .fp8e4m3) (sv : Vec Ideal S1x128 .f32) (r : Fin 24) (q : Fin 128) (x v : Fin 7168 → EReal) (s : EReal)
    (ex : ∀ d, X (ix2 ⟨r.val, by have := r.isLt; omega⟩ d) = x d) (ev : ∀ d, B (ix3 0 ⟨q.val, by omega⟩ d) = v d) (es : sv (ix2 0 q) = s) :
    lgt0 sc (vdot X B) sv (ix2 r q) = (∑ d, x d * v d) * sc (ix2 r 0) * s := by
  rw [lgt0_apply, es, funext fun d => congrArg₂ (fun a b : EReal => a * b) (ex d) (ev d)]
theorem lgt1_reads (X : Vec Ideal S32x7168 .fp8e4m3) (B : Vec Ideal S1x256x7168 .fp8e4m3) (sv : Vec Ideal S1x128 .f32) (r : Fin 24) (q : Fin 128) (x v : Fin 7168 → EReal) (s : EReal)
    (ex : ∀ d, X (ix2 ⟨r.val, by have := r.isLt; omega⟩ d) = x d) (ev : ∀ d, B (ix3 0 ⟨128 + q.val, by omega⟩ d) = v d) (es : sv (ix2 0 q) = s) :
    lgt1 sc (vdot X B) sv (ix2 r q) = (∑ d, x d * v d) * sc (ix2 r 0) * s := by
  rw [lgt1_apply, es, funext fun d => congrArg₂ (fun a b : EReal => a * b) (ex d) (ev d)]

/-- The logit of place `v` of row `r`. -/
def klog (V : Vec Ideal S32000x7168 .fp8e4m3) (S : Vec Ideal S250x128 .f32) (C : Vec Ideal S32x7168 .fp8e4m3) (r : Fin 24) (v : Fin 32000) : EReal :=
  (∑ d : Fin 7168, C (ix2 ⟨r.val, by have := r.isLt; omega⟩ d) * V (ix2 v d)) * sc (ix2 r 0) * S (ix2 ⟨v.val / 128, by omega⟩ ⟨v.val % 128, by omega⟩)

/-- The logits of a block of 128 places. -/
theorem vlog_apply (k : Fin k0_t2_loop.trips) (b : Fin 10) (r : Fin 24) (q : Fin 128) :
    vlog c fv f3 fx sc k b.val (ix2 r q) = klog sc (vK c fv) (svK c f3) (cK c fx) r (vat q (blk k b)) := by
  have hk : k.val < 25 := k.isLt
  have hq := q.isLt
  have es : svK c f3 (ix2 (blk k b) q) = svK c f3 (ix2 ⟨(vat q (blk k b)).val / 128, by omega⟩ ⟨(vat q (blk k b)).val % 128, by omega⟩) := by
    congr 1
    have e : (vat q (blk k b)).val = 128 * (10 * k.val + b.val) + q.val := rfl
    refine congrArg₂ ix2 (Fin.ext ?_) (Fin.ext ?_)
    · show 10 * k.val + b.val = (vat q (blk k b)).val / 128; omega
    · show q.val = (vat q (blk k b)).val % 128; omega
  unfold klog
  rw [← es]
  have ec : ∀ d, vcodes c fx (ix2 ⟨r.val, by have := r.isLt; omega⟩ d) = cK c fx (ix2 ⟨r.val, by have := r.isLt; omega⟩ d) := fun d => cld_apply c fx _ d
  have e0 : ∀ (i : Fin 5) (off : Fin 3 → ℕ) (ho : off = ![k.val % 3, 256 * i.val, 0]) (p : ∀ a, off a + S1x256x7168.size a ≤ S3x1280x7168.size a), b.val = 2 * i.val →
      lgt0 sc (vdot (vcodes c fx) (vtile c fv k off p)) (vsc c f3 k b) (ix2 r q) = (∑ d : Fin 7168, cK c fx (ix2 ⟨r.val, by have := r.isLt; omega⟩ d) * vK c fv (ix2 (vat q (blk k b)) d)) * sc (ix2 r 0) * svK c f3 (ix2 (blk k b) q) := by
    intro i off ho p hb
    refine lgt0_reads sc _ _ _ r q _ _ _ ec (fun d => vtile_apply c fv k i off ho p _ d _ ?_) (vsc_apply c f3 k b q)
    show 128 * (10 * k.val + b.val) + q.val = 1280 * k.val + 256 * i.val + q.val
    omega
  have e1 : ∀ (i : Fin 5) (off : Fin 3 → ℕ) (ho : off = ![k.val % 3, 256 * i.val, 0]) (p : ∀ a, off a + S1x256x7168.size a ≤ S3x1280x7168.size a), b.val = 2 * i.val + 1 →
      lgt1 sc (vdot (vcodes c fx) (vtile c fv k off p)) (vsc c f3 k b) (ix2 r q) = (∑ d : Fin 7168, cK c fx (ix2 ⟨r.val, by have := r.isLt; omega⟩ d) * vK c fv (ix2 (vat q (blk k b)) d)) * sc (ix2 r 0) * svK c f3 (ix2 (blk k b) q) := by
    intro i off ho p hb
    refine lgt1_reads sc _ _ _ r q _ _ _ ec (fun d => vtile_apply c fv k i off ho p _ d _ ?_) (vsc_apply c f3 k b q)
    show 128 * (10 * k.val + b.val) + q.val = 1280 * k.val + 256 * i.val + (128 + q.val)
    omega
  clear es
  obtain rfl | rfl | rfl | rfl | rfl | rfl | rfl | rfl | rfl | rfl : b = 0 ∨ b = 1 ∨ b = 2 ∨ b = 3 ∨ b = 4 ∨ b = 5 ∨ b = 6 ∨ b = 7 ∨ b = 8 ∨ b = 9 := by omega
  · exact e0 0 _ (off16_eq k) _ rfl
  · exact e1 0 _ (off16_eq k) _ rfl
  · exact e0 1 _ (off18_eq k) _ rfl
  · exact e1 1 _ (off18_eq k) _ rfl
  · exact e0 2 _ (off19_eq k) _ rfl
  · exact e1 2 _ (off19_eq k) _ rfl
  · exact e0 3 _ (off20_eq k) _ rfl
  · exact e1 3 _ (off20_eq k) _ rfl
  · exact e0 4 _ (off21_eq k) _ rfl
  · exact e1 4 _ (off21_eq k) _ rfl

/-! ## The running rows -/

/-- The numbers that come by at lane `q` of row `r`. -/
def lane (l : Fin 32000 → EReal) (q : Fin 128) (n : ℕ) : EReal := if h : n < 250 then l (vat q ⟨n, h⟩) else 0

theorem msAt_apply (l : ℕ → FVec Ideal S24x128 .f32) (p : FVec Ideal S24x128 .f32 × FVec Ideal S24x128 .f32) (y : S24x128.Idx) (L : ℕ → EReal) (N : ℕ)
    (hp : (p.1 y, p.2 y) = onl L N) (i : ℕ) (hl : ∀ b < 2 * i, l b y = L (2 * N + b)) : ((msAt l p i).1 y, (msAt l p i).2 y) = onl L (N + i) := by
  induction i with
  | zero => exact hp
  | succ i ih =>
    have ih := ih fun b hb => hl b (by omega)
    have e0 : l (2 * i) y = L (2 * (N + i)) := (hl (2 * i) (by omega)).trans (congrArg L (by omega))
    have e1 : l (2 * i + 1) y = L (2 * (N + i) + 1) := (hl (2 * i + 1) (by omega)).trans (congrArg L (by omega))
    have em : (msAt l p i).1 y = (onl L (N + i)).1 := congrArg Prod.fst ih
    have eS : (msAt l p i).2 y = (onl L (N + i)).2 := congrArg Prod.snd ih
    show (max (max ((msAt l p i).1 y) (l (2 * i) y)) (l (2 * i + 1) y),
      (((msAt l p i).2 y * Ideal.exp ((msAt l p i).1 y - max (max ((msAt l p i).1 y) (l (2 * i) y)) (l (2 * i + 1) y)) + Ideal.exp (l (2 * i) y - max (max ((msAt l p i).1 y) (l (2 * i) y)) (l (2 * i + 1) y)))
        + Ideal.exp (l (2 * i + 1) y - max (max ((msAt l p i).1 y) (l (2 * i) y)) (l (2 * i + 1) y)) : EReal)) = _
    rw [em, eS, e0, e1]
    rfl

theorem msAll_apply (r : Fin 24) (q : Fin 128) (k : ℕ) (hk : k ≤ 25) :
    ((msAll c fv f3 fx sc (k0_pay298, k0_pay299) k).1 (ix2 r q), (msAll c fv f3 fx sc (k0_pay298, k0_pay299) k).2 (ix2 r q))
      = onl (lane (klog sc (vK c fv) (svK c f3) (cK c fx) r) q) (5 * k) := by
  induction k with
  | zero =>
    refine Prod.ext ?_ ?_
    · rfl
    · show Ideal.ofBits .f32 0#32 = 0
      simp [Ideal.ofBits, Ideal.ieee]
  | succ k ih =>
    have hk' : k < 25 := by omega
    have e : msAll c fv f3 fx sc (k0_pay298, k0_pay299) (k + 1) = msAt (vlog c fv f3 fx sc ⟨k, hk'⟩) (msAll c fv f3 fx sc (k0_pay298, k0_pay299) k) 5 := dif_pos hk'
    rw [e]
    refine msAt_apply _ _ (ix2 r q) _ (5 * k) (ih (by omega)) 5 fun b hb => ?_
    refine (vlog_apply c fv f3 fx sc ⟨k, hk'⟩ ⟨b, hb⟩ r q).trans ?_
    unfold lane
    rw [dif_pos (by omega)]
    refine congrArg (fun i => klog sc (vK c fv) (svK c f3) (cK c fx) r (vat q i)) (Fin.ext ?_)
    show 10 * k + b = 2 * (5 * k) + b
    omega

theorem pay303_apply (m : FVec Ideal S24x128 .f32) (r : Fin 24) : k0_pay303 m (ix2 r 0) = Finset.fold max (Ideal.ofBits FTy.f32 4286578688#32) (fun q : Fin 128 => (m (ix2 r q) : EReal)) Finset.univ := by
  pointwise [k0_pay303]
theorem pay304_apply (m s : FVec Ideal S24x128 .f32) (r : Fin 24) :
    k0_pay304 m s (ix2 r 0) = k0_pay303 m (ix2 r 0) + Ideal.log (∑ q : Fin 128, s (ix2 r q) * Ideal.exp (m (ix2 r q) - k0_pay303 m (ix2 r 0))) := by
  pointwise [k0_pay304]

theorem lane_at (l : Fin 32000 → EReal) (q : Fin 128) (i : Fin 250) : lane l q i = l (vat q i) := dif_pos i.isLt

/-- The row's maximum after the loop. -/
theorem mrow_apply (r : Fin 24) : k0_pay303 (msAll c fv f3 fx sc (k0_pay298, k0_pay299) 25).1 (ix2 r 0) = vocMax (klog sc (vK c fv) (svK c f3) (cK c fx) r) := by
  rw [pay303_apply]
  refine Eq.trans ?_ (lanes_max (N := 250) _ (lane (klog sc (vK c fv) (svK c f3) (cK c fx) r)) vat (lane_at _) vat_surj (by decide))
  refine congrArg (fun f => Finset.fold max _ f Finset.univ) (funext fun q => ?_)
  refine (congrArg Prod.fst (msAll_apply c fv f3 fx sc r q 25 le_rfl)).trans ?_
  rw [onl_eq]

/-- The row's logarithm of the sum of exponentials after the loop. -/
theorem lserow_apply (r : Fin 24) : k0_pay304 (msAll c fv f3 fx sc (k0_pay298, k0_pay299) 25).1 (msAll c fv f3 fx sc (k0_pay298, k0_pay299) 25).2 (ix2 r 0) = vocLse (klog sc (vK c fv) (svK c f3) (cK c fx) r) := by
  rw [pay304_apply, mrow_apply]
  unfold vocLse
  rw [← lanes_sum _ (lane (klog sc (vK c fv) (svK c f3) (cK c fx) r)) (lane_at _)]
  refine congrArg (fun a => vocMax (klog sc (vK c fv) (svK c f3) (cK c fx) r) + Ideal.log a) (Finset.sum_congr rfl fun q _ => ?_)
  have e := msAll_apply c fv f3 fx sc r q 25 le_rfl
  have e1 : (msAll c fv f3 fx sc (k0_pay298, k0_pay299) 25).1 (ix2 r q) = (onl (lane (klog sc (vK c fv) (svK c f3) (cK c fx) r) q) 125).1 := congrArg Prod.fst e
  have e2 : (msAll c fv f3 fx sc (k0_pay298, k0_pay299) 25).2 (ix2 r q) = (onl (lane (klog sc (vK c fv) (svK c f3) (cK c fx) r) q) 125).2 := congrArg Prod.snd e
  rw [e1, e2]

end Cert.KernelIdeal.Hand

end

end
-- ==== Proof.ValVO.lean ====
module

public import proofs.«01_k».proof.Proof.ValV

@[expose] public section

set_option maxRecDepth 20000

noncomputable section

/-! # Results 1 and 2 of the kernel, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (fw : WresBuf (F := Ideal) c) (fv : WvocBuf (F := Ideal) c) (f0 : Cont (F := Ideal) c cc0_stg0_0) (fs : Cont (F := Ideal) c cc0_stg1_0) (fb : Cont (F := Ideal) c cc0_stg2_0) (f3 : Cont (F := Ideal) c cc0_stg3_0)

/-- The codes of the hidden states, as the loop over the vocabulary finds them. -/
abbrev fxv : Cont (F := Ideal) c cc0_scratch5 := (Memref.whole cc0_scratch5).view.writes (Elt Ideal) (Memref.whole cc0_scratch5).view.junk (bodyRun.sl.Hx_28 c fw f0 fs fb)

theorem fxv_eq : cK c (fxv c fw f0 fs fb) = Gy c fw f0 fs fb := by
  funext y
  exact (View.read_writes_junk_apply_eq_canon (Val := Elt Ideal) (Memref.whole cc0_scratch5).view y (bodyRun.sl.Hx_28 c fw f0 fs fb)).trans (Hy_canon c fw f0 fs fb y)

/-- The vocabulary's scales, as one row. -/
def sRow (S : Vec Ideal S250x128 .f32) (v : Fin 32000) : EReal := S (ix2 ⟨v.val / 128, by omega⟩ ⟨v.val % 128, by omega⟩)

theorem yRow_zero (b : Fin 3) (r : Fin 24) (hr : r.val = 6 * b.val) : yRow c fw f0 fs fb r = xrow (xK c f0) b := by
  rw [← hRow_any (xK c f0) b r (by omega)]
  funext j
  unfold yRow hEnd
  rw [if_neg (by omega)]
  rfl

theorem yRow_tok (b : Fin 3) (t : Fin 6) (r : Fin 24) (hr : r.val = 6 * b.val + t.val) :
    yRow c fw f0 fs fb r = tokRow (xrow (xK c f0) b) (hidden (xK c f0) (wK c fw) (sK c fs) (bK c fb) b) t := by
  unfold tokRow
  split
  · exact yRow_zero c fw f0 fs fb b r (by omega)
  · exact yRow_eq c fw f0 fs fb b _ r (by show r.val = 6 * b.val + 1 + (t.val - 1); omega)

/-- The logits of token `t` of row `b` of x. -/
def tlog (x : Vec Ideal S3x1x7168 .bf16) (W : Vec Ideal S5x7168x7168 .fp8e4m3) (S B : Vec Ideal S5x7168 .f32) (V : Vec Ideal S32000x7168 .fp8e4m3) (s : Fin 32000 → EReal) (b : Fin 3) (t : Fin 6) : Fin 32000 → EReal :=
  vocRow (tokRow (xrow x b) (hidden x W S B b) t) (fun v d => V (ix2 v d)) s

theorem klog_eq (b : Fin 3) (t : Fin 6) (r : Fin 24) (hr : r.val = 6 * b.val + t.val) :
    klog (bodyRun.sl.r_51 c fw f0 fs fb) (vK c fv) (svK c f3) (cK c (fxv c fw f0 fs fb)) r = tlog (xK c f0) (wK c fw) (sK c fs) (bK c fb) (vK c fv) (sRow (svK c f3)) b t := by
  funext v
  unfold klog tlog vocRow sRow
  rw [fxv_eq, r51_apply, ← yRow_tok c fw f0 fs fb b t r hr]
  refine congrArg (fun a : EReal => a * _ * _) (Finset.sum_congr rfl fun d _ => ?_)
  exact congrArg (fun a : EReal => a * _) (dif_pos r.isLt)

theorem r55_apply (b : Fin 3) (t : Fin 6) (r : Fin 24) (hr : r.val = 6 * b.val + t.val) :
    bodyRun.sl.r_55 c fw fv f0 fs fb f3 (ix2 r 0) = vocMax (tlog (xK c f0) (wK c fw) (sK c fs) (bK c fb) (vK c fv) (sRow (svK c f3)) b t) := by
  rw [← klog_eq c fw fv f0 fs fb f3 b t r hr]
  exact mrow_apply c fv f3 (fxv c fw f0 fs fb) (bodyRun.sl.r_51 c fw f0 fs fb) r

theorem r56_apply (b : Fin 3) (t : Fin 6) (r : Fin 24) (hr : r.val = 6 * b.val + t.val) :
    bodyRun.sl.r_56 c fw fv f0 fs fb f3 (ix2 r 0) = vocLse (tlog (xK c f0) (wK c fw) (sK c fs) (bK c fb) (vK c fv) (sRow (svK c f3)) b t) := by
  rw [← klog_eq c fw fv f0 fs fb f3 b t r hr]
  exact lserow_apply c fv f3 (fxv c fw f0 fs fb) (bodyRun.sl.r_51 c fw f0 fs fb) r

/-- Results 1 and 2, as arrays. -/
def GK5 (x : Vec Ideal S3x1x7168 .bf16) (W : Vec Ideal S5x7168x7168 .fp8e4m3) (S B : Vec Ideal S5x7168 .f32) (V : Vec Ideal S32000x7168 .fp8e4m3) (s : Fin 32000 → EReal) : Vec Ideal S3x1x6 .f32 := fun y => vocLse (tlog x W S B V s (y 0) (y 2))
def GK6 (x : Vec Ideal S3x1x7168 .bf16) (W : Vec Ideal S5x7168x7168 .fp8e4m3) (S B : Vec Ideal S5x7168 .f32) (V : Vec Ideal S32000x7168 .fp8e4m3) (s : Fin 32000 → EReal) : Vec Ideal S3x1x6 .f32 := fun y => vocMax (tlog x W S B V s (y 0) (y 2))

theorem tsel0 : ∀ (i : Fin 6) (r : Fin 24), r.val ≠ i.val → IntOp.andi (IntOp.cmpi CmpIPredicate.eq (IntOp.subi (BitVec.ofNat 32 r.val) 0#32) (BitVec.ofNat 32 i.val))
    (IntOp.cmpi CmpIPredicate.eq (BitVec.ofNat 32 (r.val / 6)) 0#32) = 0#1 := by decide +kernel
theorem tsel1 : ∀ (i : Fin 6) (r : Fin 24), r.val ≠ 6 + i.val → IntOp.andi (IntOp.cmpi CmpIPredicate.eq (IntOp.subi (BitVec.ofNat 32 r.val) 6#32) (BitVec.ofNat 32 i.val))
    (IntOp.cmpi CmpIPredicate.eq (BitVec.ofNat 32 (r.val / 6)) 1#32) = 0#1 := by decide +kernel
theorem tsel2 : ∀ (i : Fin 6) (r : Fin 24), r.val ≠ 12 + i.val → IntOp.andi (IntOp.cmpi CmpIPredicate.eq (IntOp.subi (BitVec.ofNat 32 r.val) 12#32) (BitVec.ofNat 32 i.val))
    (IntOp.cmpi CmpIPredicate.eq (BitVec.ofNat 32 (r.val / 6)) 2#32) = 0#1 := by decide +kernel

theorem pay310_apply (v : FVec Ideal S24x1 .f32) (i : Fin 6) : k0_pay310 bodyRun.sl.v42 bodyRun.sl.r bodyRun.sl.v1644 v (ix3 0 0 i) = v (ix2 ⟨i.val, by omega⟩ 0) := by
  pointwise [k0_pay310, bodyRun.sl.v42, bodyRun.sl.v1644, tok]
  rw [Finset.sum_eq_single (⟨i.val, by omega⟩ : Fin 24)]
  · fin_cases i <;> rfl
  · intro r _ hr
    rw [tsel0 i r (fun h => hr (Fin.ext h))]; rfl
  · simp
theorem pay332_apply (v : FVec Ideal S24x1 .f32) (i : Fin 6) : k0_pay332 bodyRun.sl.v42 bodyRun.sl.r bodyRun.sl.v1644 v (ix3 0 0 i) = v (ix2 ⟨6 + i.val, by omega⟩ 0) := by
  pointwise [k0_pay332, bodyRun.sl.v42, bodyRun.sl.v1644, tok]
  rw [Finset.sum_eq_single (⟨6 + i.val, by omega⟩ : Fin 24)]
  · fin_cases i <;> rfl
  · intro r _ hr
    rw [tsel1 i r (fun h => hr (Fin.ext h))]; rfl
  · simp
theorem pay355_apply (v : FVec Ideal S24x1 .f32) (i : Fin 6) : k0_pay355 bodyRun.sl.v42 bodyRun.sl.r bodyRun.sl.v1644 v (ix3 0 0 i) = v (ix2 ⟨12 + i.val, by omega⟩ 0) := by
  pointwise [k0_pay355, bodyRun.sl.v42, bodyRun.sl.v1644, tok]
  rw [Finset.sum_eq_single (⟨12 + i.val, by omega⟩ : Fin 24)]
  · fin_cases i <;> rfl
  · intro r _ hr
    rw [tsel2 i r (fun h => hr (Fin.ext h))]; rfl
  · simp
theorem pay312_apply (v : FVec Ideal S24x1 .f32) (i : Fin 6) : k0_pay312 (k0_pay311 bodyRun.sl.v42 bodyRun.sl.r bodyRun.sl.v1644 v) (ix3 0 0 i) = v (ix2 ⟨i.val, by omega⟩ 0) :=
  pay310_apply v i
theorem pay334_apply (v : FVec Ideal S24x1 .f32) (i : Fin 6) : k0_pay334 (k0_pay333 bodyRun.sl.v42 bodyRun.sl.r bodyRun.sl.v1644 v) (ix3 0 0 i) = v (ix2 ⟨6 + i.val, by omega⟩ 0) :=
  pay332_apply v i
theorem pay357_apply (v : FVec Ideal S24x1 .f32) (i : Fin 6) : k0_pay357 v (k0_pay356 bodyRun.sl.v42 bodyRun.sl.r bodyRun.sl.v1644) (Scalar.ofBits .f32 0x00000000#32) (ix3 0 0 i) = v (ix2 ⟨12 + i.val, by omega⟩ 0) :=
  pay355_apply v i

theorem inb6 (b : Fin 3) : ∀ a, (![b.val, 0, 0] : Fin 3 → ℕ) a + S1x1x6.size a ≤ S3x1x6.size a := by
  intro a; have := b.isLt; fin_cases a <;> simp [S1x1x6, S3x1x6] <;> omega

theorem idx6 (b : Fin 3) (i : Fin 6) : (Rect.unit (s := S3x1x6) ![b.val, 0, 0] S1x1x6.size (inb6 b)).toLoadRect.idx (ix3 0 0 i) = ix3 b 0 i := by
  funext a; apply Fin.ext
  fin_cases a
  · show b.val + 1 * 0 = b.val; omega
  · rfl
  · show 0 + 1 * i.val = i.val; omega

theorem dlse (b : Fin 3) (i : Fin 6) (r : Fin 24) (hr : r.val = 6 * b.val + i.val) :
    bodyRun.sl.r_56 c fw fv f0 fs fb f3 (ix2 r 0) = GK5 (xK c f0) (wK c fw) (sK c fs) (bK c fb) (vK c fv) (sRow (svK c f3)) ((Rect.unit (s := S3x1x6) ![b.val, 0, 0] S1x1x6.size (inb6 b)).toLoadRect.idx (ix3 0 0 i)) := by
  rw [idx6]
  exact r56_apply c fw fv f0 fs fb f3 b i r hr
theorem dmax (b : Fin 3) (i : Fin 6) (r : Fin 24) (hr : r.val = 6 * b.val + i.val) :
    bodyRun.sl.r_55 c fw fv f0 fs fb f3 (ix2 r 0) = GK6 (xK c f0) (wK c fw) (sK c fs) (bK c fb) (vK c fv) (sRow (svK c f3)) ((Rect.unit (s := S3x1x6) ![b.val, 0, 0] S1x1x6.size (inb6 b)).toLoadRect.idx (ix3 0 0 i)) := by
  rw [idx6]
  exact r55_apply c fw fv f0 fs fb f3 b i r hr

variable (f4 : Cont (F := Ideal) c cc0_stg4_0) (gi : Cont (F := Ideal) c cc0_scratch6)

theorem L5_eq : (bodyRun c fw fv f0 fs fb f3 f4 gi).1.1 = bodyRun.sl.H5_3 c fw fv f0 fs fb f3 := by sl_kernel_rfl
theorem L6_eq : (bodyRun c fw fv f0 fs fb f3 f4 gi).1.2.1 = bodyRun.sl.H6_3 c fw fv f0 fs fb f3 := by sl_kernel_rfl

/-- Result 1 of the kernel. -/
theorem out5_val : out5 c fw fv f0 fs fb f3 f4 gi = GK5 (xK c f0) (wK c fw) (sK c fs) (bK c fb) (vK c fv) (sRow (svK c f3)) := by
  refine funext fun y => ?_
  unfold out5 leave5
  rw [View.read_writes_junk_apply_eq_canon, L5_eq]
  refine View.canon_apply_of_pieces (Val := Elt Ideal) (e := .f32) (GK5 (xK c f0) (wK c fw) (sK c fs) (bK c fb) (vK c fv) (sRow (svK c f3))) _ ?_ y
    (View.cover_of_tiledL (bodyRun.sl.H5_3 c fw fv f0 fs fb f3) S1x1x6.size (by sl_kernel_rfl) y)
  intro p hp
  unfold bodyRun.sl.H5_3 bodyRun.sl.H5_2 bodyRun.sl.H5_1 at hp
  simp only [List.mem_cons, List.not_mem_nil, or_false] at hp
  rcases hp with rfl | rfl | rfl <;> intro x <;>
    obtain ⟨a, b, i, rfl⟩ := eta3 (s1 := 1) (s2 := 1) (s3 := 6) x <;>
    obtain rfl := Subsingleton.elim a (0 : Fin 1) <;> obtain rfl := Subsingleton.elim b (0 : Fin 1)
  · exact (pay355_apply _ i).trans (dlse c fw fv f0 fs fb f3 2 i _ rfl)
  · exact (pay332_apply _ i).trans (dlse c fw fv f0 fs fb f3 1 i _ rfl)
  · exact (pay310_apply _ i).trans (dlse c fw fv f0 fs fb f3 0 i _ (by show i.val = 6 * 0 + i.val; omega))

/-- Result 2 of the kernel. -/
theorem out6_val : out6 c fw fv f0 fs fb f3 f4 gi = GK6 (xK c f0) (wK c fw) (sK c fs) (bK c fb) (vK c fv) (sRow (svK c f3)) := by
  refine funext fun y => ?_
  unfold out6 leave6
  rw [View.read_writes_junk_apply_eq_canon, L6_eq]
  refine View.canon_apply_of_pieces (Val := Elt Ideal) (e := .f32) (GK6 (xK c f0) (wK c fw) (sK c fs) (bK c fb) (vK c fv) (sRow (svK c f3))) _ ?_ y
    (View.cover_of_tiledL (bodyRun.sl.H6_3 c fw fv f0 fs fb f3) S1x1x6.size (by sl_kernel_rfl) y)
  intro p hp
  unfold bodyRun.sl.H6_3 bodyRun.sl.H6_2 bodyRun.sl.H6_1 at hp
  simp only [List.mem_cons, List.not_mem_nil, or_false] at hp
  rcases hp with rfl | rfl | rfl <;> intro x <;>
    obtain ⟨a, b, i, rfl⟩ := eta3 (s1 := 1) (s2 := 1) (s3 := 6) x <;>
    obtain rfl := Subsingleton.elim a (0 : Fin 1) <;> obtain rfl := Subsingleton.elim b (0 : Fin 1)
  · exact (pay357_apply _ i).trans (dmax c fw fv f0 fs fb f3 2 i _ rfl)
  · exact (pay334_apply _ i).trans (dmax c fw fv f0 fs fb f3 1 i _ rfl)
  · exact (pay312_apply _ i).trans (dmax c fw fv f0 fs fb f3 0 i _ (by show i.val = 6 * 0 + i.val; omega))

/-- The scales' rows of 128, read as one row, are the scales as given. -/
theorem sRow_eq (a : Vec Ideal S32000 .f32) : sRow (fun i : S250x128.Idx => a (Shape.reshapeEquiv shapeCasts_S32000_S250x128 i)) = fun v => a (ix1 v) := by
  funext v
  refine congrArg a (Shape.reshapeEquiv_eq_of_rowMajor _ ?_)
  rw [Shape.rowMajor_val_one, Shape.rowMajor_val_two]
  show v.val = v.val / 128 * 128 + v.val % 128
  omega

end Cert.KernelIdeal.Hand

end

end
-- ==== Proof.VocPick.lean ====
module

public import proofs.«01_k».proof.Proof.VocMath

@[expose] public section

noncomputable section

/-! # The logit at a wanted place of the vocabulary -/

namespace Cert.Hand

open Idealize.ShloMosaic

/-- The logit at place `w`, as a sum over all places; zero if there is no such place. -/
def vocPick {n : ℕ} (l : Fin n → EReal) (w : BitVec 32) : EReal := ∑ v, if BitVec.ofNat 32 v.val = w then l v else 0

/-- A select by an equality of words. -/
theorem sel_eq {α : Type} (a b : BitVec 32) (x y : α) : Scalar.select (IntOp.cmpi .eq a b) x y = if a = b then x else y := by
  show (if BitVec.ofBool (a == b) = 1#1 then x else y) = _
  by_cases h : a = b
  · subst h; simp
  · rw [beq_false_of_ne h, if_neg h]; rfl

/-- What lane `q` has picked after the first `N` blocks. -/
def got (l : Fin 32000 → EReal) (w : BitVec 32) (q : Fin 128) (N : ℕ) : EReal :=
  ∑ B ∈ Finset.range N, if h : B < 250 then (if BitVec.ofNat 32 (vat q ⟨B, h⟩).val = w then l (vat q ⟨B, h⟩) else 0) else 0

/-- One more block: its logit where the wanted place lies in it, else what was picked before. -/
theorem got_succ (l : Fin 32000 → EReal) (w : BitVec 32) (q : Fin 128) (N : ℕ) (hN : N < 250) :
    got l w q (N + 1) = if BitVec.ofNat 32 (128 * N + q.val) = w then l (vat q ⟨N, hN⟩) else got l w q N := by
  have hv : ∀ (B : ℕ) (h : B < 250), (vat q ⟨B, h⟩).val = 128 * B + q.val := fun B h => rfl
  unfold got
  rw [Finset.sum_range_succ, dif_pos hN, hv]
  by_cases h : BitVec.ofNat 32 (128 * N + q.val) = w
  · rw [if_pos h, if_pos h, Finset.sum_eq_zero, zero_add]
    intro B hB
    have hB := Finset.mem_range.mp hB
    rw [dif_pos (by omega), hv, if_neg]
    intro e
    have e' := congrArg BitVec.toNat (e.trans h.symm)
    have hq := q.isLt
    rw [BitVec.toNat_ofNat, BitVec.toNat_ofNat, Nat.mod_eq_of_lt (by omega), Nat.mod_eq_of_lt (by omega)] at e'
    omega
  · rw [if_neg h, if_neg h, add_zero]

/-- What all lanes together have picked after the last block. -/
theorem got_sum (l : Fin 32000 → EReal) (w : BitVec 32) : (∑ q, got l w q 250) = vocPick l w := by
  unfold vocPick
  rw [← sum_vat (fun v => if BitVec.ofNat 32 v.val = w then l v else 0)]
  refine Finset.sum_congr rfl fun q _ => ?_
  unfold got
  rw [Finset.sum_range]
  exact Finset.sum_congr rfl fun B _ => dif_pos B.isLt

/-- The wanted word less the lane is a block's first place just when the wanted word is the lane's place in that block. -/
theorem sub_lane (w : BitVec 32) (q m : ℕ) : (w - BitVec.ofNat 32 q = BitVec.ofNat 32 m) ↔ BitVec.ofNat 32 (m + q) = w := by
  rw [BitVec.sub_eq_iff_eq_add, ← BitVec.ofNat_add]
  exact eq_comm

end Cert.Hand

end

end
-- ==== Proof.ValG.lean ====
module

public import proofs.«01_k».proof.Proof.ValVO
public import proofs.«01_k».proof.Proof.VocPick

@[expose] public section

set_option maxRecDepth 20000

noncomputable section

/-! # The logits of the candidates, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (fw : WresBuf (F := Ideal) c) (fv : WvocBuf (F := Ideal) c) (f0 : Cont (F := Ideal) c cc0_stg0_0) (fs : Cont (F := Ideal) c cc0_stg1_0) (fb : Cont (F := Ideal) c cc0_stg2_0) (f3 : Cont (F := Ideal) c cc0_stg3_0) (f4 : Cont (F := Ideal) c cc0_stg4_0) (gi : Cont (F := Ideal) c cc0_scratch6)
variable (fx : Cont (F := Ideal) c cc0_scratch5) (fi : Cont (F := Ideal) c cc0_scratch6) (sc : FVec Ideal S24x1 .f32)

/-! ## The loop -/

theorem vbase_eq : ∀ (k : Fin k0_t2_loop.trips) (b : Fin 10), vbase k b.val = BitVec.ofNat 32 (128 * (10 * k.val + b.val)) := by decide +kernel

theorem gotStep_apply (base : BitVec 32) (ids : Vec Ideal S1x24x128 .i32) (l : FVec Ideal S24x128 .f32) (old : Vec Ideal S1x24x128 .f32) (r : Fin 24) (q : Fin 128) :
    gotStep base ids l old (ix3 0 r q) = Scalar.select (IntOp.cmpi .eq (ids (ix3 0 r q)) base) (l (ix2 r q)) (old (ix3 0 r q)) := by
  pointwise [gotStep]

/-- What a lane has picked after some blocks of a trip. -/
theorem gotAt_apply (k : Fin k0_t2_loop.trips) (ids : Vec Ideal S1x24x128 .i32) (old : Vec Ideal S1x24x128 .f32) (r : Fin 24) (q : Fin 128) (w : BitVec 32)
    (hid : ids (ix3 0 r q) = w - BitVec.ofNat 32 q.val) (hold : old (ix3 0 r q) = got (klog sc (vK c fv) (svK c f3) (cK c fx) r) w q (10 * k.val)) (b : ℕ) (hb : b ≤ 10) :
    gotAt k ids (vlog c fv f3 fx sc k) old b (ix3 0 r q) = got (klog sc (vK c fv) (svK c f3) (cK c fx) r) w q (10 * k.val + b) := by
  have hk : k.val < 25 := k.isLt
  induction b with
  | zero => exact hold
  | succ b ih =>
    rw [gotAt_succ, gotStep_apply, ih (by omega), sel_eq, hid, vbase_eq k ⟨b, by omega⟩, vlog_apply c fv f3 fx sc k ⟨b, by omega⟩ r q]
    refine Eq.trans ?_ (got_succ _ w q (10 * k.val + b) (by omega)).symm
    by_cases h : BitVec.ofNat 32 (128 * (10 * k.val + b) + q.val) = w
    · rw [if_pos h, if_pos ((sub_lane w q.val _).mpr h)]
    · rw [if_neg h, if_neg (fun e => h ((sub_lane w q.val _).mp e))]

/-- What a lane has picked after some trips. -/
theorem gotAll_apply (g0 : Fin 8 → Vec Ideal S1x24x128 .f32) (n : Fin 8) (r : Fin 24) (q : Fin 128) (w : BitVec 32)
    (hid : idsRow c fi n (ix3 0 r q) = w - BitVec.ofNat 32 q.val) (h0 : g0 n (ix3 0 r q) = (0 : EReal)) (k : ℕ) (hk : k ≤ 25) :
    gotAll c fv f3 fx fi sc g0 n k (ix3 0 r q) = got (klog sc (vK c fv) (svK c f3) (cK c fx) r) w q (10 * k) := by
  induction k with
  | zero => exact h0
  | succ k ih =>
    have hk' : k < 25 := by omega
    have e : gotAll c fv f3 fx fi sc g0 n (k + 1) = gotAt ⟨k, hk'⟩ (idsRow c fi n) (vlog c fv f3 fx sc ⟨k, hk'⟩) (gotAll c fv f3 fx fi sc g0 n k) 10 := dif_pos hk'
    rw [e]
    exact gotAt_apply c fv f3 fx sc ⟨k, hk'⟩ (idsRow c fi n) _ r q w hid (ih (by omega)) 10 le_rfl

/-! ## The wanted places -/

theorem ids_skip {κ : Kind} {sp : Space} (v : View sig κ sp S9x24x128 .i32) (f : v.ty.Contents (Elt Ideal)) (a b : ℕ) (h : a ≠ b) (ia ib) (w) (L) :
    v.readAt (Elt Ideal) (Rect.unit (s := S9x24x128) ![b, 0, 0] S1x24x128.size ib).toLoadRect
        (v.writes (Elt Ideal) f (⟨Rect.unit (s := S9x24x128) ![a, 0, 0] S1x24x128.size ia, w⟩ :: L))
      = v.readAt (Elt Ideal) (Rect.unit (s := S9x24x128) ![b, 0, 0] S1x24x128.size ib).toLoadRect (v.writes (Elt Ideal) f L) := by
  funext j
  rw [View.readAt_apply, View.readAt_apply]
  refine View.read_writes_cons_miss_of_axis v f _ L _ (0 : Fin 3) a 1 rfl rfl rfl ?_
  have hj : (j 0).val < 1 := (j 0).isLt
  have e : ((Rect.unit (s := S9x24x128) ![b, 0, 0] S1x24x128.size ib).toLoadRect.idx j 0).val = b + 1 * (j 0).val := rfl
  rw [e]
  omega
theorem ids_hit {κ : Kind} {sp : Space} (v : View sig κ sp S9x24x128 .i32) (f : v.ty.Contents (Elt Ideal)) (b : ℕ) (ib) (ib') (w) (L) :
    v.readAt (Elt Ideal) (Rect.unit (s := S9x24x128) ![b, 0, 0] S1x24x128.size ib).toLoadRect
        (v.writes (Elt Ideal) f (⟨Rect.unit (s := S9x24x128) ![b, 0, 0] S1x24x128.size ib', w⟩ :: L)) = w := by
  funext j
  exact View.read_writes_cons_emb v f (Rect.unit (s := S9x24x128) ![b, 0, 0] S1x24x128.size ib') w L j

section
variable (u : Vec Ideal S1x24x128 .i32) (r : Fin 24) (q : Fin 128)
theorem pay280_apply : k0_pay280 bodyRun.sl.v1644 u (ix3 0 r q) = u (ix3 0 r 0) - BitVec.ofNat 32 q.val := by
  pointwise [k0_pay280, k0_pay279, bodyRun.sl.v1644]
  rfl
theorem pay282_apply : k0_pay282 bodyRun.sl.v1644 u (ix3 0 r q) = u (ix3 0 r 1) - BitVec.ofNat 32 q.val := by
  pointwise [k0_pay282, k0_pay279, bodyRun.sl.v1644]
  rfl
theorem pay285_apply : k0_pay285 (k0_pay284 bodyRun.sl.v1644 u) (ix3 0 r q) = u (ix3 0 r 2) - BitVec.ofNat 32 q.val := by
  pointwise [k0_pay285, k0_pay284, k0_pay279, bodyRun.sl.v1644]
  rfl
theorem pay287_apply : k0_pay287 bodyRun.sl.v1644 (k0_pay279 u) (ix3 0 r q) = u (ix3 0 r 3) - BitVec.ofNat 32 q.val := by
  pointwise [k0_pay287, k0_pay279, bodyRun.sl.v1644]
  rfl
theorem pay289_apply : k0_pay289 bodyRun.sl.v1644 (k0_pay279 u) (ix3 0 r q) = u (ix3 0 r 4) - BitVec.ofNat 32 q.val := by
  pointwise [k0_pay289, k0_pay279, bodyRun.sl.v1644]
  rfl
theorem pay292_apply : k0_pay292 (k0_pay291 bodyRun.sl.v1644 (k0_pay279 u)) (ix3 0 r q) = u (ix3 0 r 5) - BitVec.ofNat 32 q.val := by
  pointwise [k0_pay292, k0_pay291, k0_pay279, bodyRun.sl.v1644]
  rfl
theorem pay294_apply : k0_pay294 bodyRun.sl.v1644 (k0_pay279 u) (ix3 0 r q) = u (ix3 0 r 6) - BitVec.ofNat 32 q.val := by
  pointwise [k0_pay294, k0_pay279, bodyRun.sl.v1644]
  rfl
theorem pay296_apply : k0_pay296 bodyRun.sl.v1644 (k0_pay279 u) (ix3 0 r q) = u (ix3 0 r 7) - BitVec.ofNat 32 q.val := by
  pointwise [k0_pay296, k0_pay279, bodyRun.sl.v1644]
  rfl
end

/-- The contents of the candidates' buffer during the loop. -/
abbrev fiv : Cont (F := Ideal) c cc0_scratch6 := (Memref.whole cc0_scratch6).view.writes (Elt Ideal) gi (bodyRun.sl.Hi_11 c f4 gi)

/-- The candidates, in rows. -/
abbrev crow : Vec Ideal S1x24x128 .i32 := bodyRun.sl.v1660 c f4 gi

/-- Candidate `n`'s row holds its place less the lane. -/
theorem idsRow_apply (n : Fin 8) (r : Fin 24) (q : Fin 128) :
    idsRow c (fiv c f4 gi) n (ix3 0 r q) = crow c f4 gi (ix3 0 r ⟨n.val, by omega⟩) - BitVec.ofNat 32 q.val := by
  unfold idsRow fiv bodyRun.sl.Hi_11 bodyRun.sl.Hi_8 bodyRun.sl.Hi_5
  obtain rfl | rfl | rfl | rfl | rfl | rfl | rfl | rfl : n = 7 ∨ n = 6 ∨ n = 5 ∨ n = 4 ∨ n = 3 ∨ n = 2 ∨ n = 1 ∨ n = 0 := by omega
  · refine (congrFun (ids_hit _ _ 8 _ _ _ _) _).trans (pay296_apply _ r q)
  · refine (congrFun (ids_skip _ _ 8 7 (by decide) _ _ _ _) _).trans ?_
    refine (congrFun (ids_hit _ _ 7 _ _ _ _) _).trans (pay294_apply _ r q)
  · refine (congrFun (ids_skip _ _ 8 6 (by decide) _ _ _ _) _).trans ?_
    refine (congrFun (ids_skip _ _ 7 6 (by decide) _ _ _ _) _).trans ?_
    refine (congrFun (ids_hit _ _ 6 _ _ _ _) _).trans (pay292_apply _ r q)
  · refine (congrFun (ids_skip _ _ 8 5 (by decide) _ _ _ _) _).trans ?_
    refine (congrFun (ids_skip _ _ 7 5 (by decide) _ _ _ _) _).trans ?_
    refine (congrFun (ids_skip _ _ 6 5 (by decide) _ _ _ _) _).trans ?_
    refine (congrFun (ids_hit _ _ 5 _ _ _ _) _).trans (pay289_apply _ r q)
  · refine (congrFun (ids_skip _ _ 8 4 (by decide) _ _ _ _) _).trans ?_
    refine (congrFun (ids_skip _ _ 7 4 (by decide) _ _ _ _) _).trans ?_
    refine (congrFun (ids_skip _ _ 6 4 (by decide) _ _ _ _) _).trans ?_
    refine (congrFun (ids_skip _ _ 5 4 (by decide) _ _ _ _) _).trans ?_
    refine (congrFun (ids_hit _ _ 4 _ _ _ _) _).trans (pay287_apply _ r q)
  · refine (congrFun (ids_skip _ _ 8 3 (by decide) _ _ _ _) _).trans ?_
    refine (congrFun (ids_skip _ _ 7 3 (by decide) _ _ _ _) _).trans ?_
    refine (congrFun (ids_skip _ _ 6 3 (by decide) _ _ _ _) _).trans ?_
    refine (congrFun (ids_skip _ _ 5 3 (by decide) _ _ _ _) _).trans ?_
    refine (congrFun (ids_skip _ _ 4 3 (by decide) _ _ _ _) _).trans ?_
    refine (congrFun (ids_hit _ _ 3 _ _ _ _) _).trans (pay285_apply _ r q)
  · refine (congrFun (ids_skip _ _ 8 2 (by decide) _ _ _ _) _).trans ?_
    refine (congrFun (ids_skip _ _ 7 2 (by decide) _ _ _ _) _).trans ?_
    refine (congrFun (ids_skip _ _ 6 2 (by decide) _ _ _ _) _).trans ?_
    refine (congrFun (ids_skip _ _ 5 2 (by decide) _ _ _ _) _).trans ?_
    refine (congrFun (ids_skip _ _ 4 2 (by decide) _ _ _ _) _).trans ?_
    refine (congrFun (ids_skip _ _ 3 2 (by decide) _ _ _ _) _).trans ?_
    refine (congrFun (ids_hit _ _ 2 _ _ _ _) _).trans (pay282_apply _ r q)
  · refine (congrFun (ids_skip _ _ 8 1 (by decide) _ _ _ _) _).trans ?_
    refine (congrFun (ids_skip _ _ 7 1 (by decide) _ _ _ _) _).trans ?_
    refine (congrFun (ids_skip _ _ 6 1 (by decide) _ _ _ _) _).trans ?_
    refine (congrFun (ids_skip _ _ 5 1 (by decide) _ _ _ _) _).trans ?_
    refine (congrFun (ids_skip _ _ 4 1 (by decide) _ _ _ _) _).trans ?_
    refine (congrFun (ids_skip _ _ 3 1 (by decide) _ _ _ _) _).trans ?_
    refine (congrFun (ids_skip _ _ 2 1 (by decide) _ _ _ _) _).trans ?_
    refine (congrFun (ids_hit _ _ 1 _ _ _ _) _).trans (pay280_apply _ r q)

/-- The candidates, as an array. -/
def candK : Vec Ideal S3x1x6x8 .i32 := fun y => f4 y

theorem cand_ld (b : Fin 3) (inb : ∀ a, (![b.val, 0, 0, 0] : Fin 4 → ℕ) a + S1x1x6x8.size a ≤ S3x1x6x8.size a) (t : Fin 6) (n : Fin 8) :
    View.readAt (Elt Ideal) (Memref.whole cc0_stg4_0).view (Rect.unit (s := S3x1x6x8) ![b.val, 0, 0, 0] S1x1x6x8.size inb).toLoadRect f4 (ix4 0 0 t n) = candK c f4 (ix4 b 0 t n) := by
  rw [View.readAt_apply]
  show f4 _ = f4 _
  congr 1
  funext a; apply Fin.ext
  fin_cases a
  · show b.val + 1 * 0 = b.val; omega
  · rfl
  · show 0 + 1 * t.val = t.val; omega
  · show 0 + 1 * n.val = n.val; omega

theorem pay276_apply (u : Vec Ideal S1x1x6x8 .i32) (t : Fin 6) (n : Fin 8) : k0_pay276 u (ix3 0 t n) = u (ix4 0 0 t n) := by
  pointwise [k0_pay276]
theorem pay277_apply (u : Vec Ideal S1x1x6x8 .i32) (t : Fin 6) (n : Fin 8) : k0_pay277 u (ix3 0 t n) = u (ix4 0 0 t n) := by
  pointwise [k0_pay277]
theorem pay278_apply (u : Vec Ideal S1x1x6x8 .i32) (t : Fin 6) (n : Fin 8) : k0_pay278 u (ix3 0 t n) = u (ix4 0 0 t n) := by
  pointwise [k0_pay278]

theorem cand_idx (o : ℕ) (inb : ∀ a, (![0, o, 0] : Fin 3 → ℕ) a + S1x6x8.size a ≤ S9x24x128.size a) (inb0 : ∀ a, (![0, 0, 0] : Fin 3 → ℕ) a + S1x24x128.size a ≤ S9x24x128.size a) (t : Fin 6) (n : Fin 8) (r : Fin 24) (hr : r.val = o + t.val) (n' : Fin 128) (hn : n'.val = n.val) :
    (Rect.unit (s := S9x24x128) ![0, o, 0] S1x6x8.size inb).emb (ix3 0 t n) = (Rect.unit (s := S9x24x128) ![0, 0, 0] S1x24x128.size inb0).toLoadRect.idx (ix3 0 r n') := by
  funext a; apply Fin.ext
  fin_cases a
  · rfl
  · show o + 1 * t.val = 0 + 1 * r.val; omega
  · show 0 + 1 * n.val = 0 + 1 * n'.val; omega

/-- The candidates as the kernel lays them out in rows. -/
theorem v1660_apply (b : Fin 3) (t : Fin 6) (n : Fin 8) (r : Fin 24) (hr : r.val = 6 * b.val + t.val) :
    crow c f4 gi (ix3 0 r ⟨n.val, by omega⟩) = candK c f4 (ix4 b 0 t n) := by
  have ht := t.isLt
  unfold crow bodyRun.sl.v1660 bodyRun.sl.Hi_3 bodyRun.sl.Hi_2
  rw [View.readAt_apply]
  have er : ((Rect.unit (s := S9x24x128) ![0, 0, 0] S1x24x128.size inb_S9x24x128_S1x24x128_0_0_0).toLoadRect.idx (ix3 0 r ⟨n.val, by omega⟩) 1).val = 0 + 1 * r.val := rfl
  obtain rfl | rfl | rfl : b = 2 ∨ b = 1 ∨ b = 0 := by omega
  · have hr : r.val = 12 + t.val := hr
    refine (View.read_writes_cons_hit _ _ _ _ _ (ix3 0 t n) _ (cand_idx 12 _ _ t n r hr _ rfl)).trans ?_
    exact (pay278_apply _ t n).trans (cand_ld c f4 2 _ t n)
  · have hr : r.val = 6 + t.val := hr
    refine (View.read_writes_cons_miss_of_axis _ _ _ _ _ (1 : Fin 3) 12 6 rfl rfl rfl (by rw [er]; omega)).trans ?_
    refine (View.read_writes_cons_hit _ _ _ _ _ (ix3 0 t n) _ (cand_idx 6 _ _ t n r hr _ rfl)).trans ?_
    exact (pay277_apply _ t n).trans (cand_ld c f4 1 _ t n)
  · have hr : r.val = 0 + t.val := hr
    refine (View.read_writes_cons_miss_of_axis _ _ _ _ _ (1 : Fin 3) 12 6 rfl rfl rfl (by rw [er]; omega)).trans ?_
    refine (View.read_writes_cons_miss_of_axis _ _ _ _ _ (1 : Fin 3) 6 6 rfl rfl rfl (by rw [er]; omega)).trans ?_
    refine (View.read_writes_cons_hit _ _ _ _ _ (ix3 0 t n) _ (cand_idx 0 _ _ t n r hr _ rfl)).trans ?_
    exact (pay276_apply _ t n).trans (cand_ld c f4 0 _ t n)

end Cert.KernelIdeal.Hand

end

end
-- ==== Proof.ValGO.lean ====
module

public import proofs.«01_k».proof.Proof.ValG

@[expose] public section

set_option maxRecDepth 20000

noncomputable section

/-! # Result 3 of the kernel, over the extended reals -/

namespace Cert.KernelIdeal.Hand

open Cert.KernelIdeal Cert.KernelIdeal.Gen
open Idealize.ShloMosaic Idealize.ShloMosaic.TcCoe Idealize.ShloMosaic.Tactic Idealize.ShloMosaic.Pointwise Cert.Hand

variable (c : Dev nD) (fw : WresBuf (F := Ideal) c) (fv : WvocBuf (F := Ideal) c) (f0 : Cont (F := Ideal) c cc0_stg0_0) (fs : Cont (F := Ideal) c cc0_stg1_0) (fb : Cont (F := Ideal) c cc0_stg2_0) (f3 : Cont (F := Ideal) c cc0_stg3_0) (f4 : Cont (F := Ideal) c cc0_stg4_0) (gi : Cont (F := Ideal) c cc0_scratch6)

/-- The picked logits' rows before the loop. -/
abbrev gor0 (n : Fin 8) : Vec Ideal S1x24x128 .f32 := gotRow c ((Memref.whole cc0_scratch7).view.writes (Elt Ideal) (Memref.whole cc0_scratch7).view.junk bodyRun.sl.Hg_8) n

theorem zero24 (r : Fin 24) (q : Fin 128) : (k0_pay281 (F := Ideal)) (ix3 0 r q) = (0 : EReal) := by
  pointwise [k0_pay281]

/-- They are zero. -/
theorem gor0_apply (n : Fin 8) (r : Fin 24) (q : Fin 128) : gor0 c n (ix3 0 r q) = (0 : EReal) := by
  refine Eq.trans ?_ (zero24 r q)
  unfold gor0 gotRow
  rw [View.readAt_writes_junk_eq_canon]
  refine (View.canon_apply_of_pieces (Val := Elt Ideal) (e := .f32) (fun y : S8x24x128.Idx => (k0_pay281 (F := Ideal)) (ix3 0 (y 1) (y 2))) bodyRun.sl.Hg_8 ?_ _
    (View.cover_of_tiledL bodyRun.sl.Hg_8 S1x24x128.size (by sl_kernel_rfl) _)).trans ?_
  · intro p hp
    unfold bodyRun.sl.Hg_8 bodyRun.sl.Hg_5 bodyRun.sl.Hg_2 at hp
    simp only [List.mem_cons, List.not_mem_nil, or_false] at hp
    rcases hp with rfl | rfl | rfl | rfl | rfl | rfl | rfl | rfl <;> intro x <;> rfl
  · rfl

theorem gbuf_row (g : Fin 8 → Vec Ideal S1x24x128 .f32) (n : Fin 8) (r : Fin 24) (q : Fin 128) : gotRow c (gbuf c g) n (ix3 0 r q) = g n (ix3 0 r q) := by
  unfold gotRow
  rw [View.readAt_apply]
  show g _ _ = g _ _
  refine congrArg₂ g (Fin.ext ?_) (funext fun a => Fin.ext ?_)
  · show n.val + 1 * 0 = n.val; omega
  · fin_cases a
    · rfl
    · show 0 + 1 * r.val = r.val; omega
    · show 0 + 1 * q.val = q.val; omega

/-- The picked logits' rows after the loop. -/
abbrev gor (n : Fin 8) : Vec Ideal S1x24x128 .f32 :=
  gotRow c (gbuf c (fun n => gotAll c fv f3 (fxv c fw f0 fs fb) (fiv c f4 gi) (bodyRun.sl.r_51 c fw f0 fs fb) (gor0 c) n 25)) n

/-- The lanes of a row together hold the candidate's logit. -/
theorem gor_sum (b : Fin 3) (t : Fin 6) (n : Fin 8) (r : Fin 24) (hr : r.val = 6 * b.val + t.val) :
    (∑ q : Fin 128, (gor c fw fv f0 fs fb f3 f4 gi n (ix3 0 r q) : EReal)) = vocPick (tlog (xK c f0) (wK c fw) (sK c fs) (bK c fb) (vK c fv) (sRow (svK c f3)) b t) (candK c f4 (ix4 b 0 t n)) := by
  rw [← klog_eq c fw fv f0 fs fb f3 b t r hr, ← got_sum]
  refine Finset.sum_congr rfl fun q _ => ?_
  refine (gbuf_row c _ n r q).trans ?_
  exact gotAll_apply c fv f3 (fxv c fw f0 fs fb) (fiv c f4 gi) (bodyRun.sl.r_51 c fw f0 fs fb) (gor0 c) n r q _ ((idsRow_apply c f4 gi n r q).trans (congrArg (fun w : BitVec 32 => w - BitVec.ofNat 32 q.val) (v1660_apply c f4 gi b t n r hr)))
    (gor0_apply c n r q) 25 le_rfl

/-- The rows' sums, put side by side. -/
theorem sums_apply (g0 g1 g2 g3 g4 g5 g6 g7 : Vec Ideal S1x24x128 .f32) (r : Fin 24) (n : Fin 8) :
    k0_pay309 bodyRun.sl.v1644 (k0_pay308 bodyRun.sl.v1644 (k0_pay305 bodyRun.sl.v1644 g0 g1) (k0_pay306 bodyRun.sl.v1644) (k0_pay307 g2) g3 g4 g5 g6) g7 (ix2 r ⟨n.val, by omega⟩)
      = ∑ q : Fin 128, (match n with | 0 => g0 | 1 => g1 | 2 => g2 | 3 => g3 | 4 => g4 | 5 => g5 | 6 => g6 | 7 => g7) (ix3 0 r q) := by
  pointwise [k0_pay309, k0_pay308, k0_pay307, k0_pay306, k0_pay305, bodyRun.sl.v1644]
  simp only [sel_eq]
  fin_cases n <;> rfl

theorem r60_apply (b : Fin 3) (t : Fin 6) (n : Fin 8) (r : Fin 24) (hr : r.val = 6 * b.val + t.val) :
    bodyRun.sl.r_60 c fw fv f0 fs fb f3 f4 gi (ix2 r ⟨n.val, by omega⟩) = vocPick (tlog (xK c f0) (wK c fw) (sK c fs) (bK c fb) (vK c fv) (sRow (svK c f3)) b t) (candK c f4 (ix4 b 0 t n)) := by
  rw [← gor_sum c fw fv f0 fs fb f3 f4 gi b t n r hr]
  refine (sums_apply (gor c fw fv f0 fs fb f3 f4 gi 0) (gor c fw fv f0 fs fb f3 f4 gi 1) (gor c fw fv f0 fs fb f3 f4 gi 2) (gor c fw fv f0 fs fb f3 f4 gi 3) (gor c fw fv f0 fs fb f3 f4 gi 4) (gor c fw fv f0 fs fb f3 f4 gi 5) (gor c fw fv f0 fs fb f3 f4 gi 6) (gor c fw fv f0 fs fb f3 f4 gi 7) r n).trans ?_
  fin_cases n <;> rfl

/-- Result 3, as an array. -/
def GK7 (x : Vec Ideal S3x1x7168 .bf16) (W : Vec Ideal S5x7168x7168 .fp8e4m3) (S B : Vec Ideal S5x7168 .f32) (V : Vec Ideal S32000x7168 .fp8e4m3) (s : Fin 32000 → EReal) (C : Vec Ideal S3x1x6x8 .i32) : Vec Ideal S3x1x6x8 .f32 := fun y => vocPick (tlog x W S B V s (y 0) (y 2)) (C y)

theorem pay315_apply (v : FVec Ideal S24x128 .f32) (i : Fin 6) (n : Fin 8) : k0_pay315 v (ix4 0 0 i n) = v (ix2 ⟨i.val, by omega⟩ ⟨n.val, by omega⟩) := by
  pointwise [k0_pay315]
theorem pay338_apply (v : FVec Ideal S24x128 .f32) (i : Fin 6) (n : Fin 8) : k0_pay338 (k0_pay337 v) (ix4 0 0 i n) = v (ix2 ⟨6 + i.val, by omega⟩ ⟨n.val, by omega⟩) := by
  pointwise [k0_pay338, k0_pay337]
theorem pay361_apply (v : FVec Ideal S24x128 .f32) (i : Fin 6) (n : Fin 8) : k0_pay361 v (ix4 0 0 i n) = v (ix2 ⟨12 + i.val, by omega⟩ ⟨n.val, by omega⟩) := by
  pointwise [k0_pay361]

theorem idx7 (b : Fin 3) (inb : ∀ a, (![b.val, 0, 0, 0] : Fin 4 → ℕ) a + S1x1x6x8.size a ≤ S3x1x6x8.size a) (i : Fin 6) (n : Fin 8) : (Rect.unit (s := S3x1x6x8) ![b.val, 0, 0, 0] S1x1x6x8.size inb).toLoadRect.idx (ix4 0 0 i n) = ix4 b 0 i n := by
  funext a; apply Fin.ext
  fin_cases a
  · show b.val + 1 * 0 = b.val; omega
  · rfl
  · show 0 + 1 * i.val = i.val; omega
  · show 0 + 1 * n.val = n.val; omega

theorem dcand (b : Fin 3) (inb : ∀ a, (![b.val, 0, 0, 0] : Fin 4 → ℕ) a + S1x1x6x8.size a ≤ S3x1x6x8.size a) (i : Fin 6) (n : Fin 8) (r : Fin 24) (hr : r.val = 6 * b.val + i.val) :
    bodyRun.sl.r_60 c fw fv f0 fs fb f3 f4 gi (ix2 r ⟨n.val, by omega⟩) = GK7 (xK c f0) (wK c fw) (sK c fs) (bK c fb) (vK c fv) (sRow (svK c f3)) (candK c f4) ((Rect.unit (s := S3x1x6x8) ![b.val, 0, 0, 0] S1x1x6x8.size inb).toLoadRect.idx (ix4 0 0 i n)) := by
  rw [idx7]
  exact r60_apply c fw fv f0 fs fb f3 f4 gi b i n r hr

theorem L7_eq : (bodyRun c fw fv f0 fs fb f3 f4 gi).1.2.2.1 = bodyRun.sl.H7_3 c fw fv f0 fs fb f3 f4 gi := by sl_kernel_rfl

/-- Result 3 of the kernel. -/
theorem out7_val : out7 c fw fv f0 fs fb f3 f4 gi = GK7 (xK c f0) (wK c fw) (sK c fs) (bK c fb) (vK c fv) (sRow (svK c f3)) (candK c f4) := by
  refine funext fun y => ?_
  unfold out7 leave7
  rw [View.read_writes_junk_apply_eq_canon, L7_eq]
  refine View.canon_apply_of_pieces (Val := Elt Ideal) (e := .f32) (GK7 (xK c f0) (wK c fw) (sK c fs) (bK c fb) (vK c fv) (sRow (svK c f3)) (candK c f4)) _ ?_ y
    (View.cover_of_tiledL (bodyRun.sl.H7_3 c fw fv f0 fs fb f3 f4 gi) S1x1x6x8.size (by sl_kernel_rfl) y)
  intro p hp
  unfold bodyRun.sl.H7_3 bodyRun.sl.H7_2 bodyRun.sl.H7_1 at hp
  simp only [List.mem_cons, List.not_mem_nil, or_false] at hp
  rcases hp with rfl | rfl | rfl <;> intro x <;>
    obtain ⟨a, b, i, n, rfl⟩ := eta4 (s1 := 1) (s2 := 1) (s3 := 6) (s4 := 8) x <;>
    obtain rfl := Subsingleton.elim a (0 : Fin 1) <;> obtain rfl := Subsingleton.elim b (0 : Fin 1)
  · exact (pay361_apply _ i n).trans (dcand c fw fv f0 fs fb f3 f4 gi 2 (by decide) i n _ rfl)
  · exact (pay338_apply _ i n).trans (dcand c fw fv f0 fs fb f3 f4 gi 1 (by decide) i n _ rfl)
  · exact (pay315_apply _ i n).trans (dcand c fw fv f0 fs fb f3 f4 gi 0 (by decide) i n _ (by show i.val = 6 * 0 + i.val; omega))

end Cert.KernelIdeal.Hand

end

end
-- ==== Proof.RefV.lean ====
module

public import proofs.«01_k».proof.Proof.RefH
public import proofs.«01_k».proof.Proof.VocMath

@[expose] public section

set_option maxRecDepth 10000

noncomputable section

/-! # The reference's logits, their maximum and the logarithm of their exponentials' sum -/

namespace Cert.ReferenceIdeal.Hand

open Cert.ReferenceIdeal Cert.ReferenceIdeal.Gen Idealize.ShloMosaic Idealize.ShloMosaic.Pointwise Cert.Hand

variable (x0 : Vec Ideal S3x1x7168 .bf16) (x1 : Vec Ideal S5x7168x7168 .fp8e4m3) (x2 : Vec Ideal S5x7168 .f32) (x3 : Vec Ideal S5x7168 .f32) (x4 : Vec Ideal S32000x7168 .fp8e4m3) (x5 : Vec Ideal S1x32000 .f32) (x6 : Vec Ideal S3x1x6x8 .i32)

/-- The logits of token `t` of row `b` of x. -/
def rlog (b : Fin 3) (t : Fin 6) : Fin 32000 → EReal :=
  vocRow (tokRow (xrow x0 b) (hrow x0 x1 x2 x3 b) t) (fun v d => x4 (ix2 v d)) (fun v => x5 (ix2 0 v))

theorem bits1 : (Scalar.ofBits .f32 0xC2FA0000#32 : Ideal .f32) = Ideal.ofBits FTy.f32 3271163904#32 := rfl
theorem bits2 : (Scalar.ofBits .f32 0x42FC0000#32 : Ideal .f32) = Ideal.ofBits FTy.f32 1123811328#32 := rfl

theorem scaleg0 (i : Fin 1) : k0_pay97 x0 x1 x2 x3 x4 x5 x6 (ix2 i 0) = rowScale (xrow x0 0) := by
  obtain rfl := Subsingleton.elim i 0; exact scale0 x0 x1 x2 x3 x4 x5 x6
theorem scaleg1 (i : Fin 1) : k0_pay109 x0 x1 x2 x3 x4 x5 x6 (ix2 i 0) = rowScale (xrow x0 1) := by
  obtain rfl := Subsingleton.elim i 0; exact scale1 x0 x1 x2 x3 x4 x5 x6
theorem scaleg2 (i : Fin 1) : k0_pay71 (k0_pay120 x0 x1 x2 x3 x4 x5 x6) (k0_pay121 x0 x1 x2 x3 x4 x5 x6) (0 : EReal) (ix2 i 0) = rowScale (xrow x0 2) := by
  obtain rfl := Subsingleton.elim i 0; exact scale2' x0 x1 x2 x3 x4 x5 x6

/-- The logits of row 0. -/
theorem log0 (t : Fin 6) (v : Fin 32000) : k0_pay102 x0 x1 x2 x3 x4 x5 x6 (ix2 t v) = rlog x0 x1 x2 x3 x4 x5 0 t v := by
  unfold k0_pay102
  rw [bits1, bits2]
  pointwise [k0_pay13, codeg0, scaleg0, hcode0, hscale0]
  unfold rlog vocRow tokRow
  by_cases h : t.val < 1
  · rw [dif_pos h, dif_pos h, dif_pos (by omega)]
  · rw [dif_neg h, dif_neg h, dif_neg (by omega)]

/-- The logits of row 1. -/
theorem log1 (t : Fin 6) (v : Fin 32000) : k0_pay118 x0 x1 x2 x3 x4 x5 x6 (ix2 t v) = rlog x0 x1 x2 x3 x4 x5 1 t v := by
  unfold k0_pay118
  pointwise [k0_pay46, codeg1, scaleg1, hcode1, hscale1]
  unfold rlog vocRow tokRow
  by_cases h : t.val < 1
  · rw [dif_pos h, dif_pos h, dif_pos (by omega)]
  · rw [dif_neg h, dif_neg h, dif_neg (by omega)]

/-- The logits of row 2. -/
theorem log2 (t : Fin 6) (v : Fin 32000) : k0_pay129 x0 x1 x2 x3 x4 x5 x6 (ix2 t v) = rlog x0 x1 x2 x3 x4 x5 2 t v := by
  unfold k0_pay129 k0_pay127 k0_pay123
  pointwise [k0_pay78, k0_pay77, codeg2, scaleg2, hcode2, hscale2]
  unfold rlog vocRow tokRow
  by_cases h : t.val < 1
  · rw [dif_pos h, dif_pos h, dif_pos (by omega)]
  · rw [dif_neg h, dif_neg h, dif_neg (by omega)]

/-! ## The maximum and the logarithm of the sum, from the logits -/

section
variable (a : FVec Ideal S1x7168 .fp8e4m3) (a' : FVec Ideal S5x7168 .fp8e4m3) (s : FVec Ideal S1x1 .f32) (h : FVec Ideal S5x7168 .f32) (u w : FVec Ideal S5x1 .f32) (p q : Ideal .f32) (z : FVec Ideal S1x32000 .f32)
variable (V V' : Vec Ideal S32000x7168 .fp8e4m3) (S : Vec Ideal S1x32000 .f32) (t : Fin 6)

theorem pay14_apply : k0_pay14 a s h u w p q V V' S (ix2 t 0) = vocMax fun v => k0_pay13 a s h u w p q V V' S (ix2 t v) := by
  pointwise [k0_pay14]
  rfl
theorem pay15_apply : k0_pay15 a s h u w p q V V' S (ix2 t 0) = ∑ v : Fin 32000, Ideal.exp (k0_pay13 a s h u w p q V V' S (ix2 t v) - k0_pay14 a s h u w p q V V' S (ix2 t 0)) := by
  pointwise [k0_pay15]
theorem pay19_apply (m n : FVec Ideal S6x1 .f32) : k0_pay19 m n (ix3 0 0 t) = m (ix2 t 0) + Ideal.log (n (ix2 t 0)) := by
  pointwise [k0_pay19]
theorem pay20_apply (m : FVec Ideal S6x1 .f32) : k0_pay20 m (ix3 0 0 t) = m (ix2 t 0) := by
  pointwise [k0_pay20]
theorem pay47_apply : k0_pay47 a s h u w V V' S (ix2 t 0) = vocMax fun v => k0_pay46 a s h u w V V' S (ix2 t v) := by
  pointwise [k0_pay47]
  rfl
theorem pay48_apply : k0_pay48 a s h u w V V' S (ix2 t 0) = k0_pay47 a s h u w V V' S (ix2 t 0) + Ideal.log (∑ v : Fin 32000, Ideal.exp (k0_pay46 a s h u w V V' S (ix2 t v) - k0_pay47 a s h u w V V' S (ix2 t 0))) := by
  pointwise [k0_pay48]
theorem pay52_apply (m : FVec Ideal S6x1 .f32) : k0_pay52 m (ix3 0 0 t) = m (ix2 t 0) := by
  pointwise [k0_pay52]
theorem pay53_apply (m : FVec Ideal S6x1 .f32) : k0_pay53 m (ix3 0 0 t) = m (ix2 t 0) := by
  pointwise [k0_pay53]
theorem pay79_apply : k0_pay79 s a' u z V S (ix2 t 0) = vocMax fun v => k0_pay78 s a' u z V S (ix2 t v) := by
  pointwise [k0_pay79]
  rfl
theorem pay83_apply : k0_pay84 (k0_pay83 s a' u z V S) (ix3 0 0 t) = k0_pay79 s a' u z V S (ix2 t 0) + Ideal.log (∑ v : Fin 32000, Ideal.exp (k0_pay78 s a' u z V S (ix2 t v) - k0_pay79 s a' u z V S (ix2 t 0))) := by
  pointwise [k0_pay84, k0_pay83]
theorem pay85_apply (m : FVec Ideal S6x1 .f32) : k0_pay85 m (ix3 0 0 t) = m (ix2 t 0) := by
  pointwise [k0_pay85]
end

theorem max0 (t : Fin 6) : k0_pay103 x0 x1 x2 x3 x4 x5 x6 (ix2 t 0) = vocMax (rlog x0 x1 x2 x3 x4 x5 0 t) :=
  (pay14_apply _ _ _ _ _ _ _ _ _ _ t).trans (congrArg vocMax (funext fun v => log0 x0 x1 x2 x3 x4 x5 x6 t v))
theorem max1 (t : Fin 6) : k0_pay47 (k0_pay108 x0 x1 x2 x3 x4 x5 x6) (k0_pay109 x0 x1 x2 x3 x4 x5 x6) (k0_pay114 x0 x1 x2 x3 x4 x5 x6) (k0_pay115 x0 x1 x2 x3 x4 x5 x6) (k0_pay116 x0 x1 x2 x3 x4 x5 x6) (View.ld x4 r0_7) (View.ld x4 r0_7) (View.ld x5 r0_8) (ix2 t 0) = vocMax (rlog x0 x1 x2 x3 x4 x5 1 t) :=
  (pay47_apply _ _ _ _ _ _ _ _ t).trans (congrArg vocMax (funext fun v => log1 x0 x1 x2 x3 x4 x5 x6 t v))
theorem max2 (t : Fin 6) : k0_pay79 (k0_pay123 x0 x1 x2 x3 x4 x5 x6) (k0_pay125 x0 x1 x2 x3 x4 x5 x6) (k0_pay126 x0 x1 x2 x3 x4 x5 x6) (k0_pay127 x0 x1 x2 x3 x4 x5 x6) (View.ld x4 r0_7) (View.ld x5 r0_8) (ix2 t 0) = vocMax (rlog x0 x1 x2 x3 x4 x5 2 t) :=
  (pay79_apply _ _ _ _ _ _ t).trans (congrArg vocMax (funext fun v => log2 x0 x1 x2 x3 x4 x5 x6 t v))

/-- The logarithm of the sum, from equal logits and their maximum. -/
theorem lse_eq (l l' : Fin 32000 → EReal) (m : EReal) (hm : m = vocMax l') (hl : ∀ v, l v = l' v) : m + Ideal.log (∑ v, Ideal.exp (l v - m)) = vocLse l' := by
  obtain rfl : l = l' := funext hl
  rw [hm]; unfold vocLse; rfl

end Cert.ReferenceIdeal.Hand

end

end
-- ==== Proof.RefVO.lean ====
module

public import proofs.«01_k».proof.Proof.RefV

@[expose] public section

set_option maxRecDepth 10000

noncomputable section

/-! # The reference's maxima and sums, as arrays -/

namespace Cert.ReferenceIdeal.Hand

open Cert.ReferenceIdeal Cert.ReferenceIdeal.Gen Idealize.ShloMosaic Idealize.ShloMosaic.Pointwise Cert.Hand

variable (x0 : Vec Ideal S3x1x7168 .bf16) (x1 : Vec Ideal S5x7168x7168 .fp8e4m3) (x2 : Vec Ideal S5x7168 .f32) (x3 : Vec Ideal S5x7168 .f32) (x4 : Vec Ideal S32000x7168 .fp8e4m3) (x5 : Vec Ideal S1x32000 .f32) (x6 : Vec Ideal S3x1x6x8 .i32)

/-- Results 1 and 2, as arrays. -/
def G7 : Vec Ideal S3x1x6 .f32 := fun y => vocLse (rlog x0 x1 x2 x3 x4 x5 (y 0) (y 2))
def G8 : Vec Ideal S3x1x6 .f32 := fun y => vocMax (rlog x0 x1 x2 x3 x4 x5 (y 0) (y 2))

theorem ix6 (b : Fin 3) (inb : ∀ a, (![b.val, 0, 0] : Fin 3 → ℕ) a + S1x1x6.size a ≤ S3x1x6.size a) (i : Fin 6) : (Rect.unit (s := S3x1x6) ![b.val, 0, 0] S1x1x6.size inb).toLoadRect.idx (ix3 0 0 i) = ix3 b 0 i := by
  funext a; apply Fin.ext
  fin_cases a
  · show b.val + 1 * 0 = b.val; omega
  · rfl
  · show 0 + 1 * i.val = i.val; omega

/-- Result 1: the logarithms of the sums of exponentials. -/
theorem out7 : out0_7 x0 x1 x2 x3 x4 x5 x6 = G7 x0 x1 x2 x3 x4 x5 := by
  funext y
  unfold out0_7
  refine View.canon_apply_of_pieces (G7 x0 x1 x2 x3 x4 x5) _ ?_ y (cover0_7 _ _ _ _)
  intro p hp
  simp only [List.mem_cons, List.not_mem_nil, or_false] at hp
  rcases hp with rfl | rfl | rfl <;> intro x <;> obtain ⟨a, b, c, rfl⟩ := eta3 x <;>
    obtain rfl := Subsingleton.elim a (0 : Fin 1) <;> obtain rfl := Subsingleton.elim b (0 : Fin 1)
  · refine Eq.trans ?_ (congrArg (G7 x0 x1 x2 x3 x4 x5) (ix6 2 (by decide) c)).symm
    exact (pay83_apply _ _ _ _ _ _ c).trans (lse_eq _ _ _ (max2 x0 x1 x2 x3 x4 x5 x6 c) fun v => log2 x0 x1 x2 x3 x4 x5 x6 c v)
  · refine Eq.trans ?_ (congrArg (G7 x0 x1 x2 x3 x4 x5) (ix6 1 (by decide) c)).symm
    dsimp only
    rw [pay52_apply]
    refine (pay48_apply _ _ _ _ _ _ _ _ c).trans ?_
    exact (lse_eq _ _ _ (max1 x0 x1 x2 x3 x4 x5 x6 c) fun v => log1 x0 x1 x2 x3 x4 x5 x6 c v)
  · refine Eq.trans ?_ (congrArg (G7 x0 x1 x2 x3 x4 x5) (ix6 0 (by decide) c)).symm
    refine (pay19_apply c _ _).trans ?_
    rw [pay15_apply]
    exact lse_eq _ _ _ (max0 x0 x1 x2 x3 x4 x5 x6 c) fun v => log0 x0 x1 x2 x3 x4 x5 x6 c v

/-- Result 2: the maxima. -/
theorem out8 : out0_8 x0 x1 x2 x3 x4 x5 x6 = G8 x0 x1 x2 x3 x4 x5 := by
  funext y
  unfold out0_8
  refine View.canon_apply_of_pieces (G8 x0 x1 x2 x3 x4 x5) _ ?_ y (cover0_8 _ _ _ _)
  intro p hp
  simp only [List.mem_cons, List.not_mem_nil, or_false] at hp
  rcases hp with rfl | rfl | rfl <;> intro x <;> obtain ⟨a, b, c, rfl⟩ := eta3 x <;>
    obtain rfl := Subsingleton.elim a (0 : Fin 1) <;> obtain rfl := Subsingleton.elim b (0 : Fin 1)
  · refine Eq.trans ?_ (congrArg (G8 x0 x1 x2 x3 x4 x5) (ix6 2 (by decide) c)).symm
    dsimp only
    rw [pay85_apply]
    exact max2 x0 x1 x2 x3 x4 x5 x6 c
  · refine Eq.trans ?_ (congrArg (G8 x0 x1 x2 x3 x4 x5) (ix6 1 (by decide) c)).symm
    dsimp only
    rw [pay53_apply]
    exact max1 x0 x1 x2 x3 x4 x5 x6 c
  · refine Eq.trans ?_ (congrArg (G8 x0 x1 x2 x3 x4 x5) (ix6 0 (by decide) c)).symm
    dsimp only
    rw [pay20_apply]
    exact max0 x0 x1 x2 x3 x4 x5 x6 c

/-- The scales as one row of an array are the scales as given. -/
theorem sRow_eq (a : Vec Ideal S32000 .f32) : (fun v : Fin 32000 => (fun i : S1x32000.Idx => a (Shape.reshapeEquiv shapeCasts_S32000_S1x32000 i)) (ix2 0 v)) = fun v => a (ix1 v) := by
  funext v
  refine congrArg a (Shape.reshapeEquiv_eq_of_rowMajor _ ?_)
  rw [Shape.rowMajor_val_one, Shape.rowMajor_val_two]
  show v.val = 0 * 32000 + v.val
  omega

end Cert.ReferenceIdeal.Hand

end

end
-- ==== Proof.RefG.lean ====
module

public import proofs.«01_k».proof.Proof.RefV
public import proofs.«01_k».proof.Proof.VocPick

@[expose] public section

set_option maxRecDepth 10000

noncomputable section

/-! # The reference's logits of the candidates -/

namespace Cert.ReferenceIdeal.Hand

open Cert.ReferenceIdeal Cert.ReferenceIdeal.Gen Idealize.ShloMosaic Idealize.ShloMosaic.Pointwise Cert.Hand

variable (x0 : Vec Ideal S3x1x7168 .bf16) (x1 : Vec Ideal S5x7168x7168 .fp8e4m3) (x2 : Vec Ideal S5x7168 .f32) (x3 : Vec Ideal S5x7168 .f32) (x4 : Vec Ideal S32000x7168 .fp8e4m3) (x5 : Vec Ideal S1x32000 .f32) (x6 : Vec Ideal S3x1x6x8 .i32)

/-- Result 3, as an array. -/
def G9 : Vec Ideal S3x1x6x8 .f32 := fun y => vocPick (rlog x0 x1 x2 x3 x4 x5 (y 0) (y 2)) (x6 y)

theorem pay86_apply (L : FVec Ideal S6x32000 .f32) (I : IVec S6x32000 32) (w : Vec Ideal S1x1x6x1 .i32) (t : Fin 6) :
    k0_pay86 L I w (ix4 0 0 t 0) = ∑ v : Fin 32000, Scalar.select (IntOp.cmpi .eq (I (ix2 t v)) (w (ix4 0 0 t 0))) (L (ix2 t v)) (0 : EReal) := by
  pointwise [k0_pay86]

theorem iota_apply (t : Fin 6) (v : Fin 32000) : k0_pay128 x0 x1 x2 x3 x4 x5 x6 (ix2 t v) = BitVec.ofNat 32 v.val := by
  pointwise [k0_pay128]

theorem ix9 (b : Fin 3) (n : Fin 8) (inb : ∀ a, (![b.val, 0, 0, n.val] : Fin 4 → ℕ) a + S1x1x6x1.size a ≤ S3x1x6x8.size a) (t : Fin 6) :
    (Rect.unit (s := S3x1x6x8) ![b.val, 0, 0, n.val] S1x1x6x1.size inb).toLoadRect.idx (ix4 0 0 t 0) = ix4 b 0 t n := by
  funext a; apply Fin.ext
  fin_cases a
  · show b.val + 1 * 0 = b.val; omega
  · rfl
  · show 0 + 1 * t.val = t.val; omega
  · show n.val + 1 * 0 = n.val; omega

/-- One column of one row of the candidates' logits. -/
theorem piece9 (b : Fin 3) (n : Fin 8) (L : FVec Ideal S6x32000 .f32) (hL : ∀ t v, L (ix2 t v) = rlog x0 x1 x2 x3 x4 x5 b t v)
    (inb : ∀ a, (![b.val, 0, 0, n.val] : Fin 4 → ℕ) a + S1x1x6x1.size a ≤ S3x1x6x8.size a) (t : Fin 6) :
    k0_pay86 L (k0_pay128 x0 x1 x2 x3 x4 x5 x6) (View.ld x6 (Rect.unit (s := S3x1x6x8) ![b.val, 0, 0, n.val] S1x1x6x1.size inb)) (ix4 0 0 t 0)
      = G9 x0 x1 x2 x3 x4 x5 x6 ((Rect.unit (s := S3x1x6x8) ![b.val, 0, 0, n.val] S1x1x6x1.size inb).toLoadRect.idx (ix4 0 0 t 0)) := by
  have e : View.ld x6 (Rect.unit (s := S3x1x6x8) ![b.val, 0, 0, n.val] S1x1x6x1.size inb) (ix4 0 0 t 0) = x6 (ix4 b 0 t n) := congrArg x6 (ix9 b n inb t)
  rw [pay86_apply, e, ix9]
  unfold G9 vocPick
  refine Finset.sum_congr rfl fun v _ => ?_
  rw [sel_eq, hL, iota_apply]
  rfl

/-- Result 3: the logits of the candidates. -/
theorem out9 : out0_9 x0 x1 x2 x3 x4 x5 x6 = G9 x0 x1 x2 x3 x4 x5 x6 := by
  funext y
  unfold out0_9
  refine View.canon_apply_of_pieces (G9 x0 x1 x2 x3 x4 x5 x6) _ ?_ y (cover0_9 _ _ _ _ _ _ _ _ _ _ _ _ _ _ _ _ _ _ _ _ _ _ _ _ _)
  have p2 := fun n => piece9 x0 x1 x2 x3 x4 x5 x6 2 n _ (log2 x0 x1 x2 x3 x4 x5 x6)
  have p1 := fun n => piece9 x0 x1 x2 x3 x4 x5 x6 1 n _ (log1 x0 x1 x2 x3 x4 x5 x6)
  have p0 := fun n => piece9 x0 x1 x2 x3 x4 x5 x6 0 n _ (log0 x0 x1 x2 x3 x4 x5 x6)
  intro p hp
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl <;>
    intro x <;> obtain ⟨a, b, t, d, rfl⟩ := eta4 x <;>
    obtain rfl := Subsingleton.elim a (0 : Fin 1) <;> obtain rfl := Subsingleton.elim b (0 : Fin 1) <;> obtain rfl := Subsingleton.elim d (0 : Fin 1)
  · exact p2 7 _ t
  · exact p2 6 _ t
  · exact p2 5 _ t
  · exact p2 4 _ t
  · exact p2 3 _ t
  · exact p2 2 _ t
  · exact p2 1 _ t
  · exact p2 0 _ t
  · exact p1 7 _ t
  · exact p1 6 _ t
  · exact p1 5 _ t
  · exact p1 4 _ t
  · exact p1 3 _ t
  · exact p1 2 _ t
  · exact p1 1 _ t
  · exact p1 0 _ t
  · exact p0 7 _ t
  · exact p0 6 _ t
  · exact p0 5 _ t
  · exact p0 4 _ t
  · exact p0 3 _ t
  · exact p0 2 _ t
  · exact p0 1 _ t
  · exact p0 0 _ t

end Cert.ReferenceIdeal.Hand

end

end
-- ==== Proof.Values.lean ====
module

public import proofs.«01_k».proof.Defs
public import proofs.«01_k».proof.Proof.Frames
public import proofs.«01_k».proof.Proof.ValHO
public import proofs.«01_k».proof.Proof.MemK
public import proofs.«01_k».proof.Proof.MemR
public import proofs.«01_k».proof.Proof.RefH
public import proofs.«01_k».proof.Proof.ValGO
public import proofs.«01_k».proof.Proof.RefVO
public import proofs.«01_k».proof.Proof.RefG
public import proofs.«01_k».proof.Proof.Gen.KernelIdeal
public import proofs.«01_k».proof.Proof.Gen.ReferenceIdeal

@[expose] public section

set_option maxRecDepth 20000

noncomputable section

/-! # The value claim

The kernel's run and the reference's leave the same numbers in all seven results. -/

namespace Cert.Proof

open Idealize.ShloMosaic Idealize.ShloMosaic.TcCoe Idealize.ShloMosaic.Pointwise Idealize.SL.Sem

/-- What the kernel's run leaves: the logits' maxima and sums, the candidates' logits, the codes and scales of x and of the hidden rows. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r => ∀ c : Dev KernelIdeal.nD,
      r.2.mem ((c.tc : Thread KernelIdeal.nD KernelIdeal.τ).loc KernelIdeal.main_v1_0) = KernelIdeal.Hand.GK5 (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (fun v => (m ((c.tc : Thread KernelIdeal.nD KernelIdeal.τ).loc KernelIdeal.main_arg5) : Vec Ideal KernelIdeal.S32000 .f32) (ix1 v))
      ∧ r.2.mem ((c.tc : Thread KernelIdeal.nD KernelIdeal.τ).loc KernelIdeal.main_v1_1) = KernelIdeal.Hand.GK6 (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (fun v => (m ((c.tc : Thread KernelIdeal.nD KernelIdeal.τ).loc KernelIdeal.main_arg5) : Vec Ideal KernelIdeal.S32000 .f32) (ix1 v))
      ∧ r.2.mem ((c.tc : Thread KernelIdeal.nD KernelIdeal.τ).loc KernelIdeal.main_v1_2) = KernelIdeal.Hand.GK7 (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (fun v => (m ((c.tc : Thread KernelIdeal.nD KernelIdeal.τ).loc KernelIdeal.main_arg5) : Vec Ideal KernelIdeal.S32000 .f32) (ix1 v)) (m ((c.tc : Thread KernelIdeal.nD KernelIdeal.τ).loc KernelIdeal.main_arg6))
      ∧ r.2.mem ((c.tc : Thread KernelIdeal.nD KernelIdeal.τ).loc KernelIdeal.main_v1_3) = KernelIdeal.Hand.GK8 (m ((c.tc : Thread KernelIdeal.nD KernelIdeal.τ).loc KernelIdeal.main_arg0))
      ∧ r.2.mem ((c.tc : Thread KernelIdeal.nD KernelIdeal.τ).loc KernelIdeal.main_v1_4) = KernelIdeal.Hand.GK9 (m ((c.tc : Thread KernelIdeal.nD KernelIdeal.τ).loc KernelIdeal.main_arg0))
      ∧ r.2.mem ((c.tc : Thread KernelIdeal.nD KernelIdeal.τ).loc KernelIdeal.main_v1_5) = KernelIdeal.Hand.GK10 (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3))
      ∧ r.2.mem ((c.tc : Thread KernelIdeal.nD KernelIdeal.τ).loc KernelIdeal.main_v1_6) = KernelIdeal.Hand.GK11 (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) := by
  refine (θ_run KernelIdeal.defs _ _).mono (fun r h c => ⟨?_, ?_, ?_, ?_, ?_, ?_, ?_⟩) (KernelIdeal.Hand.run_main m ρ)
  · obtain ⟨t, gi, e⟩ := KernelIdeal.Hand.mem5 m h.1 c
    rw [e, KernelIdeal.Hand.out5_val, KernelIdeal.Hand.X0_eq, KernelIdeal.Hand.X1_eq, KernelIdeal.Hand.X2_eq, KernelIdeal.Hand.X3_eq, KernelIdeal.Hand.V_main_v0, KernelIdeal.Gen.V_main_arg1, KernelIdeal.Gen.V_main_arg4]
    exact congrArg (KernelIdeal.Hand.GK5 _ _ _ _ _) (KernelIdeal.Hand.sRow_eq _)
  · obtain ⟨t, gi, e⟩ := KernelIdeal.Hand.mem6 m h.1 c
    rw [e, KernelIdeal.Hand.out6_val, KernelIdeal.Hand.X0_eq, KernelIdeal.Hand.X1_eq, KernelIdeal.Hand.X2_eq, KernelIdeal.Hand.X3_eq, KernelIdeal.Hand.V_main_v0, KernelIdeal.Gen.V_main_arg1, KernelIdeal.Gen.V_main_arg4]
    exact congrArg (KernelIdeal.Hand.GK6 _ _ _ _ _) (KernelIdeal.Hand.sRow_eq _)
  · obtain ⟨t, gi, e⟩ := KernelIdeal.Hand.mem7 m h.1 c
    rw [e, KernelIdeal.Hand.out7_val, KernelIdeal.Hand.X0_eq, KernelIdeal.Hand.X1_eq, KernelIdeal.Hand.X2_eq, KernelIdeal.Hand.X3_eq, KernelIdeal.Hand.X4_eq, KernelIdeal.Hand.V_main_v0, KernelIdeal.Gen.V_main_arg1, KernelIdeal.Gen.V_main_arg4]
    exact congrArg (fun s => KernelIdeal.Hand.GK7 _ _ _ _ _ s _) (KernelIdeal.Hand.sRow_eq _)
  · obtain ⟨t, gi, e⟩ := KernelIdeal.Hand.mem8 m h.1 c
    rw [e, KernelIdeal.Hand.out8_val, KernelIdeal.Hand.X0_eq]; rfl
  · obtain ⟨t, gi, e⟩ := KernelIdeal.Hand.mem9 m h.1 c
    rw [e, KernelIdeal.Hand.out9_val, KernelIdeal.Hand.X0_eq]; rfl
  · obtain ⟨t, gi, e⟩ := KernelIdeal.Hand.mem10 m h.1 c
    rw [e, KernelIdeal.Hand.out10_val, KernelIdeal.Hand.X0_eq, KernelIdeal.Hand.X1_eq, KernelIdeal.Hand.X2_eq, KernelIdeal.Gen.V_main_arg1]; rfl
  · obtain ⟨t, gi, e⟩ := KernelIdeal.Hand.mem11 m h.1 c
    rw [e, KernelIdeal.Hand.out11_val, KernelIdeal.Hand.X0_eq, KernelIdeal.Hand.X1_eq, KernelIdeal.Hand.X2_eq, KernelIdeal.Gen.V_main_arg1]; rfl

/-- The two sides' results 1, 2 and 3 are the same functions of the arguments. -/
theorem G7_eq (x0 : Vec Ideal ReferenceIdeal.S3x1x7168 .bf16) (x1 : Vec Ideal ReferenceIdeal.S5x7168x7168 .fp8e4m3) (x2 x3 : Vec Ideal ReferenceIdeal.S5x7168 .f32) (x4 : Vec Ideal ReferenceIdeal.S32000x7168 .fp8e4m3) (a : Vec Ideal ReferenceIdeal.S32000 .f32) :
    ReferenceIdeal.Hand.G7 x0 x1 x2 x3 x4 (fun i : ReferenceIdeal.S1x32000.Idx => a (Shape.reshapeEquiv ReferenceIdeal.Gen.shapeCasts_S32000_S1x32000 i)) = KernelIdeal.Hand.GK5 x0 x1 x2 x3 x4 (fun v => a (ix1 v)) := by
  rw [← ReferenceIdeal.Hand.sRow_eq]; rfl
theorem G8_eq (x0 : Vec Ideal ReferenceIdeal.S3x1x7168 .bf16) (x1 : Vec Ideal ReferenceIdeal.S5x7168x7168 .fp8e4m3) (x2 x3 : Vec Ideal ReferenceIdeal.S5x7168 .f32) (x4 : Vec Ideal ReferenceIdeal.S32000x7168 .fp8e4m3) (a : Vec Ideal ReferenceIdeal.S32000 .f32) :
    ReferenceIdeal.Hand.G8 x0 x1 x2 x3 x4 (fun i : ReferenceIdeal.S1x32000.Idx => a (Shape.reshapeEquiv ReferenceIdeal.Gen.shapeCasts_S32000_S1x32000 i)) = KernelIdeal.Hand.GK6 x0 x1 x2 x3 x4 (fun v => a (ix1 v)) := by
  rw [← ReferenceIdeal.Hand.sRow_eq]; rfl
theorem G9_eq (x0 : Vec Ideal ReferenceIdeal.S3x1x7168 .bf16) (x1 : Vec Ideal ReferenceIdeal.S5x7168x7168 .fp8e4m3) (x2 x3 : Vec Ideal ReferenceIdeal.S5x7168 .f32) (x4 : Vec Ideal ReferenceIdeal.S32000x7168 .fp8e4m3) (a : Vec Ideal ReferenceIdeal.S32000 .f32) (x6 : Vec Ideal ReferenceIdeal.S3x1x6x8 .i32) :
    ReferenceIdeal.Hand.G9 x0 x1 x2 x3 x4 (fun i : ReferenceIdeal.S1x32000.Idx => a (Shape.reshapeEquiv ReferenceIdeal.Gen.shapeCasts_S32000_S1x32000 i)) x6 = KernelIdeal.Hand.GK7 x0 x1 x2 x3 x4 (fun v => a (ix1 v)) x6 := by
  rw [← ReferenceIdeal.Hand.sRow_eq]; rfl

/-- What the reference's run leaves: the logits' maxima and sums, the candidates' logits, the codes and scales of x and of the hidden rows. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v1_0) = KernelIdeal.Hand.GK5 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg2)) (m ((c.tc : Thread ReferenceIdeal.nD ReferenceIdeal.τ).loc ReferenceIdeal.main_arg3)) (m ((c.tc : Thread ReferenceIdeal.nD ReferenceIdeal.τ).loc ReferenceIdeal.main_arg4)) (fun v => (m ((c.tc : Thread ReferenceIdeal.nD ReferenceIdeal.τ).loc ReferenceIdeal.main_arg5) : Vec Ideal KernelIdeal.S32000 .f32) (ix1 v))
      ∧ r.2.mem ((c.tc : Thread ReferenceIdeal.nD ReferenceIdeal.τ).loc ReferenceIdeal.main_v1_1) = KernelIdeal.Hand.GK6 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg2)) (m ((c.tc : Thread ReferenceIdeal.nD ReferenceIdeal.τ).loc ReferenceIdeal.main_arg3)) (m ((c.tc : Thread ReferenceIdeal.nD ReferenceIdeal.τ).loc ReferenceIdeal.main_arg4)) (fun v => (m ((c.tc : Thread ReferenceIdeal.nD ReferenceIdeal.τ).loc ReferenceIdeal.main_arg5) : Vec Ideal KernelIdeal.S32000 .f32) (ix1 v))
      ∧ r.2.mem ((c.tc : Thread ReferenceIdeal.nD ReferenceIdeal.τ).loc ReferenceIdeal.main_v1_2) = KernelIdeal.Hand.GK7 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg2)) (m ((c.tc : Thread ReferenceIdeal.nD ReferenceIdeal.τ).loc ReferenceIdeal.main_arg3)) (m ((c.tc : Thread ReferenceIdeal.nD ReferenceIdeal.τ).loc ReferenceIdeal.main_arg4)) (fun v => (m ((c.tc : Thread ReferenceIdeal.nD ReferenceIdeal.τ).loc ReferenceIdeal.main_arg5) : Vec Ideal KernelIdeal.S32000 .f32) (ix1 v)) (m ((c.tc : Thread ReferenceIdeal.nD ReferenceIdeal.τ).loc ReferenceIdeal.main_arg6))
      ∧ r.2.mem ((c.tc : Thread ReferenceIdeal.nD ReferenceIdeal.τ).loc ReferenceIdeal.main_v1_3) = ReferenceIdeal.Hand.G10 (m ((c.tc : Thread ReferenceIdeal.nD ReferenceIdeal.τ).loc ReferenceIdeal.main_arg0))
      ∧ r.2.mem ((c.tc : Thread ReferenceIdeal.nD ReferenceIdeal.τ).loc ReferenceIdeal.main_v1_4) = ReferenceIdeal.Hand.G11 (m ((c.tc : Thread ReferenceIdeal.nD ReferenceIdeal.τ).loc ReferenceIdeal.main_arg0))
      ∧ r.2.mem ((c.tc : Thread ReferenceIdeal.nD ReferenceIdeal.τ).loc ReferenceIdeal.main_v1_5) = ReferenceIdeal.Hand.G12 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg2)) (m ((c.tc : Thread ReferenceIdeal.nD ReferenceIdeal.τ).loc ReferenceIdeal.main_arg3))
      ∧ r.2.mem ((c.tc : Thread ReferenceIdeal.nD ReferenceIdeal.τ).loc ReferenceIdeal.main_v1_6) = ReferenceIdeal.Hand.G13 (m ((c.tc : Thread ReferenceIdeal.nD ReferenceIdeal.τ).loc ReferenceIdeal.main_arg0)) (m ((c.tc : Thread ReferenceIdeal.nD ReferenceIdeal.τ).loc ReferenceIdeal.main_arg1)) (m ((c.tc : Thread ReferenceIdeal.nD ReferenceIdeal.τ).loc ReferenceIdeal.main_arg2)) (m ((c.tc : Thread ReferenceIdeal.nD ReferenceIdeal.τ).loc ReferenceIdeal.main_arg3)) := by
  refine (θ_run ReferenceIdeal.defs _ _).mono (fun r h c => ⟨?_, ?_, ?_, ?_, ?_, ?_, ?_⟩) (ReferenceIdeal.Value.run_blocks m ρ)
  · obtain ⟨t, e⟩ := ReferenceIdeal.Hand.mem7 m c
    refine ((h c).1.trans e).trans ?_
    rw [ReferenceIdeal.Hand.out7, ReferenceIdeal.Hand.iblk0_eq m c t, ReferenceIdeal.Hand.iblk1_eq m c t, ReferenceIdeal.Hand.iblk2_eq m c t, ReferenceIdeal.Hand.iblk3_eq m c t, ReferenceIdeal.Hand.iblk4_eq m c t, ReferenceIdeal.Hand.iblk5_eq m c t, ReferenceIdeal.Hand.V_main_v0 m c]
    exact G7_eq _ _ _ _ _ _
  · obtain ⟨t, e⟩ := ReferenceIdeal.Hand.mem8 m c
    refine ((h c).2.1.trans e).trans ?_
    rw [ReferenceIdeal.Hand.out8, ReferenceIdeal.Hand.iblk0_eq m c t, ReferenceIdeal.Hand.iblk1_eq m c t, ReferenceIdeal.Hand.iblk2_eq m c t, ReferenceIdeal.Hand.iblk3_eq m c t, ReferenceIdeal.Hand.iblk4_eq m c t, ReferenceIdeal.Hand.iblk5_eq m c t, ReferenceIdeal.Hand.V_main_v0 m c]
    exact G8_eq _ _ _ _ _ _
  · obtain ⟨t, e⟩ := ReferenceIdeal.Hand.mem9 m c
    refine ((h c).2.2.1.trans e).trans ?_
    rw [ReferenceIdeal.Hand.out9, ReferenceIdeal.Hand.iblk0_eq m c t, ReferenceIdeal.Hand.iblk1_eq m c t, ReferenceIdeal.Hand.iblk2_eq m c t, ReferenceIdeal.Hand.iblk3_eq m c t, ReferenceIdeal.Hand.iblk4_eq m c t, ReferenceIdeal.Hand.iblk5_eq m c t, ReferenceIdeal.Hand.iblk6_eq m c t, ReferenceIdeal.Hand.V_main_v0 m c]
    exact G9_eq _ _ _ _ _ _ _
  · obtain ⟨t, e⟩ := ReferenceIdeal.Hand.mem10 m c
    refine ((h c).2.2.2.1.trans e).trans ?_
    rw [ReferenceIdeal.Hand.out10]
    exact congrArg ReferenceIdeal.Hand.G10 (ReferenceIdeal.Hand.iblk0_eq m c t)
  · obtain ⟨t, e⟩ := ReferenceIdeal.Hand.mem11 m c
    refine ((h c).2.2.2.2.1.trans e).trans ?_
    rw [ReferenceIdeal.Hand.out11]
    exact congrArg ReferenceIdeal.Hand.G11 (ReferenceIdeal.Hand.iblk0_eq m c t)
  · obtain ⟨t, e⟩ := ReferenceIdeal.Hand.mem12 m c
    refine ((h c).2.2.2.2.2.1.trans e).trans ?_
    rw [ReferenceIdeal.Hand.out12, ReferenceIdeal.Hand.iblk0_eq m c t, ReferenceIdeal.Hand.iblk1_eq m c t, ReferenceIdeal.Hand.iblk2_eq m c t, ReferenceIdeal.Hand.iblk3_eq m c t]
  · obtain ⟨t, e⟩ := ReferenceIdeal.Hand.mem13 m c
    refine ((h c).2.2.2.2.2.2.1.trans e).trans ?_
    rw [ReferenceIdeal.Hand.out13, ReferenceIdeal.Hand.iblk0_eq m c t, ReferenceIdeal.Hand.iblk1_eq m c t, ReferenceIdeal.Hand.iblk2_eq m c t, ReferenceIdeal.Hand.iblk3_eq m c t]

/-- The kernel and the reference leave the same numbers. -/
theorem algebraic : @Cert.algebraic_KernelIdeal_ReferenceIdeal KernelIdeal.Gen.facts ReferenceIdeal.Gen.facts := by
  intro m g m' g' _ hagree
  refine ⟨fun c => KernelIdeal.Hand.GK5 (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (fun v => (m (c.tc.loc KernelIdeal.main_arg5) : Vec Ideal KernelIdeal.S32000 .f32) (ix1 v)),
    fun c => KernelIdeal.Hand.GK6 (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (fun v => (m (c.tc.loc KernelIdeal.main_arg5) : Vec Ideal KernelIdeal.S32000 .f32) (ix1 v)),
    fun c => KernelIdeal.Hand.GK7 (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) (fun v => (m (c.tc.loc KernelIdeal.main_arg5) : Vec Ideal KernelIdeal.S32000 .f32) (ix1 v)) (m (c.tc.loc KernelIdeal.main_arg6)),
    fun c => KernelIdeal.Hand.GK8 (m (c.tc.loc KernelIdeal.main_arg0)), fun c => KernelIdeal.Hand.GK9 (m (c.tc.loc KernelIdeal.main_arg0)),
    fun c => KernelIdeal.Hand.GK10 (m (c.tc.loc KernelIdeal.main_arg0)) (m (c.tc.loc KernelIdeal.main_arg1)) (m (c.tc.loc KernelIdeal.main_arg2)) (m (c.tc.loc KernelIdeal.main_arg3)),
    fun c => KernelIdeal.Hand.GK11 (m (c.tc.loc KernelIdeal.main_arg0)) (m (c.tc.loc KernelIdeal.main_arg1)) (m (c.tc.loc KernelIdeal.main_arg2)) (m (c.tc.loc KernelIdeal.main_arg3)), ?_, ?_⟩
  · refine (θ_run KernelIdeal.defs _ _).mono (fun r h c => ?_) (θ_run_and (kernel_run m g) (KernelIdeal.Hand.frame m g))
    obtain ⟨h5, h6, h7, h8, h9, h10, h11⟩ := h.1 c
    exact ⟨h5, h6, h7, h8, h9, h10, h11, h.2.1 c⟩
  · refine (θ_run ReferenceIdeal.defs _ _).mono (fun r h c => ?_) (θ_run_and (reference_run m' g') (ReferenceIdeal.Gen.frame m' g'))
    obtain ⟨e0, e1, e2, e3, e4, e5, e6⟩ := hagree c
    obtain ⟨h7, h8, h9, h10, h11, h12, h13⟩ := h.1 c
    refine ⟨h7.trans ?_, h8.trans ?_, h9.trans ?_, h10.trans (congrArg ReferenceIdeal.Hand.G10 e0), h11.trans (congrArg ReferenceIdeal.Hand.G11 e0), h12.trans ?_, h13.trans ?_, h.2.1 c⟩
    · rw [e0, e1, e2, e3, e4, e5]
    · rw [e0, e1, e2, e3, e4, e5]
    · rw [e0, e1, e2, e3, e4, e5, e6]
    · rw [e0, e1, e2, e3]; rfl
    · rw [e0, e1, e2, e3]; rfl

end Cert.Proof

end

end
-- ==== Proof.lean ====
module

public import proofs.«01_k».proof.Defs
public import proofs.«01_k».proof.Proof.Frames
public import proofs.«01_k».proof.Proof.FrameBits
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  quiescent_Kernel, quiescent_KernelIdeal, fun m ρ _ => Cert.ReferenceIdeal.Gen.frame m ρ, trivial, algebraic⟩

end Cert.Proof

end
